-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mod [hPre_finite_mod : Cert.Pre_finite_mod.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mod.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mod [hPre_finite_mod : Cert.Pre_finite_mod.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mod.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_mod [hKernel4Ideal : Cert.Kernel4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mod m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_mod [hReference4Ideal : Cert.Reference4Ideal.Facts] [hPre_finite_mod : Cert.Pre_finite_mod.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mod m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v32_0)) (v1 : (c : Dev Cert.Kernel3Ideal.nD) → Buf (Elt Ideal) ((c.tc : Thread Cert.Kernel3Ideal.nD Cert.Kernel3Ideal.τ).loc Cert.Kernel3Ideal.main_v32_1)) (v2 : (c : Dev Cert.Kernel3Ideal.nD) → Buf (Elt Ideal) ((c.tc : Thread Cert.Kernel3Ideal.nD Cert.Kernel3Ideal.τ).loc Cert.Kernel3Ideal.main_v32_2)) (v3 : (c : Dev Cert.Kernel3Ideal.nD) → Buf (Elt Ideal) ((c.tc : Thread Cert.Kernel3Ideal.nD Cert.Kernel3Ideal.τ).loc Cert.Kernel3Ideal.main_v32_3)) (v4 : (c : Dev Cert.Kernel3Ideal.nD) → Buf (Elt Ideal) ((c.tc : Thread Cert.Kernel3Ideal.nD Cert.Kernel3Ideal.τ).loc Cert.Kernel3Ideal.main_v32_4)) (v5 : (c : Dev Cert.Kernel3Ideal.nD) → Buf (Elt Ideal) ((c.tc : Thread Cert.Kernel3Ideal.nD Cert.Kernel3Ideal.τ).loc Cert.Kernel3Ideal.main_v32_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32_0) = v0 c
          ∧ r.2.mem ((c.tc : Thread Cert.Kernel3Ideal.nD Cert.Kernel3Ideal.τ).loc Cert.Kernel3Ideal.main_v32_1) = v1 c
          ∧ r.2.mem ((c.tc : Thread Cert.Kernel3Ideal.nD Cert.Kernel3Ideal.τ).loc Cert.Kernel3Ideal.main_v32_2) = v2 c
          ∧ r.2.mem ((c.tc : Thread Cert.Kernel3Ideal.nD Cert.Kernel3Ideal.τ).loc Cert.Kernel3Ideal.main_v32_3) = v3 c
          ∧ r.2.mem ((c.tc : Thread Cert.Kernel3Ideal.nD Cert.Kernel3Ideal.τ).loc Cert.Kernel3Ideal.main_v32_4) = v4 c
          ∧ r.2.mem ((c.tc : Thread Cert.Kernel3Ideal.nD Cert.Kernel3Ideal.τ).loc Cert.Kernel3Ideal.main_v32_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v111) = v0 c
          ∧ r.2.mem ((c.tc : Thread Cert.Reference3Ideal.nD Cert.Reference3Ideal.τ).loc Cert.Reference3Ideal.main_v112) = v1 c
          ∧ r.2.mem ((c.tc : Thread Cert.Reference3Ideal.nD Cert.Reference3Ideal.τ).loc Cert.Reference3Ideal.main_v113) = v2 c
          ∧ r.2.mem ((c.tc : Thread Cert.Reference3Ideal.nD Cert.Reference3Ideal.τ).loc Cert.Reference3Ideal.main_v116) = v3 c
          ∧ r.2.mem ((c.tc : Thread Cert.Reference3Ideal.nD Cert.Reference3Ideal.τ).loc Cert.Reference3Ideal.main_v118) = v4 c
          ∧ r.2.mem ((c.tc : Thread Cert.Reference3Ideal.nD Cert.Reference3Ideal.τ).loc Cert.Reference3Ideal.main_v121) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_mod [hKernel4Ideal : Cert.Kernel4Ideal.Facts] [hReference4Ideal : Cert.Reference4Ideal.Facts] [hPre_finite_mod : Cert.Pre_finite_mod.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mod m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_mod : Cert.Pre_finite_mod.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mod (hKernel4Ideal := hKernel4Ideal) (hPre_finite_mod := hPre_finite_mod)
    ∧ quiescent_Reference4Ideal (hReference4Ideal := hReference4Ideal)
    ∧ quiescent_Reference4Ideal_pre_finite_mod (hReference4Ideal := hReference4Ideal) (hPre_finite_mod := hPre_finite_mod)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mod (hKernel4Ideal := hKernel4Ideal) (hReference4Ideal := hReference4Ideal) (hPre_finite_mod := hPre_finite_mod)
-- ==== Pre_finite.lean ====
abbrev S8x8192x8x2x64 : Shape := ⟨5, ![8, 8192, 8, 2, 64]⟩
abbrev S8x8192x8x128 : Shape := ⟨4, ![8, 8192, 8, 128]⟩
abbrev S1x1 : Shape := ⟨2, ![1, 1]⟩
abbrev S1x128 : Shape := ⟨2, ![1, 128]⟩
abbrev S_ : Shape := ⟨0, ![]⟩

class Facts : Prop where
  bcast_S_S8x8192x8x2x64 : S_.BroadcastsInDim S8x8192x8x2x64 (![] : Fin 0 → Fin S8x8192x8x2x64.rank)
  reducesTo_S8x8192x8x2x64_S_d0_1_2_3_4 : S8x8192x8x2x64.ReducesTo [0, 1, 2, 3, 4] S_
  h_S_ : 0 < S_.numel
  bcast_S_S8x8192x8x128 : S_.BroadcastsInDim S8x8192x8x128 (![] : Fin 0 → Fin S8x8192x8x128.rank)
  reducesTo_S8x8192x8x128_S_d0_1_2_3 : S8x8192x8x128.ReducesTo [0, 1, 2, 3] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  main_v18

def fn {F : FTy → Type} [FloatOps F] (main_arg0 : FVec F S8x8192x8x2x64 .f32) (main_arg1 : FVec F S8x8192x8x2x64 .f32) (main_arg2 : FVec F S8x8192x8x128 .f32) (main_arg3 : FVec F S1x1 .f32) (main_arg4 : FVec F S1x128 .f32) : IVec S_ 1 :=
  let main_v0 : FVec F S8x8192x8x2x64 .f32 := Host.absf main_arg0
  let main_cst : FVec F S_ .f32 := constant S_ .f32 0x7F800000#32
  let main_v1 : FVec F S8x8192x8x2x64 .f32 := broadcastInDim S8x8192x8x2x64 ![] bcast_S_S8x8192x8x2x64 main_cst
  let main_v2 : IVec S8x8192x8x2x64 1 := cmpf .olt main_v0 main_v1
  let main_c : IVec S_ 1 := constantI S_ 1 1#1
  let main_v3 : IVec S_ 1 := (fun x v => Host.reduce IntOp.andi x v reducesTo_S8x8192x8x2x64_S_d0_1_2_3_4 h_S_) main_v2 main_c
  let main_v4 : FVec F S8x8192x8x2x64 .f32 := Host.absf main_arg1
  let main_cst_0 : FVec F S_ .f32 := constant S_ .f32 0x7F800000#32
  let main_v5 : FVec F S8x8192x8x2x64 .f32 := broadcastInDim S8x8192x8x2x64 ![] bcast_S_S8x8192x8x2x64 main_cst_0
  let main_v6 : IVec S8x8192x8x2x64 1 := cmpf .olt main_v4 main_v5
  let main_c_1 : IVec S_ 1 := constantI S_ 1 1#1
  let main_v7 : IVec S_ 1 := (fun x v => Host.reduce IntOp.andi x v reducesTo_S8x8192x8x2x64_S_d0_1_2_3_4 h_S_) main_v6 main_c_1
  let main_v8 : IVec S_ 1 := andi main_v3 main_v7
  let main_v9 : FVec F S8x8192x8x128 .f32 := Host.absf main_arg2
  let main_cst_2 : FVec F S_ .f32 := constant S_ .f32 0x7F800000#32
  let main_v10 : FVec F S8x8192x8x128 .f32 := broadcastInDim S8x8192x8x128 ![] bcast_S_S8x8192x8x128 main_cst_2
  let main_v11 : IVec S8x8192x8x128 1 := cmpf .olt main_v9 main_v10
  let main_c_3 : IVec S_ 1 := constantI S_ 1 1#1
  let main_v12 : IVec S_ 1 := (fun x v => Host.reduce IntOp.andi x v reducesTo_S8x8192x8x128_S_d0_1_2_3 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_v13 main_v16
-- ==== Pre_finite_mod.lean ====
abbrev S8x1024 : Shape := ⟨2, ![8, 1024]⟩
abbrev S1x1024x6144 : Shape := ⟨3, ![1, 1024, 6144]⟩
abbrev S1x6144 : Shape := ⟨2, ![1, 6144]⟩
abbrev S1x64 : Shape := ⟨2, ![1, 64]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn {F : FTy → Type} [FloatOps F] (main_arg0 : FVec F S8x1024 .f32) (main_arg1 : FVec F S1x1024x6144 .f32) (main_arg2 : FVec F S1x6144 .f32) (main_arg3 : FVec F S1x64 .f32) (main_arg4 : FVec F S1x64 .f32) (main_arg5 : FVec F S1x64 .f32) (main_arg6 : FVec F S1x64 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1x1024x6144 .f32 := Host.absf main_arg1
  let main_cst_0 : FVec F S_ .f32 := constant S_ .f32 0x7F800000#32
  let main_v5 : FVec F S1x1024x6144 .f32 := broadcastInDim S1x1024x6144 ![] bcast_S_S1x1024x6144 main_cst_0
  let main_v6 : IVec S1x1024x6144 1 := cmpf .olt main_v4 main_v5
  let main_c_1 : IVec S_ 1 := constantI S_ 1 1#1
  let main_v7 : IVec S_ 1 := (fun x v => Host.reduce IntOp.andi x v reducesTo_S1x1024x6144_S_d0_1_2 h_S_) main_v6 main_c_1
  let main_v8 : IVec S_ 1 := andi main_v3 main_v7
  main_v8
-- ==== Kernel.lean ====
abbrev S8x8192x8x2x64 : Shape := ⟨5, ![8, 8192, 8, 2, 64]⟩
abbrev S8x8192x8x128 : Shape := ⟨4, ![8, 8192, 8, 128]⟩
abbrev S1x1 : Shape := ⟨2, ![1, 1]⟩
abbrev S1x128 : Shape := ⟨2, ![1, 128]⟩
abbrev S_ : Shape := ⟨0, ![]⟩
abbrev S8x16x512x1024 : Shape := ⟨4, ![8, 16, 512, 1024]⟩
abbrev S8x16x1024x512 : Shape := ⟨4, ![8, 16, 1024, 512]⟩
abbrev S8x8192x1024 : Shape := ⟨3, ![8, 8192, 1024]⟩
abbrev S1x512 : Shape := ⟨2, ![1, 512]⟩
abbrev S128 : Shape := ⟨1, ![128]⟩
abbrev S128x1 : Shape := ⟨2, ![128, 1]⟩
abbrev S128x512 : Shape := ⟨2, ![128, 512]⟩
abbrev S1x16x128x512 : Shape := ⟨4, ![1, 16, 128, 512]⟩
abbrev S1x8192x128 : Shape := ⟨3, ![1, 8192, 128]⟩
abbrev S128x1024 : Shape := ⟨2, ![128, 1024]⟩
abbrev S1x1024 : Shape := ⟨2, ![1, 1024]⟩
abbrev S8x1024 : Shape := ⟨2, ![8, 1024]⟩
abbrev S64x512 : Shape := ⟨2, ![64, 512]⟩
abbrev S1x1x64x512 : Shape := ⟨4, ![1, 1, 64, 512]⟩
abbrev S1x512x128 : Shape := ⟨3, ![1, 512, 128]⟩
abbrev S512x128 : Shape := ⟨2, ![512, 128]⟩
abbrev S512x1024 : Shape := ⟨2, ![512, 1024]⟩
abbrev S64x8x1024 : Shape := ⟨3, ![64, 8, 1024]⟩
abbrev S1x1x128x512 : Shape := ⟨4, ![1, 1, 128, 512]⟩
abbrev S1024 : Shape := ⟨1, ![1024]⟩
abbrev S512 : Shape := ⟨1, ![512]⟩

abbrev nBuf : Space → Nat
  | .hbm => 29
  | .vmem => 14
  | .smem => 0
  | _ => 0

abbrev bufTy : (tb : Table) → Fin (tcTables nBuf tb) → BufTy
  | .hbm, ⟨0, _⟩ => ⟨S8x8192x8x2x64, .f32⟩
  | .hbm, ⟨1, _⟩ => ⟨S8x8192x8x2x64, .f32⟩
  | .hbm, ⟨2, _⟩ => ⟨S8x8192x8x128, .f32⟩
  | .hbm, ⟨3, _⟩ => ⟨S1x1, .f32⟩
  | .hbm, ⟨4, _⟩ => ⟨S1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x8192x8x2x64, .f32⟩
  | .hbm, ⟨12, _⟩ => ⟨S8x8192x8x2x64, .f32⟩
  | .hbm, ⟨13, _⟩ => ⟨S8x16x512x1024, .f32⟩
  | .hbm, ⟨14, _⟩ => ⟨S8x16x1024x512, .f32⟩
  | .hbm, ⟨15, _⟩ => ⟨S8x16x1024x512, .bf16⟩
  | .hbm, ⟨16, _⟩ => ⟨S8x8192x1024, .f32⟩
  | .hbm, ⟨17, _⟩ => ⟨S8x8192x1024, .bf16⟩
  | .hbm, ⟨18, _⟩ => ⟨S8x16x512x1024, .f32⟩
  | .hbm, ⟨19, _⟩ => ⟨S8x16x1024x512, .f32⟩
  | .hbm, ⟨20, _⟩ => ⟨S8x16x1024x512, .bf16⟩
  | .hbm, ⟨21, _⟩ => ⟨S1x512, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128x1, .f32⟩
  | .hbm, ⟨27, _⟩ => ⟨S128x512, .f32⟩
  | .hbm, ⟨28, _⟩ => ⟨S8x16x1024x512, .bf16⟩
  | .local _ .vmem, ⟨0, _⟩ => ⟨S1x512, .f32⟩
  | .local _ .vmem, ⟨1, _⟩ => ⟨S1x16x128x512, .bf16⟩
  | .local _ .vmem, ⟨2, _⟩ => ⟨S1x16x128x512, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x16x128x512, .bf16⟩
  | .local _ .vmem, ⟨6, _⟩ => ⟨S1x16x128x512, .bf16⟩
  | .local _ .vmem, ⟨7, _⟩ => ⟨S128x512, .f32⟩
  | .local _ .vmem, ⟨8, _⟩ => ⟨S1x16x128x512, .bf16⟩
  | .local _ .vmem, ⟨9, _⟩ => ⟨S1x16x128x512, .bf16⟩
  | .local _ .vmem, ⟨10, _⟩ => ⟨S128x1024, .bf16⟩
  | .local _ .vmem, ⟨11, _⟩ => ⟨S1x1024, .f32⟩
  | .local _ .vmem, ⟨12, _⟩ => ⟨S8x1024, .f32⟩
  | .local _ .vmem, ⟨13, _⟩ => ⟨S128x1024, .f32⟩
  | _, _ => ⟨S8x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0 : Index := 0#32
  let c0_i32 : BitVec 32 := 0#32
  let c1_i32 : BitVec 32 := 1#32
  let arg12 : BitVec 32 := Scf.iv c0_i32 c1_i32 k0_t1
  let v2 : Index := Scalar.indexCast arg12
  let c0_1 : Index := 0#32
  let c0_2 : Index := 0#32
  ![0, v2.toNat, 0, 0]
def k0_off2 (k0_t1 : Fin k0_t1_loop.trips) : Fin 4 → Nat :=
  let c0_7 : Index := 0#32
  let c0_i32 : BitVec 32 := 0#32
  let c1_i32 : BitVec 32 := 1#32
  let arg12 : BitVec 32 := Scf.iv c0_i32 c1_i32 k0_t1
  let v14 : Index := Scalar.indexCast arg12
  let c64_8 : Index := 64#32
  let c0_9 : Index := 0#32
  ![0, v14.toNat, 64, 0]
@[reducible] def k0_t2_loop (k0_t1 : Fin k0_t1_loop.trips) : Scf.Loop 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_22 : BitVec 32 := 1#32
  ⟨c0_i32_20, v34, c1_i32_22⟩
def k0_mult1 (k0_t1 : Fin k0_t1_loop.trips) (k0_t2 : Fin (k0_t2_loop k0_t1).trips) : BitVec 32 :=
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let c0_i32_53 : BitVec 32 := 0#32
  let v95 : BitVec 32 := Scalar.addi v94 c0_i32_53
  let c512_i32 : BitVec 32 := 512#32
  let v96 : BitVec 32 := Scalar.muli v95 c512_i32
  v96
def k0_off3 (k0_t1 : Fin k0_t1_loop.trips) (k0_t2 : Fin (k0_t2_loop k0_t1).trips) (c0_i32_53 : BitVec 32) : Fin 3 → Nat :=
  let c0_54 : Index := 0#32
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off4 (k0_t1 : Fin k0_t1_loop.trips) (k0_t2 : Fin (k0_t2_loop k0_t1).trips) (c0_i32_60 : BitVec 32) : Fin 4 → Nat :=
  let c0_61 : Index := 0#32
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let v106 : BitVec 32 := Scalar.addi v94 c0_i32_60
  let v107 : Index := Scalar.indexCast v106
  let c0_62 : Index := 0#32
  let c0_63 : Index := 0#32
  ![0, v107.toNat, 0, 0]
def k0_mult2 (k0_t1 : Fin k0_t1_loop.trips) (k0_t2 : Fin (k0_t2_loop k0_t1).trips) : BitVec 32 :=
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_mult3 (k0_t1 : Fin k0_t1_loop.trips) (k0_t2 : Fin (k0_t2_loop k0_t1).trips) : BitVec 32 :=
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let c2_i32_78 : BitVec 32 := 2#32
  let v131 : BitVec 32 := Scalar.addi v94 c2_i32_78
  let c512_i32_79 : BitVec 32 := 512#32
  let v132 : BitVec 32 := Scalar.muli v131 c512_i32_79
  v132
def k0_mult4 (k0_t1 : Fin k0_t1_loop.trips) (k0_t2 : Fin (k0_t2_loop k0_t1).trips) : BitVec 32 :=
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let c3_i32_91 : BitVec 32 := 3#32
  let v150 : BitVec 32 := Scalar.addi v94 c3_i32_91
  let c512_i32_92 : BitVec 32 := 512#32
  let v151 : BitVec 32 := Scalar.muli v150 c512_i32_92
  v151
def k0_mult5 (k0_t1 : Fin k0_t1_loop.trips) (k0_t2 : Fin (k0_t2_loop k0_t1).trips) : BitVec 32 :=
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let c4_i32_104 : BitVec 32 := 4#32
  let v169 : BitVec 32 := Scalar.addi v94 c4_i32_104
  let c512_i32_105 : BitVec 32 := 512#32
  let v170 : BitVec 32 := Scalar.muli v169 c512_i32_105
  v170
def k0_mult6 (k0_t1 : Fin k0_t1_loop.trips) (k0_t2 : Fin (k0_t2_loop k0_t1).trips) : BitVec 32 :=
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let c5_i32_117 : BitVec 32 := 5#32
  let v188 : BitVec 32 := Scalar.addi v94 c5_i32_117
  let c512_i32_118 : BitVec 32 := 512#32
  let v189 : BitVec 32 := Scalar.muli v188 c512_i32_118
  v189
def k0_mult7 (k0_t1 : Fin k0_t1_loop.trips) (k0_t2 : Fin (k0_t2_loop k0_t1).trips) : BitVec 32 :=
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let c6_i32_130 : BitVec 32 := 6#32
  let v207 : BitVec 32 := Scalar.addi v94 c6_i32_130
  let c512_i32_131 : BitVec 32 := 512#32
  let v208 : BitVec 32 := Scalar.muli v207 c512_i32_131
  v208
def k0_mult8 (k0_t1 : Fin k0_t1_loop.trips) (k0_t2 : Fin (k0_t2_loop k0_t1).trips) : BitVec 32 :=
  let c0_i32_20 : BitVec 32 := 0#32
  let c1_i32_22 : BitVec 32 := 1#32
  let arg13 : BitVec 32 := Scf.iv c0_i32_20 c1_i32_22 k0_t2
  let c8_i32_52 : BitVec 32 := 8#32
  let v94 : BitVec 32 := Scalar.muli arg13 c8_i32_52
  let c7_i32_143 : BitVec 32 := 7#32
  let v226 : BitVec 32 := Scalar.addi v94 c7_i32_143
  let c512_i32_144 : BitVec 32 := 512#32
  let v227 : BitVec 32 := Scalar.muli v226 c512_i32_144
  v227
@[reducible] def k0_t3_loop (k0_t1 : Fin k0_t1_loop.trips) : Scf.Loop 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let v31 : BitVec 32 := Scalar.addi c0_i32_20 v30
  let c1_i32_23 : BitVec 32 := 1#32
  ⟨v34, v31, c1_i32_23⟩
def k0_mult9 (k0_t1 : Fin k0_t1_loop.trips) (k0_t3 : Fin (k0_t3_loop k0_t1).trips) : BitVec 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let c0_i32_53 : BitVec 32 := 0#32
  let v95 : BitVec 32 := Scalar.addi v94 c0_i32_53
  let c512_i32 : BitVec 32 := 512#32
  let v96 : BitVec 32 := Scalar.muli v95 c512_i32
  v96
def k0_off5 (k0_t1 : Fin k0_t1_loop.trips) (k0_t3 : Fin (k0_t3_loop k0_t1).trips) (c0_i32_53 : BitVec 32) : Fin 3 → Nat :=
  let c0_54 : Index := 0#32
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off6 (k0_t1 : Fin k0_t1_loop.trips) (k0_t3 : Fin (k0_t3_loop k0_t1).trips) (c0_i32_60 : BitVec 32) : Fin 4 → Nat :=
  let c0_61 : Index := 0#32
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let v106 : BitVec 32 := Scalar.addi v94 c0_i32_60
  let v107 : Index := Scalar.indexCast v106
  let c0_62 : Index := 0#32
  let c0_63 : Index := 0#32
  ![0, v107.toNat, 0, 0]
def k0_mult10 (k0_t1 : Fin k0_t1_loop.trips) (k0_t3 : Fin (k0_t3_loop k0_t1).trips) : BitVec 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_mult11 (k0_t1 : Fin k0_t1_loop.trips) (k0_t3 : Fin (k0_t3_loop k0_t1).trips) : BitVec 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let c2_i32_78 : BitVec 32 := 2#32
  let v131 : BitVec 32 := Scalar.addi v94 c2_i32_78
  let c512_i32_79 : BitVec 32 := 512#32
  let v132 : BitVec 32 := Scalar.muli v131 c512_i32_79
  v132
def k0_mult12 (k0_t1 : Fin k0_t1_loop.trips) (k0_t3 : Fin (k0_t3_loop k0_t1).trips) : BitVec 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let c3_i32_91 : BitVec 32 := 3#32
  let v150 : BitVec 32 := Scalar.addi v94 c3_i32_91
  let c512_i32_92 : BitVec 32 := 512#32
  let v151 : BitVec 32 := Scalar.muli v150 c512_i32_92
  v151
def k0_mult13 (k0_t1 : Fin k0_t1_loop.trips) (k0_t3 : Fin (k0_t3_loop k0_t1).trips) : BitVec 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let c4_i32_104 : BitVec 32 := 4#32
  let v169 : BitVec 32 := Scalar.addi v94 c4_i32_104
  let c512_i32_105 : BitVec 32 := 512#32
  let v170 : BitVec 32 := Scalar.muli v169 c512_i32_105
  v170
def k0_mult14 (k0_t1 : Fin k0_t1_loop.trips) (k0_t3 : Fin (k0_t3_loop k0_t1).trips) : BitVec 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let c5_i32_117 : BitVec 32 := 5#32
  let v188 : BitVec 32 := Scalar.addi v94 c5_i32_117
  let c512_i32_118 : BitVec 32 := 512#32
  let v189 : BitVec 32 := Scalar.muli v188 c512_i32_118
  v189
def k0_mult15 (k0_t1 : Fin k0_t1_loop.trips) (k0_t3 : Fin (k0_t3_loop k0_t1).trips) : BitVec 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let c6_i32_130 : BitVec 32 := 6#32
  let v207 : BitVec 32 := Scalar.addi v94 c6_i32_130
  let c512_i32_131 : BitVec 32 := 512#32
  let v208 : BitVec 32 := Scalar.muli v207 c512_i32_131
  v208
def k0_mult16 (k0_t1 : Fin k0_t1_loop.trips) (k0_t3 : Fin (k0_t3_loop k0_t1).trips) : BitVec 32 :=
  let c0_i32_20 : BitVec 32 := 0#32
  let c0_i32 : BitVec 32 := 0#32
  let c1_i32 : BitVec 32 := 1#32
  let arg12 : BitVec 32 := Scf.iv c0_i32 c1_i32 k0_t1
  let c8_i32_18 : BitVec 32 := 8#32
  let v29 : BitVec 32 := Scalar.divsi arg12 c8_i32_18
  let v30 : BitVec 32 := Scalar.subi v29 c0_i32_20
  let c1_i32_21 : BitVec 32 := 1#32
  let v32 : BitVec 32 := Scalar.divsi v30 c1_i32_21
  let v33 : BitVec 32 := Scalar.muli v32 c1_i32_21
  let v34 : BitVec 32 := Scalar.addi c0_i32_20 v33
  let c1_i32_23 : BitVec 32 := 1#32
  let arg13 : BitVec 32 := Scf.iv v34 c1_i32_23 k0_t3
  let c8_i32_52 : BitVec 32 := 8#32
  let v94 : BitVec 32 := Scalar.muli arg13 c8_i32_52
  let c7_i32_143 : BitVec 32 := 7#32
  let v226 : BitVec 32 := Scalar.addi v94 c7_i32_143
  let c512_i32_144 : BitVec 32 := 512#32
  let v227 : BitVec 32 := Scalar.muli v226 c512_i32_144
  v227
def k0_cond1 (k0_t1 : Fin k0_t1_loop.trips) : BitVec 1 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.remsi arg12 c8_i32
  let c0_i32_24 : BitVec 32 := 0#32
  let v35 : BitVec 1 := Scalar.cmpi .eq v28 c0_i32_24
  let v36 : BitVec 32 := Scalar.extui v35
  let c0_i32_25 : BitVec 32 := 0#32
  let v37 : BitVec 1 := Scalar.cmpi .ne v36 c0_i32_25
  v37

def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c0_i32_52 : BitVec 32 := 0#32
  let v94 : BitVec 32 := Scalar.subi arg12 c0_i32_52
  let c0_i32_53 : BitVec 32 := 0#32
  let v95 : BitVec 32 := Scalar.addi v94 c0_i32_53
  let c512_i32 : BitVec 32 := 512#32
  let v96 : BitVec 32 := Scalar.muli v95 c512_i32
  v96
def k0_off7 (k0_t1 : Fin k0_t1_loop.trips) : Fin 3 → Nat :=
  let c0_54 : Index := 0#32
  let c0_i32 : BitVec 32 := 0#32
  let c1_i32 : BitVec 32 := 1#32
  let arg12 : BitVec 32 := Scf.iv c0_i32 c1_i32 k0_t1
  let c0_i32_52 : BitVec 32 := 0#32
  let v94 : BitVec 32 := Scalar.subi arg12 c0_i32_52
  let c0_i32_53 : BitVec 32 := 0#32
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off8 (k0_t1 : Fin k0_t1_loop.trips) : Fin 4 → Nat :=
  let c0_64 : Index := 0#32
  let c0_i32 : BitVec 32 := 0#32
  let c1_i32 : BitVec 32 := 1#32
  let arg12 : BitVec 32 := Scf.iv c0_i32 c1_i32 k0_t1
  let c0_i32_52 : BitVec 32 := 0#32
  let v94 : BitVec 32 := Scalar.subi arg12 c0_i32_52
  let c0_i32_63 : BitVec 32 := 0#32
  let v116 : BitVec 32 := Scalar.addi v94 c0_i32_63
  let v117 : Index := Scalar.indexCast v116
  let c0_65 : Index := 0#32
  let c0_66 : Index := 0#32
  ![0, v117.toNat, 0, 0]
def k0_cond2 (k0_t1 : Fin k0_t1_loop.trips) : BitVec 1 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.remsi arg12 c8_i32
  let c1_i32_26 : BitVec 32 := 1#32
  let v38 : BitVec 1 := Scalar.cmpi .eq v28 c1_i32_26
  let v39 : BitVec 32 := Scalar.extui v38
  let c0_i32_27 : BitVec 32 := 0#32
  let v40 : BitVec 1 := Scalar.cmpi .ne v39 c0_i32_27
  v40

def k0_mult18 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_52 : BitVec 32 := 1#32
  let v94 : BitVec 32 := Scalar.subi arg12 c1_i32_52
  let c0_i32_53 : BitVec 32 := 0#32
  let v95 : BitVec 32 := Scalar.addi v94 c0_i32_53
  let c512_i32 : BitVec 32 := 512#32
  let v96 : BitVec 32 := Scalar.muli v95 c512_i32
  v96
def k0_off9 (k0_t1 : Fin k0_t1_loop.trips) (c0_i32_53 : BitVec 32) : Fin 3 → Nat :=
  let c0_54 : Index := 0#32
  let c0_i32 : BitVec 32 := 0#32
  let c1_i32 : BitVec 32 := 1#32
  let arg12 : BitVec 32 := Scf.iv c0_i32 c1_i32 k0_t1
  let c1_i32_52 : BitVec 32 := 1#32
  let v94 : BitVec 32 := Scalar.subi arg12 c1_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off10 (k0_t1 : Fin k0_t1_loop.trips) (c0_i32_60 : BitVec 32) : Fin 4 → Nat :=
  let c0_61 : Index := 0#32
  let c0_i32 : BitVec 32 := 0#32
  let c1_i32 : BitVec 32 := 1#32
  let arg12 : BitVec 32 := Scf.iv c0_i32 c1_i32 k0_t1
  let c1_i32_52 : BitVec 32 := 1#32
  let v94 : BitVec 32 := Scalar.subi arg12 c1_i32_52
  let v106 : BitVec 32 := Scalar.addi v94 c0_i32_60
  let v107 : Index := Scalar.indexCast v106
  let c0_62 : Index := 0#32
  let c0_63 : Index := 0#32
  ![0, v107.toNat, 0, 0]
def k0_mult19 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_52 : BitVec 32 := 1#32
  let v94 : BitVec 32 := Scalar.subi arg12 c1_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_cond3 (k0_t1 : Fin k0_t1_loop.trips) : BitVec 1 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.remsi arg12 c8_i32
  let c2_i32 : BitVec 32 := 2#32
  let v41 : BitVec 1 := Scalar.cmpi .eq v28 c2_i32
  let v42 : BitVec 32 := Scalar.extui v41
  let c0_i32_28 : BitVec 32 := 0#32
  let v43 : BitVec 1 := Scalar.cmpi .ne v42 c0_i32_28
  v43

def k0_mult20 (k0_t1 : Fin k0_t1_loop.trips) : BitVec 32 :=
  let c0_i32 : BitVec 32 := 0#32
  let c1_i32 : BitVec 32 := 1#32
  let arg12 : BitVec 32 := Scf.iv c0_i32 c1_i32 k0_t1
  let c2_i32_52 : BitVec 32 := 2#32
  let v94 : BitVec 32 := Scalar.subi arg12 c2_i32_52
  let c0_i32_53 : BitVec 32 := 0#32
  let v95 : BitVec 32 := Scalar.addi v94 c0_i32_53
  let c512_i32 : BitVec 32 := 512#32
  let v96 : BitVec 32 := Scalar.muli v95 c512_i32
  v96
def k0_off11 (k0_t1 : Fin k0_t1_loop.trips) (c0_i32_53 : BitVec 32) : Fin 3 → Nat :=
  let c0_54 : Index := 0#32
  let c0_i32 : BitVec 32 := 0#32
  let c1_i32 : BitVec 32 := 1#32
  let arg12 : BitVec 32 := Scf.iv c0_i32 c1_i32 k0_t1
  let c2_i32_52 : BitVec 32 := 2#32
  let v94 : BitVec 32 := Scalar.subi arg12 c2_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off12 (k0_t1 : Fin k0_t1_loop.trips) (c0_i32_60 : BitVec 32) : Fin 4 → Nat :=
  let c0_61 : Index := 0#32
  let c0_i32 : BitVec 32 := 0#32
  let c1_i32 : BitVec 32 := 1#32
  let arg12 : BitVec 32 := Scf.iv c0_i32 c1_i32 k0_t1
  let c2_i32_52 : BitVec 32 := 2#32
  let v94 : BitVec 32 := Scalar.subi arg12 c2_i32_52
  let v106 : BitVec 32 := Scalar.addi v94 c0_i32_60
  let v107 : Index := Scalar.indexCast v106
  let c0_62 : Index := 0#32
  let c0_63 : Index := 0#32
  ![0, v107.toNat, 0, 0]
def k0_mult21 (k0_t1 : Fin k0_t1_loop.trips) : BitVec 32 :=
  let c0_i32 : BitVec 32 := 0#32
  let c1_i32 : BitVec 32 := 1#32
  let arg12 : BitVec 32 := Scf.iv c0_i32 c1_i32 k0_t1
  let c2_i32_52 : BitVec 32 := 2#32
  let v94 : BitVec 32 := Scalar.subi arg12 c2_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_mult22 (k0_t1 : Fin k0_t1_loop.trips) : BitVec 32 :=
  let c0_i32 : BitVec 32 := 0#32
  let c1_i32 : BitVec 32 := 1#32
  let arg12 : BitVec 32 := Scf.iv c0_i32 c1_i32 k0_t1
  let c2_i32_52 : BitVec 32 := 2#32
  let v94 : BitVec 32 := Scalar.subi arg12 c2_i32_52
  let c2_i32_78 : BitVec 32 := 2#32
  let v131 : BitVec 32 := Scalar.addi v94 c2_i32_78
  let c512_i32_79 : BitVec 32 := 512#32
  let v132 : BitVec 32 := Scalar.muli v131 c512_i32_79
  v132
def k0_cond4 (k0_t1 : Fin k0_t1_loop.trips) : BitVec 1 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.remsi arg12 c8_i32
  let c3_i32 : BitVec 32 := 3#32
  let v44 : BitVec 1 := Scalar.cmpi .eq v28 c3_i32
  let v45 : BitVec 32 := Scalar.extui v44
  let c0_i32_29 : BitVec 32 := 0#32
  let v46 : BitVec 1 := Scalar.cmpi .ne v45 c0_i32_29
  v46

def k0_mult23 (k0_t1 : Fin k0_t1_loop.trips) : BitVec 32 :=
  let c0_i32 : BitVec 32 := 0#32
  let c1_i32 : BitVec 32 := 1#32
  let arg12 : BitVec 32 := Scf.iv c0_i32 c1_i32 k0_t1
  let c3_i32_52 : BitVec 32 := 3#32
  let v94 : BitVec 32 := Scalar.subi arg12 c3_i32_52
  let c0_i32_53 : BitVec 32 := 0#32
  let v95 : BitVec 32 := Scalar.addi v94 c0_i32_53
  let c512_i32 : BitVec 32 := 512#32
  let v96 : BitVec 32 := Scalar.muli v95 c512_i32
  v96
def k0_off13 (k0_t1 : Fin k0_t1_loop.trips) (c0_i32_53 : BitVec 32) : Fin 3 → Nat :=
  let c0_54 : Index := 0#32
  let c0_i32 : BitVec 32 := 0#32
  let c1_i32 : BitVec 32 := 1#32
  let arg12 : BitVec 32 := Scf.iv c0_i32 c1_i32 k0_t1
  let c3_i32_52 : BitVec 32 := 3#32
  let v94 : BitVec 32 := Scalar.subi arg12 c3_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off14 (k0_t1 : Fin k0_t1_loop.trips) (c0_i32_60 : BitVec 32) : Fin 4 → Nat :=
  let c0_61 : Index := 0#32
  let c0_i32 : BitVec 32 := 0#32
  let c1_i32 : BitVec 32 := 1#32
  let arg12 : BitVec 32 := Scf.iv c0_i32 c1_i32 k0_t1
  let c3_i32_52 : BitVec 32 := 3#32
  let v94 : BitVec 32 := Scalar.subi arg12 c3_i32_52
  let v106 : BitVec 32 := Scalar.addi v94 c0_i32_60
  let v107 : Index := Scalar.indexCast v106
  let c0_62 : Index := 0#32
  let c0_63 : Index := 0#32
  ![0, v107.toNat, 0, 0]
def k0_mult24 (k0_t1 : Fin k0_t1_loop.trips) : BitVec 32 :=
  let c0_i32 : BitVec 32 := 0#32
  let c1_i32 : BitVec 32 := 1#32
  let arg12 : BitVec 32 := Scf.iv c0_i32 c1_i32 k0_t1
  let c3_i32_52 : BitVec 32 := 3#32
  let v94 : BitVec 32 := Scalar.subi arg12 c3_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_mult25 (k0_t1 : Fin k0_t1_loop.trips) : BitVec 32 :=
  let c0_i32 : BitVec 32 := 0#32
  let c1_i32 : BitVec 32 := 1#32
  let arg12 : BitVec 32 := Scf.iv c0_i32 c1_i32 k0_t1
  let c3_i32_52 : BitVec 32 := 3#32
  let v94 : BitVec 32 := Scalar.subi arg12 c3_i32_52
  let c2_i32_78 : BitVec 32 := 2#32
  let v131 : BitVec 32 := Scalar.addi v94 c2_i32_78
  let c512_i32_79 : BitVec 32 := 512#32
  let v132 : BitVec 32 := Scalar.muli v131 c512_i32_79
  v132
def k0_mult26 (k0_t1 : Fin k0_t1_loop.trips) : BitVec 32 :=
  let c0_i32 : BitVec 32 := 0#32
  let c1_i32 : BitVec 32 := 1#32
  let arg12 : BitVec 32 := Scf.iv c0_i32 c1_i32 k0_t1
  let c3_i32_52 : BitVec 32 := 3#32
  let v94 : BitVec 32 := Scalar.subi arg12 c3_i32_52
  let c3_i32_91 : BitVec 32 := 3#32
  let v150 : BitVec 32 := Scalar.addi v94 c3_i32_91
  let c512_i32_92 : BitVec 32 := 512#32
  let v151 : BitVec 32 := Scalar.muli v150 c512_i32_92
  v151
def k0_cond5 (k0_t1 : Fin k0_t1_loop.trips) : BitVec 1 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.remsi arg12 c8_i32
  let c4_i32 : BitVec 32 := 4#32
  let v47 : BitVec 1 := Scalar.cmpi .eq v28 c4_i32
  let v48 : BitVec 32 := Scalar.extui v47
  let c0_i32_30 : BitVec 32 := 0#32
  let v49 : BitVec 1 := Scalar.cmpi .ne v48 c0_i32_30
  v49

def k0_mult27 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_52 : BitVec 32 := 4#32
  let v94 : BitVec 32 := Scalar.subi arg12 c4_i32_52
  let c0_i32_53 : BitVec 32 := 0#32
  let v95 : BitVec 32 := Scalar.addi v94 c0_i32_53
  let c512_i32 : BitVec 32 := 512#32
  let v96 : BitVec 32 := Scalar.muli v95 c512_i32
  v96
def k0_off15 (k0_t1 : Fin k0_t1_loop.trips) (c0_i32_53 : BitVec 32) : Fin 3 → Nat :=
  let c0_54 : Index := 0#32
  let c0_i32 : BitVec 32 := 0#32
  let c1_i32 : BitVec 32 := 1#32
  let arg12 : BitVec 32 := Scf.iv c0_i32 c1_i32 k0_t1
  let c4_i32_52 : BitVec 32 := 4#32
  let v94 : BitVec 32 := Scalar.subi arg12 c4_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off16 (k0_t1 : Fin k0_t1_loop.trips) (c0_i32_60 : BitVec 32) : Fin 4 → Nat :=
  let c0_61 : Index := 0#32
  let c0_i32 : BitVec 32 := 0#32
  let c1_i32 : BitVec 32 := 1#32
  let arg12 : BitVec 32 := Scf.iv c0_i32 c1_i32 k0_t1
  let c4_i32_52 : BitVec 32 := 4#32
  let v94 : BitVec 32 := Scalar.subi arg12 c4_i32_52
  let v106 : BitVec 32 := Scalar.addi v94 c0_i32_60
  let v107 : Index := Scalar.indexCast v106
  let c0_62 : Index := 0#32
  let c0_63 : Index := 0#32
  ![0, v107.toNat, 0, 0]
def k0_mult28 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_52 : BitVec 32 := 4#32
  let v94 : BitVec 32 := Scalar.subi arg12 c4_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_mult29 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_52 : BitVec 32 := 4#32
  let v94 : BitVec 32 := Scalar.subi arg12 c4_i32_52
  let c2_i32_78 : BitVec 32 := 2#32
  let v131 : BitVec 32 := Scalar.addi v94 c2_i32_78
  let c512_i32_79 : BitVec 32 := 512#32
  let v132 : BitVec 32 := Scalar.muli v131 c512_i32_79
  v132
def k0_mult30 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_52 : BitVec 32 := 4#32
  let v94 : BitVec 32 := Scalar.subi arg12 c4_i32_52
  let c3_i32_91 : BitVec 32 := 3#32
  let v150 : BitVec 32 := Scalar.addi v94 c3_i32_91
  let c512_i32_92 : BitVec 32 := 512#32
  let v151 : BitVec 32 := Scalar.muli v150 c512_i32_92
  v151
def k0_mult31 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32_52 : BitVec 32 := 4#32
  let v94 : BitVec 32 := Scalar.subi arg12 c4_i32_52
  let c4_i32_104 : BitVec 32 := 4#32
  let v169 : BitVec 32 := Scalar.addi v94 c4_i32_104
  let c512_i32_105 : BitVec 32 := 512#32
  let v170 : BitVec 32 := Scalar.muli v169 c512_i32_105
  v170
def k0_cond6 (k0_t1 : Fin k0_t1_loop.trips) : BitVec 1 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.remsi arg12 c8_i32
  let c5_i32 : BitVec 32 := 5#32
  let v50 : BitVec 1 := Scalar.cmpi .eq v28 c5_i32
  let v51 : BitVec 32 := Scalar.extui v50
  let c0_i32_31 : BitVec 32 := 0#32
  let v52 : BitVec 1 := Scalar.cmpi .ne v51 c0_i32_31
  v52

def k0_mult32 (k0_t1 : Fin k0_t1_loop.trips) : BitVec 32 :=
  let c0_i32 : BitVec 32 := 0#32
  let c1_i32 : BitVec 32 := 1#32
  let arg12 : BitVec 32 := Scf.iv c0_i32 c1_i32 k0_t1
  let c5_i32_52 : BitVec 32 := 5#32
  let v94 : BitVec 32 := Scalar.subi arg12 c5_i32_52
  let c0_i32_53 : BitVec 32 := 0#32
  let v95 : BitVec 32 := Scalar.addi v94 c0_i32_53
  let c512_i32 : BitVec 32 := 512#32
  let v96 : BitVec 32 := Scalar.muli v95 c512_i32
  v96
def k0_off17 (k0_t1 : Fin k0_t1_loop.trips) (c0_i32_53 : BitVec 32) : Fin 3 → Nat :=
  let c0_54 : Index := 0#32
  let c0_i32 : BitVec 32 := 0#32
  let c1_i32 : BitVec 32 := 1#32
  let arg12 : BitVec 32 := Scf.iv c0_i32 c1_i32 k0_t1
  let c5_i32_52 : BitVec 32 := 5#32
  let v94 : BitVec 32 := Scalar.subi arg12 c5_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off18 (k0_t1 : Fin k0_t1_loop.trips) (c0_i32_60 : BitVec 32) : Fin 4 → Nat :=
  let c0_61 : Index := 0#32
  let c0_i32 : BitVec 32 := 0#32
  let c1_i32 : BitVec 32 := 1#32
  let arg12 : BitVec 32 := Scf.iv c0_i32 c1_i32 k0_t1
  let c5_i32_52 : BitVec 32 := 5#32
  let v94 : BitVec 32 := Scalar.subi arg12 c5_i32_52
  let v106 : BitVec 32 := Scalar.addi v94 c0_i32_60
  let v107 : Index := Scalar.indexCast v106
  let c0_62 : Index := 0#32
  let c0_63 : Index := 0#32
  ![0, v107.toNat, 0, 0]
def k0_mult33 (k0_t1 : Fin k0_t1_loop.trips) : BitVec 32 :=
  let c0_i32 : BitVec 32 := 0#32
  let c1_i32 : BitVec 32 := 1#32
  let arg12 : BitVec 32 := Scf.iv c0_i32 c1_i32 k0_t1
  let c5_i32_52 : BitVec 32 := 5#32
  let v94 : BitVec 32 := Scalar.subi arg12 c5_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_mult34 (k0_t1 : Fin k0_t1_loop.trips) : BitVec 32 :=
  let c0_i32 : BitVec 32 := 0#32
  let c1_i32 : BitVec 32 := 1#32
  let arg12 : BitVec 32 := Scf.iv c0_i32 c1_i32 k0_t1
  let c5_i32_52 : BitVec 32 := 5#32
  let v94 : BitVec 32 := Scalar.subi arg12 c5_i32_52
  let c2_i32_78 : BitVec 32 := 2#32
  let v131 : BitVec 32 := Scalar.addi v94 c2_i32_78
  let c512_i32_79 : BitVec 32 := 512#32
  let v132 : BitVec 32 := Scalar.muli v131 c512_i32_79
  v132
def k0_mult35 (k0_t1 : Fin k0_t1_loop.trips) : BitVec 32 :=
  let c0_i32 : BitVec 32 := 0#32
  let c1_i32 : BitVec 32 := 1#32
  let arg12 : BitVec 32 := Scf.iv c0_i32 c1_i32 k0_t1
  let c5_i32_52 : BitVec 32 := 5#32
  let v94 : BitVec 32 := Scalar.subi arg12 c5_i32_52
  let c3_i32_91 : BitVec 32 := 3#32
  let v150 : BitVec 32 := Scalar.addi v94 c3_i32_91
  let c512_i32_92 : BitVec 32 := 512#32
  let v151 : BitVec 32 := Scalar.muli v150 c512_i32_92
  v151
def k0_mult36 (k0_t1 : Fin k0_t1_loop.trips) : BitVec 32 :=
  let c0_i32 : BitVec 32 := 0#32
  let c1_i32 : BitVec 32 := 1#32
  let arg12 : BitVec 32 := Scf.iv c0_i32 c1_i32 k0_t1
  let c5_i32_52 : BitVec 32 := 5#32
  let v94 : BitVec 32 := Scalar.subi arg12 c5_i32_52
  let c4_i32_104 : BitVec 32 := 4#32
  let v169 : BitVec 32 := Scalar.addi v94 c4_i32_104
  let c512_i32_105 : BitVec 32 := 512#32
  let v170 : BitVec 32 := Scalar.muli v169 c512_i32_105
  v170
def k0_mult37 (k0_t1 : Fin k0_t1_loop.trips) : BitVec 32 :=
  let c0_i32 : BitVec 32 := 0#32
  let c1_i32 : BitVec 32 := 1#32
  let arg12 : BitVec 32 := Scf.iv c0_i32 c1_i32 k0_t1
  let c5_i32_52 : BitVec 32 := 5#32
  let v94 : BitVec 32 := Scalar.subi arg12 c5_i32_52
  let c5_i32_117 : BitVec 32 := 5#32
  let v188 : BitVec 32 := Scalar.addi v94 c5_i32_117
  let c512_i32_118 : BitVec 32 := 512#32
  let v189 : BitVec 32 := Scalar.muli v188 c512_i32_118
  v189
def k0_cond7 (k0_t1 : Fin k0_t1_loop.trips) : BitVec 1 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.remsi arg12 c8_i32
  let c6_i32 : BitVec 32 := 6#32
  let v53 : BitVec 1 := Scalar.cmpi .eq v28 c6_i32
  let v54 : BitVec 32 := Scalar.extui v53
  let c0_i32_32 : BitVec 32 := 0#32
  let v55 : BitVec 1 := Scalar.cmpi .ne v54 c0_i32_32
  v55

def k0_mult38 (k0_t1 : Fin k0_t1_loop.trips) : BitVec 32 :=
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let c0_i32_53 : BitVec 32 := 0#32
  let v95 : BitVec 32 := Scalar.addi v94 c0_i32_53
  let c512_i32 : BitVec 32 := 512#32
  let v96 : BitVec 32 := Scalar.muli v95 c512_i32
  v96
def k0_off19 (k0_t1 : Fin k0_t1_loop.trips) (c0_i32_53 : BitVec 32) : Fin 3 → Nat :=
  let c0_54 : Index := 0#32
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off20 (k0_t1 : Fin k0_t1_loop.trips) (c0_i32_60 : BitVec 32) : Fin 4 → Nat :=
  let c0_61 : Index := 0#32
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let v106 : BitVec 32 := Scalar.addi v94 c0_i32_60
  let v107 : Index := Scalar.indexCast v106
  let c0_62 : Index := 0#32
  let c0_63 : Index := 0#32
  ![0, v107.toNat, 0, 0]
def k0_mult39 (k0_t1 : Fin k0_t1_loop.trips) : BitVec 32 :=
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_mult40 (k0_t1 : Fin k0_t1_loop.trips) : BitVec 32 :=
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let c2_i32_78 : BitVec 32 := 2#32
  let v131 : BitVec 32 := Scalar.addi v94 c2_i32_78
  let c512_i32_79 : BitVec 32 := 512#32
  let v132 : BitVec 32 := Scalar.muli v131 c512_i32_79
  v132
def k0_mult41 (k0_t1 : Fin k0_t1_loop.trips) : BitVec 32 :=
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let c3_i32_91 : BitVec 32 := 3#32
  let v150 : BitVec 32 := Scalar.addi v94 c3_i32_91
  let c512_i32_92 : BitVec 32 := 512#32
  let v151 : BitVec 32 := Scalar.muli v150 c512_i32_92
  v151
def k0_mult42 (k0_t1 : Fin k0_t1_loop.trips) : BitVec 32 :=
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let c4_i32_104 : BitVec 32 := 4#32
  let v169 : BitVec 32 := Scalar.addi v94 c4_i32_104
  let c512_i32_105 : BitVec 32 := 512#32
  let v170 : BitVec 32 := Scalar.muli v169 c512_i32_105
  v170
def k0_mult43 (k0_t1 : Fin k0_t1_loop.trips) : BitVec 32 :=
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let c5_i32_117 : BitVec 32 := 5#32
  let v188 : BitVec 32 := Scalar.addi v94 c5_i32_117
  let c512_i32_118 : BitVec 32 := 512#32
  let v189 : BitVec 32 := Scalar.muli v188 c512_i32_118
  v189
def k0_mult44 (k0_t1 : Fin k0_t1_loop.trips) : BitVec 32 :=
  let c0_i32 : BitVec 32 := 0#32
  let c1_i32 : BitVec 32 := 1#32
  let arg12 : BitVec 32 := Scf.iv c0_i32 c1_i32 k0_t1
  let c6_i32_52 : BitVec 32 := 6#32
  let v94 : BitVec 32 := Scalar.subi arg12 c6_i32_52
  let c6_i32_130 : BitVec 32 := 6#32
  let v207 : BitVec 32 := Scalar.addi v94 c6_i32_130
  let c512_i32_131 : BitVec 32 := 512#32
  let v208 : BitVec 32 := Scalar.muli v207 c512_i32_131
  v208
def k0_cond8 (k0_t1 : Fin k0_t1_loop.trips) : BitVec 1 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.remsi arg12 c8_i32
  let c7_i32 : BitVec 32 := 7#32
  let v56 : BitVec 1 := Scalar.cmpi .eq v28 c7_i32
  let v57 : BitVec 32 := Scalar.extui v56
  let c0_i32_33 : BitVec 32 := 0#32
  let v58 : BitVec 1 := Scalar.cmpi .ne v57 c0_i32_33
  v58

def k0_mult45 (k0_t1 : Fin k0_t1_loop.trips) : BitVec 32 :=
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let c0_i32_53 : BitVec 32 := 0#32
  let v95 : BitVec 32 := Scalar.addi v94 c0_i32_53
  let c512_i32 : BitVec 32 := 512#32
  let v96 : BitVec 32 := Scalar.muli v95 c512_i32
  v96
def k0_off21 (k0_t1 : Fin k0_t1_loop.trips) (c0_i32_53 : BitVec 32) : Fin 3 → Nat :=
  let c0_54 : Index := 0#32
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let v95 : BitVec 32 := Scalar.addi v94 c0_i32_53
  let c512_i32 : BitVec 32 := 512#32
  let v96 : BitVec 32 := Scalar.muli v95 c512_i32
  let v97 : BitVec 32 := v96
  let v98 : Index := Scalar.indexCast v97
  let c0_55 : Index := 0#32
  ![0, v98.toNat, 0]
def k0_off22 (k0_t1 : Fin k0_t1_loop.trips) (c0_i32_60 : BitVec 32) : Fin 4 → Nat :=
  let c0_61 : Index := 0#32
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let v106 : BitVec 32 := Scalar.addi v94 c0_i32_60
  let v107 : Index := Scalar.indexCast v106
  let c0_62 : Index := 0#32
  let c0_63 : Index := 0#32
  ![0, v107.toNat, 0, 0]
def k0_mult46 (k0_t1 : Fin k0_t1_loop.trips) : BitVec 32 :=
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let c1_i32_65 : BitVec 32 := 1#32
  let v112 : BitVec 32 := Scalar.addi v94 c1_i32_65
  let c512_i32_66 : BitVec 32 := 512#32
  let v113 : BitVec 32 := Scalar.muli v112 c512_i32_66
  v113
def k0_mult47 (k0_t1 : Fin k0_t1_loop.trips) : BitVec 32 :=
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let c2_i32_78 : BitVec 32 := 2#32
  let v131 : BitVec 32 := Scalar.addi v94 c2_i32_78
  let c512_i32_79 : BitVec 32 := 512#32
  let v132 : BitVec 32 := Scalar.muli v131 c512_i32_79
  v132
def k0_mult48 (k0_t1 : Fin k0_t1_loop.trips) : BitVec 32 :=
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let c3_i32_91 : BitVec 32 := 3#32
  let v150 : BitVec 32 := Scalar.addi v94 c3_i32_91
  let c512_i32_92 : BitVec 32 := 512#32
  let v151 : BitVec 32 := Scalar.muli v150 c512_i32_92
  v151
def k0_mult49 (k0_t1 : Fin k0_t1_loop.trips) : BitVec 32 :=
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let c4_i32_104 : BitVec 32 := 4#32
  let v169 : BitVec 32 := Scalar.addi v94 c4_i32_104
  let c512_i32_105 : BitVec 32 := 512#32
  let v170 : BitVec 32 := Scalar.muli v169 c512_i32_105
  v170
def k0_mult50 (k0_t1 : Fin k0_t1_loop.trips) : BitVec 32 :=
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let c5_i32_117 : BitVec 32 := 5#32
  let v188 : BitVec 32 := Scalar.addi v94 c5_i32_117
  let c512_i32_118 : BitVec 32 := 512#32
  let v189 : BitVec 32 := Scalar.muli v188 c512_i32_118
  v189
def k0_mult51 (k0_t1 : Fin k0_t1_loop.trips) : BitVec 32 :=
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let c6_i32_130 : BitVec 32 := 6#32
  let v207 : BitVec 32 := Scalar.addi v94 c6_i32_130
  let c512_i32_131 : BitVec 32 := 512#32
  let v208 : BitVec 32 := Scalar.muli v207 c512_i32_131
  v208
def k0_mult52 (k0_t1 : Fin k0_t1_loop.trips) : BitVec 32 :=
  let c0_i32 : BitVec 32 := 0#32
  let c1_i32 : BitVec 32 := 1#32
  let arg12 : BitVec 32 := Scf.iv c0_i32 c1_i32 k0_t1
  let c7_i32_52 : BitVec 32 := 7#32
  let v94 : BitVec 32 := Scalar.subi arg12 c7_i32_52
  let c7_i32_143 : BitVec 32 := 7#32
  let v226 : BitVec 32 := Scalar.addi v94 c7_i32_143
  let c512_i32_144 : BitVec 32 := 512#32
  let v227 : BitVec 32 := Scalar.muli v226 c512_i32_144
  v227
def k0_off23 (k0_t1 : Fin k0_t1_loop.trips) : Fin 4 → Nat :=
  let c0_49 : Index := 0#32
  let c0_i32 : BitVec 32 := 0#32
  let c1_i32 : BitVec 32 := 1#32
  let arg12 : BitVec 32 := Scf.iv c0_i32 c1_i32 k0_t1
  let v90 : Index := Scalar.indexCast arg12
  let c0_50 : Index := 0#32
  let c0_51 : Index := 0#32
  ![0, v90.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x8192x8x2x64 : Shape := ⟨5, ![8, 8192, 8, 2, 64]⟩
abbrev S8x8192x8x128 : Shape := ⟨4, ![8, 8192, 8, 128]⟩
abbrev S1x1 : Shape := ⟨2, ![1, 1]⟩
abbrev S1x128 : Shape := ⟨2, ![1, 128]⟩
abbrev S8x8x2x8192x8192 : Shape := ⟨5, ![8, 8, 2, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8x2x8192 : Shape := ⟨4, ![8, 8, 2, 8192]⟩
abbrev S8x8x2x8192x1 : Shape := ⟨5, ![8, 8, 2, 8192, 1]⟩
abbrev S8x8x1x8192x8192 : Shape := ⟨5, ![8, 8, 1, 8192, 8192]⟩
abbrev S8x8x8192x8192 : Shape := ⟨4, ![8, 8, 8192, 8192]⟩
abbrev S8x8x128x8192 : Shape := ⟨4, ![8, 8, 128, 8192]⟩
abbrev S8x8192x8 : Shape := ⟨3, ![8, 8192, 8]⟩
abbrev S8x8192x8x1 : Shape := ⟨4, ![8, 8192, 8, 1]⟩
abbrev S128 : Shape := ⟨1, ![128]⟩
abbrev S1x1x1x128 : Shape := ⟨4, ![1, 1, 1, 128]⟩
abbrev S8x16x512x1024 : Shape := ⟨4, ![8, 16, 512, 1024]⟩
abbrev S8x16x1024x512 : Shape := ⟨4, ![8, 16, 1024, 512]⟩

abbrev nBuf : Space → Nat
  | .hbm => 67
  | .vmem => 0
  | .smem => 0
  | _ => 0

abbrev bufTy : (tb : Table) → Fin (tcTables nBuf tb) → BufTy
  | .hbm, ⟨0, _⟩ => ⟨S8x8192x8x2x64, .f32⟩
  | .hbm, ⟨1, _⟩ => ⟨S8x8192x8x2x64, .f32⟩
  | .hbm, ⟨2, _⟩ => ⟨S8x8192x8x128, .f32⟩
  | .hbm, ⟨3, _⟩ => ⟨S1x1, .f32⟩
  | .hbm, ⟨4, _⟩ => ⟨S1x128, .f32⟩
  | .hbm, ⟨5, _⟩ => ⟨S8x8x2x8192x8192, .f32⟩
  | .hbm, ⟨6, _⟩ => ⟨S_, .f32⟩
  | .hbm, ⟨7, _⟩ => ⟨S8x8x2x8192x8192, .f32⟩
  | .hbm, ⟨8, _⟩ => ⟨S8x8x2x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8x8x2x8192x8192, .i1⟩
  | .hbm, ⟨18, _⟩ => ⟨S8x8x2x8192x8192, .f32⟩
  | .hbm, ⟨19, _⟩ => ⟨S8x8x2x8192x8192, .f32⟩
  | .hbm, ⟨20, _⟩ => ⟨S_, .f32⟩
  | .hbm, ⟨21, _⟩ => ⟨S8x8x2x8192, .f32⟩
  | .hbm, ⟨22, _⟩ => ⟨S_, .f32⟩
  | .hbm, ⟨23, _⟩ => ⟨S8x8x2x8192, .f32⟩
  | .hbm, ⟨24, _⟩ => ⟨S8x8x2x8192, .f32⟩
  | .hbm, ⟨25, _⟩ => ⟨S8x8x2x8192x1, .f32⟩
  | .hbm, ⟨26, _⟩ => ⟨S8x8x2x8192x8192, .f32⟩
  | .hbm, ⟨27, _⟩ => ⟨S8x8x2x8192x8192, .f32⟩
  | .hbm, ⟨28, _⟩ => ⟨S8x8x2x8192x8192, .f32⟩
  | .hbm, ⟨29, _⟩ => ⟨S_, .f32⟩
  | .hbm, ⟨30, _⟩ => ⟨S8x8x2x8192, .f32⟩
  | .hbm, ⟨31, _⟩ => ⟨S8x8x2x8192x1, .f32⟩
  | .hbm, ⟨32, _⟩ => ⟨S8x8x2x8192x8192, .f32⟩
  | .hbm, ⟨33, _⟩ => ⟨S8x8x2x8192x8192, .f32⟩
  | .hbm, ⟨34, _⟩ => ⟨S8x8x1x8192x8192, .f32⟩
  | .hbm, ⟨35, _⟩ => ⟨S8x8x8192x8192, .f32⟩
  | .hbm, ⟨36, _⟩ => ⟨S_, .f32⟩
  | .hbm, ⟨37, _⟩ => ⟨S8x8x1x8192x8192, .f32⟩
  | .hbm, ⟨38, _⟩ => ⟨S8x8x8192x8192, .f32⟩
  | .hbm, ⟨39, _⟩ => ⟨S8x8x8192x8192, .f32⟩
  | .hbm, ⟨40, _⟩ => ⟨S8x8x8192x8192, .f32⟩
  | .hbm, ⟨41, _⟩ => ⟨S8x8x8192x8192, .f32⟩
  | .hbm, ⟨42, _⟩ => ⟨S8x8x128x8192, .f32⟩
  | .hbm, ⟨43, _⟩ => ⟨S8x8192x8x128, .f32⟩
  | .hbm, ⟨44, _⟩ => ⟨S8x8192x8x128, .f32⟩
  | .hbm, ⟨45, _⟩ => ⟨S_, .f32⟩
  | .hbm, ⟨46, _⟩ => ⟨S8x8192x8, .f32⟩
  | .hbm, ⟨47, _⟩ => ⟨S8x8192x8x1, .f32⟩
  | .hbm, ⟨48, _⟩ => ⟨S_, .f32⟩
  | .hbm, ⟨49, _⟩ => ⟨S8x8192x8x1, .f32⟩
  | .hbm, ⟨50, _⟩ => ⟨S8x8192x8x1, .f32⟩
  | .hbm, ⟨51, _⟩ => ⟨S_, .f32⟩
  | .hbm, ⟨52, _⟩ => ⟨S8x8192x8x1, .f32⟩
  | .hbm, ⟨53, _⟩ => ⟨S8x8192x8x1, .f32⟩
  | .hbm, ⟨54, _⟩ => ⟨S8x8192x8x1, .f32⟩
  | .hbm, ⟨55, _⟩ => ⟨S8x8192x8x128, .f32⟩
  | .hbm, ⟨56, _⟩ => ⟨S8x8192x8x128, .f32⟩
  | .hbm, ⟨57, _⟩ => ⟨S128, .f32⟩
  | .hbm, ⟨58, _⟩ => ⟨S1x1x1x128, .f32⟩
  | .hbm, ⟨59, _⟩ => ⟨S8x8192x8x128, .f32⟩
  | .hbm, ⟨60, _⟩ => ⟨S8x8192x8x128, .f32⟩
  | .hbm, ⟨61, _⟩ => ⟨S_, .f32⟩
  | .hbm, ⟨62, _⟩ => ⟨S8x8192x8x128, .f32⟩
  | .hbm, ⟨63, _⟩ => ⟨S8x8192x8x128, .f32⟩
  | .hbm, ⟨64, _⟩ => ⟨S8x16x512x1024, .f32⟩
  | .hbm, ⟨65, _⟩ => ⟨S8x16x1024x512, .f32⟩
  | .hbm, ⟨66, _⟩ => ⟨S8x16x1024x512, .bf16⟩
  | _, _ => ⟨S8x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x2048 : Shape := ⟨3, ![8, 8192, 2048]⟩
abbrev S8x6144 : Shape := ⟨2, ![8, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S8x16x512x1024 : Shape := ⟨4, ![8, 16, 512, 1024]⟩
abbrev S8x16x1024x512 : Shape := ⟨4, ![8, 16, 1024, 512]⟩
abbrev S8x6x1024 : Shape := ⟨3, ![8, 6, 1024]⟩
abbrev S1024x1024 : Shape := ⟨2, ![1024, 1024]⟩
abbrev S1024x4096 : Shape := ⟨2, ![1024, 4096]⟩
abbrev S4096x1024 : Shape := ⟨2, ![4096, 1024]⟩
abbrev S1x512x1024 : Shape := ⟨3, ![1, 512, 1024]⟩
abbrev S1x1x1024x512 : Shape := ⟨4, ![1, 1, 1024, 512]⟩
abbrev S1x512x2048 : Shape := ⟨3, ![1, 512, 2048]⟩
abbrev S1x6x1024 : Shape := ⟨3, ![1, 6, 1024]⟩
abbrev S512x2048 : Shape := ⟨2, ![512, 2048]⟩
abbrev S512x1024 : Shape := ⟨2, ![512, 1024]⟩
abbrev S1024x512 : Shape := ⟨2, ![1024, 512]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 27
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S8x8192x2048, .f32⟩
  | .hbm, ⟨4, _⟩ => ⟨S8x6144, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S8x16x512x1024, .f32⟩
  | .hbm, ⟨11, _⟩ => ⟨S8x16x1024x512, .f32⟩
  | .hbm, ⟨12, _⟩ => ⟨S8x16x1024x512, .bf16⟩
  | .hbm, ⟨13, _⟩ => ⟨S8x8192x1024, .bf16⟩
  | .hbm, ⟨14, _⟩ => ⟨S8x8192x2048, .bf16⟩
  | .hbm, ⟨15, _⟩ => ⟨S8x6x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x4096, .f32⟩
  | .hbm, ⟨23, _⟩ => ⟨S1024x4096, .bf16⟩
  | .hbm, ⟨24, _⟩ => ⟨S4096x1024, .f32⟩
  | .hbm, ⟨25, _⟩ => ⟨S4096x1024, .bf16⟩
  | .hbm, ⟨26, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x6x1024, .f32⟩
  | .local _ .vmem, ⟨9, _⟩ => ⟨S1x6x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x4096, .bf16⟩
  | .local _ .vmem, ⟨14, _⟩ => ⟨S4096x1024, .bf16⟩
  | .local _ .vmem, ⟨15, _⟩ => ⟨S1x512x1024, .f32⟩
  | .local _ .vmem, ⟨16, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x8192x1024 : Shape := ⟨3, ![8, 8192, 1024]⟩
abbrev S8x8192x2048 : Shape := ⟨3, ![8, 8192, 2048]⟩
abbrev S8x6144 : Shape := ⟨2, ![8, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S8x1x6144 : Shape := ⟨3, ![8, 1, 6144]⟩
abbrev S8x1x1024 : Shape := ⟨3, ![8, 1, 1024]⟩
abbrev S_ : Shape := ⟨0, ![]⟩
abbrev S8x8192x2x1024 : Shape := ⟨4, ![8, 8192, 2, 1024]⟩
abbrev S8x8192x1x1024 : Shape := ⟨4, ![8, 8192, 1, 1024]⟩
abbrev S1024x1024 : Shape := ⟨2, ![1024, 1024]⟩
abbrev S8x8192 : Shape := ⟨2, ![8, 8192]⟩
abbrev S8x8192x1 : Shape := ⟨3, ![8, 8192, 1]⟩
abbrev S1024x4096 : Shape := ⟨2, ![1024, 4096]⟩
abbrev S8x8192x4096 : Shape := ⟨3, ![8, 8192, 4096]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S8x8192x2048, .f32⟩
  | .hbm, ⟨4, _⟩ => ⟨S8x6144, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x8192x2048, .f32⟩
  | .hbm, ⟨18, _⟩ => ⟨S8x8192x2048, .f32⟩
  | .hbm, ⟨19, _⟩ => ⟨S_, .f32⟩
  | .hbm, ⟨20, _⟩ => ⟨S8x8192x2048, .f32⟩
  | .hbm, ⟨21, _⟩ => ⟨S8x8192x2048, .f32⟩
  | .hbm, ⟨22, _⟩ => ⟨S_, .f32⟩
  | .hbm, ⟨23, _⟩ => ⟨S8x8192x2048, .f32⟩
  | .hbm, ⟨24, _⟩ => ⟨S8x8192x2048, .f32⟩
  | .hbm, ⟨25, _⟩ => ⟨S8x8192x2x1024, .f32⟩
  | .hbm, ⟨26, _⟩ => ⟨S8x8192x1x1024, .f32⟩
  | .hbm, ⟨27, _⟩ => ⟨S8x8192x1024, .f32⟩
  | .hbm, ⟨28, _⟩ => ⟨S1024x1024, .f32⟩
  | .hbm, ⟨29, _⟩ => ⟨S8x8192x1024, .f32⟩
  | .hbm, ⟨30, _⟩ => ⟨S8x8192x1024, .f32⟩
  | .hbm, ⟨31, _⟩ => ⟨S8x8192x1x1024, .f32⟩
  | .hbm, ⟨32, _⟩ => ⟨S8x8192x1024, .f32⟩
  | .hbm, ⟨33, _⟩ => ⟨S1024x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S1024x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S8x8192x1, .f32⟩
  | .hbm, ⟨53, _⟩ => ⟨S8x8192x1024, .f32⟩
  | .hbm, ⟨54, _⟩ => ⟨S8x8192x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S1024x4096, .f32⟩
  | .hbm, ⟨63, _⟩ => ⟨S8x8192x4096, .f32⟩
  | .hbm, ⟨64, _⟩ => ⟨S_, .f32⟩
  | .hbm, ⟨65, _⟩ => ⟨S8x8192x4096, .f32⟩
  | .hbm, ⟨66, _⟩ => ⟨S8x8192x4096, .f32⟩
  | .hbm, ⟨67, _⟩ => ⟨S8x8192x4096, .f32⟩
  | .hbm, ⟨68, _⟩ => ⟨S4096x1024, .f32⟩
  | .hbm, ⟨69, _⟩ => ⟨S8x8192x1024, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x6144 : Shape := ⟨2, ![8, 6144]⟩
abbrev S1x1024x7168 : Shape := ⟨3, ![1, 1024, 7168]⟩
abbrev S1x64 : Shape := ⟨2, ![1, 64]⟩
abbrev S8x8192 : Shape := ⟨2, ![8, 8192]⟩
abbrev S1024x7168 : Shape := ⟨2, ![1024, 7168]⟩
abbrev S1024x2048 : Shape := ⟨2, ![1024, 2048]⟩
abbrev S1024x4096 : Shape := ⟨2, ![1024, 4096]⟩
abbrev S1024x3072 : Shape := ⟨2, ![1024, 3072]⟩
abbrev S3072x1024 : Shape := ⟨2, ![3072, 1024]⟩
abbrev S_ : Shape := ⟨0, ![]⟩
abbrev S64 : Shape := ⟨1, ![64]⟩
abbrev S64x1 : Shape := ⟨2, ![64, 1]⟩
abbrev S64x512 : Shape := ⟨2, ![64, 512]⟩
abbrev S8x6x1024 : Shape := ⟨3, ![8, 6, 1024]⟩
abbrev S32 : Shape := ⟨1, ![32]⟩
abbrev S32x1 : Shape := ⟨2, ![32, 1]⟩
abbrev S8x1x8192 : Shape := ⟨3, ![8, 1, 8192]⟩
abbrev S8x8192x2048 : Shape := ⟨3, ![8, 8192, 2048]⟩
abbrev S8x16x1024x512 : Shape := ⟨4, ![8, 16, 1024, 512]⟩
abbrev S1x512x1024 : Shape := ⟨3, ![1, 512, 1024]⟩
abbrev S1x6x1024 : Shape := ⟨3, ![1, 6, 1024]⟩
abbrev S1x1x512 : Shape := ⟨3, ![1, 1, 512]⟩
abbrev S1x512x2048 : Shape := ⟨3, ![1, 512, 2048]⟩
abbrev S1x1x1024x512 : Shape := ⟨4, ![1, 1, 1024, 512]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1x512 : Shape := ⟨2, ![1, 512]⟩
abbrev S32x512 : Shape := ⟨2, ![32, 512]⟩
abbrev S128x512 : Shape := ⟨2, ![128, 512]⟩
abbrev S1x1x128x512 : Shape := ⟨4, ![1, 1, 128, 512]⟩
abbrev S512x128 : Shape := ⟨2, ![512, 128]⟩
abbrev S1x512x128 : Shape := ⟨3, ![1, 512, 128]⟩

abbrev nBuf : Space → Nat
  | .hbm => 51
  | .vmem => 23
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S1x1024x7168, .f32⟩
  | .hbm, ⟨3, _⟩ => ⟨S1x64, .f32⟩
  | .hbm, ⟨4, _⟩ => ⟨S1x64, .f32⟩
  | .hbm, ⟨5, _⟩ => ⟨S8x8192, .i32⟩
  | .hbm, ⟨6, _⟩ => ⟨S1024x7168, .f32⟩
  | .hbm, ⟨7, _⟩ => ⟨S1024x2048, .f32⟩
  | .hbm, ⟨8, _⟩ => ⟨S1024x2048, .f32⟩
  | .hbm, ⟨9, _⟩ => ⟨S1024x4096, .f32⟩
  | .hbm, ⟨10, _⟩ => ⟨S1024x4096, .bf16⟩
  | .hbm, ⟨11, _⟩ => ⟨S1024x3072, .f32⟩
  | .hbm, ⟨12, _⟩ => ⟨S3072x1024, .f32⟩
  | .hbm, ⟨13, _⟩ => ⟨S3072x1024, .bf16⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x1, .f32⟩
  | .hbm, ⟨24, _⟩ => ⟨S64x512, .f32⟩
  | .hbm, ⟨25, _⟩ => ⟨S64, .f32⟩
  | .hbm, ⟨26, _⟩ => ⟨S64x1, .f32⟩
  | .hbm, ⟨27, _⟩ => ⟨S64x512, .f32⟩
  | .hbm, ⟨28, _⟩ => ⟨S8x6x1024, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32x1, .f32⟩
  | .hbm, ⟨44, _⟩ => ⟨S8x1x8192, .i32⟩
  | .hbm, ⟨45, _⟩ => ⟨S8x8192x1024, .bf16⟩
  | .hbm, ⟨46, _⟩ => ⟨S8x8192x1024, .bf16⟩
  | .hbm, ⟨47, _⟩ => ⟨S8x8192x2048, .bf16⟩
  | .hbm, ⟨48, _⟩ => ⟨S8x16x1024x512, .bf16⟩
  | .hbm, ⟨49, _⟩ => ⟨S8x8192x1024, .bf16⟩
  | .hbm, ⟨50, _⟩ => ⟨S8x16x1024x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4096, .bf16⟩
  | .local _ .vmem, ⟨5, _⟩ => ⟨S3072x1024, .bf16⟩
  | .local _ .vmem, ⟨6, _⟩ => ⟨S64x512, .f32⟩
  | .local _ .vmem, ⟨7, _⟩ => ⟨S64x512, .f32⟩
  | .local _ .vmem, ⟨8, _⟩ => ⟨S1x1x512, .i32⟩
  | .local _ .vmem, ⟨9, _⟩ => ⟨S1x1x512, .i32⟩
  | .local _ .vmem, ⟨10, _⟩ => ⟨S32x1, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x2048, .bf16⟩
  | .local _ .vmem, ⟨16, _⟩ => ⟨S1x512x2048, .bf16⟩
  | .local _ .vmem, ⟨17, _⟩ => ⟨S1x1x1024x512, .bf16⟩
  | .local _ .vmem, ⟨18, _⟩ => ⟨S1x1x1024x512, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x1x1024x512, .bf16⟩
  | .local _ .vmem, ⟨22, _⟩ => ⟨S1x1x1024x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev main_v32_3 : Ref sig .tc := ⟨.hbm, 48, rfl⟩
abbrev main_v32_4 : Ref sig .tc := ⟨.hbm, 49, rfl⟩
abbrev main_v32_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x8192x1024 : Shape := ⟨3, ![8, 8192, 1024]⟩
abbrev S8x6144 : Shape := ⟨2, ![8, 6144]⟩
abbrev S1x1024x7168 : Shape := ⟨3, ![1, 1024, 7168]⟩
abbrev S1x64 : Shape := ⟨2, ![1, 64]⟩
abbrev S8x8192 : Shape := ⟨2, ![8, 8192]⟩
abbrev S32 : Shape := ⟨1, ![32]⟩
abbrev S_ : Shape := ⟨0, ![]⟩
abbrev S8x8192x1 : Shape := ⟨3, ![8, 8192, 1]⟩
abbrev S1x1x32 : Shape := ⟨3, ![1, 1, 32]⟩
abbrev S8x8192x32 : Shape := ⟨3, ![8, 8192, 32]⟩
abbrev S8x8192x1x1x32 : Shape := ⟨5, ![8, 8192, 1, 1, 32]⟩
abbrev S8x1x6144 : Shape := ⟨3, ![8, 1, 6144]⟩
abbrev S8x1x1024 : Shape := ⟨3, ![8, 1, 1024]⟩
abbrev S1024x7168 : Shape := ⟨2, ![1024, 7168]⟩
abbrev S8x8192x7168 : Shape := ⟨3, ![8, 8192, 7168]⟩
abbrev S8x8192x2048 : Shape := ⟨3, ![8, 8192, 2048]⟩
abbrev S8x8192x8x2x64 : Shape := ⟨5, ![8, 8192, 8, 2, 64]⟩
abbrev S8x8192x8x2 : Shape := ⟨4, ![8, 8192, 8, 2]⟩
abbrev S8x8192x8x2x1 : Shape := ⟨5, ![8, 8192, 8, 2, 1]⟩
abbrev S64 : Shape := ⟨1, ![64]⟩
abbrev S1x1x1x1x64 : Shape := ⟨5, ![1, 1, 1, 1, 64]⟩
abbrev S8x8192x8x2x32 : Shape := ⟨5, ![8, 8192, 8, 2, 32]⟩
abbrev S8x16x512x1024 : Shape := ⟨4, ![8, 16, 512, 1024]⟩
abbrev S8x16x1024x512 : Shape := ⟨4, ![8, 16, 1024, 512]⟩

abbrev nBuf : Space → Nat
  | .hbm => 144
  | .vmem => 0
  | .smem => 0
  | _ => 0

abbrev hbmTy0_0 (i : Nat) : BufTy := match i % 128 with
  | 0 => ⟨S8x8192x1024, .f32⟩
  | 1 => ⟨S8x6144, .f32⟩
  | 2 => ⟨S1x1024x7168, .f32⟩
  | 3 => ⟨S1x64, .f32⟩
  | 4 => ⟨S1x64, .f32⟩
  | 5 => ⟨S8x8192, .i32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S8x8192, .f32⟩
  | 21 => ⟨S8x8192x1, .f32⟩
  | 22 => ⟨S1x1x32, .f32⟩
  | 23 => ⟨S8x8192x32, .f32⟩
  | 24 => ⟨S8x8192x32, .f32⟩
  | 25 => ⟨S8x8192x32, .f32⟩
  | 26 => ⟨S8x8192x32, .f32⟩
  | 27 => ⟨S8x8192x1x1x32, .f32⟩
  | 28 => ⟨S8x8192x32, .f32⟩
  | 29 => ⟨S8x8192x1x1x32, .f32⟩
  | 30 => ⟨S8x1x6144, .f32⟩
  | 31 => ⟨S8x1x1024, .f32⟩
  | 32 => ⟨S8x1x1024, .f32⟩
  | 33 => ⟨S8x1x1024, .f32⟩
  | 34 => ⟨S8x1x1024, .f32⟩
  | 35 => ⟨S8x1x1024, .f32⟩
  | 36 => ⟨S8x1x1024, .f32⟩
  | 37 => ⟨S8x8192x1024, .f32⟩
  | 38 => ⟨S_, .f32⟩
  | 39 => ⟨S8x8192, .f32⟩
  | 40 => ⟨S8x8192x1, .f32⟩
  | 41 => ⟨S_, .f32⟩
  | 42 => ⟨S8x8192x1, .f32⟩
  | 43 => ⟨S8x8192x1, .f32⟩
  | 44 => ⟨S_, .f32⟩
  | 45 => ⟨S8x8192x1, .f32⟩
  | 46 => ⟨S8x8192x1, .f32⟩
  | 47 => ⟨S8x8192x1, .f32⟩
  | 48 => ⟨S8x8192x1024, .f32⟩
  | 49 => ⟨S8x8192x1024, .f32⟩
  | 50 => ⟨S_, .f32⟩
  | 51 => ⟨S8x1x1024, .f32⟩
  | 52 => ⟨S8x1x1024, .f32⟩
  | 53 => ⟨S8x8192x1024, .f32⟩
  | 54 => ⟨S8x8192x1024, .f32⟩
  | 55 => ⟨S8x8192x1024, .f32⟩
  | 56 => ⟨S8x8192x1024, .f32⟩
  | 57 => ⟨S1024x7168, .f32⟩
  | 58 => ⟨S8x8192x7168, .f32⟩
  | 59 => ⟨S8x8192x1024, .f32⟩
  | 60 => ⟨S8x8192x1024, .f32⟩
  | 61 => ⟨S8x8192x1024, .f32⟩
  | 62 => ⟨S8x8192x1024, .f32⟩
  | 63 => ⟨S8x8192x1024, .f32⟩
  | 64 => ⟨S8x8192x2048, .f32⟩
  | 65 => ⟨S8x8192x8x2x64, .f32⟩
  | 66 => ⟨S8x8192x8x2x64, .f32⟩
  | 67 => ⟨S_, .f32⟩
  | 68 => ⟨S8x8192x8x2, .f32⟩
  | 69 => ⟨S8x8192x8x2x1, .f32⟩
  | 70 => ⟨S_, .f32⟩
  | 71 => ⟨S8x8192x8x2x1, .f32⟩
  | 72 => ⟨S8x8192x8x2x1, .f32⟩
  | 73 => ⟨S_, .f32⟩
  | 74 => ⟨S8x8192x8x2x1, .f32⟩
  | 75 => ⟨S8x8192x8x2x1, .f32⟩
  | 76 => ⟨S8x8192x8x2x1, .f32⟩
  | 77 => ⟨S8x8192x8x2x64, .f32⟩
  | 78 => ⟨S8x8192x8x2x64, .f32⟩
  | 79 => ⟨S64, .f32⟩
  | 80 => ⟨S1x1x1x1x64, .f32⟩
  | 81 => ⟨S8x8192x8x2x64, .f32⟩
  | 82 => ⟨S8x8192x8x2x64, .f32⟩
  | 83 => ⟨S8x8192x8x2x32, .f32⟩
  | 84 => ⟨S8x8192x8x2x32, .f32⟩
  | 85 => ⟨S8x8192x8x2x32, .f32⟩
  | 86 => ⟨S8x8192x8x2x32, .f32⟩
  | 87 => ⟨S8x8192x8x2x32, .f32⟩
  | 88 => ⟨S8x8192x8x2x32, .f32⟩
  | 89 => ⟨S8x8192x8x2x32, .f32⟩
  | 90 => ⟨S8x8192x8x2x32, .f32⟩
  | 91 => ⟨S8x8192x8x2x32, .f32⟩
  | 92 => ⟨S8x8192x8x2x32, .f32⟩
  | 93 => ⟨S8x8192x8x2x32, .f32⟩
  | 94 => ⟨S8x8192x8x2x32, .f32⟩
  | 95 => ⟨S8x8192x8x2x64, .f32⟩
  | 96 => ⟨S8x8192x8x2x64, .f32⟩
  | 97 => ⟨S8x8192x8x2x64, .f32⟩
  | 98 => ⟨S_, .f32⟩
  | 99 => ⟨S8x8192x8x2, .f32⟩
  | 100 => ⟨S8x8192x8x2x1, .f32⟩
  | 101 => ⟨S_, .f32⟩
  | 102 => ⟨S8x8192x8x2x1, .f32⟩
  | 103 => ⟨S8x8192x8x2x1, .f32⟩
  | 104 => ⟨S_, .f32⟩
  | 105 => ⟨S8x8192x8x2x1, .f32⟩
  | 106 => ⟨S8x8192x8x2x1, .f32⟩
  | 107 => ⟨S8x8192x8x2x1, .f32⟩
  | 108 => ⟨S8x8192x8x2x64, .f32⟩
  | 109 => ⟨S8x8192x8x2x64, .f32⟩
  | 110 => ⟨S64, .f32⟩
  | 111 => ⟨S1x1x1x1x64, .f32⟩
  | 112 => ⟨S8x8192x8x2x64, .f32⟩
  | 113 => ⟨S8x8192x8x2x64, .f32⟩
  | 114 => ⟨S8x8192x8x2x32, .f32⟩
  | 115 => ⟨S8x8192x8x2x32, .f32⟩
  | 116 => ⟨S8x8192x8x2x32, .f32⟩
  | 117 => ⟨S8x8192x8x2x32, .f32⟩
  | 118 => ⟨S8x8192x8x2x32, .f32⟩
  | 119 => ⟨S8x8192x8x2x32, .f32⟩
  | 120 => ⟨S8x8192x8x2x32, .f32⟩
  | 121 => ⟨S8x8192x8x2x32, .f32⟩
  | 122 => ⟨S8x8192x8x2x32, .f32⟩
  | 123 => ⟨S8x8192x8x2x32, .f32⟩
  | 124 => ⟨S8x8192x8x2x32, .f32⟩
  | 125 => ⟨S8x8192x8x2x32, .f32⟩
  | 126 => ⟨S8x8192x8x2x64, .f32⟩
  | 127 => ⟨S_, .f32⟩
  | _ => ⟨S8x8192x1024, .f32⟩

abbrev hbmTy0_1 (i : Nat) : BufTy := match i % 128 with
  | 0 => ⟨S_, .f32⟩
  | 1 => ⟨S_, .f32⟩
  | 2 => ⟨S_, .f32⟩
  | 3 => ⟨S8x8192x8x2x64, .f32⟩
  | 4 => ⟨S8x8192x8x2x64, .f32⟩
  | 5 => ⟨S8x8192x1024, .bf16⟩
  | 6 => ⟨S8x8192x1024, .bf16⟩
  | 7 => ⟨S8x8192x2048, .bf16⟩
  | 8 => ⟨S8x16x512x1024, .f32⟩
  | 9 => ⟨S8x16x1024x512, .f32⟩
  | 10 => ⟨S8x16x1024x512, .bf16⟩
  | 11 => ⟨S8x8192x1024, .f32⟩
  | 12 => ⟨S8x8192x1024, .bf16⟩
  | 13 => ⟨S8x16x512x1024, .f32⟩
  | 14 => ⟨S8x16x1024x512, .f32⟩
  | 15 => ⟨S8x16x1024x512, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_cst_12 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_13 : Ref sig .tc := ⟨.hbm, 127, rfl⟩
abbrev main_v107 : Ref sig .tc := ⟨.hbm, 128, rfl⟩
abbrev main_cst_14 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩

abbrev nD : Nat := 1
abbrev τ : Topo := Topo.v7x

variable {F : FTy → Type} [FloatOps F]
-- ==== Kernel4.lean ====
abbrev S8x1024 : Shape := ⟨2, ![8, 1024]⟩
abbrev S1x1024x6144 : Shape := ⟨3, ![1, 1024, 6144]⟩
abbrev S1x6144 : Shape := ⟨2, ![1, 6144]⟩
abbrev S1x64 : Shape := ⟨2, ![1, 64]⟩
abbrev S64 : Shape := ⟨1, ![64]⟩
abbrev S4x64 : Shape := ⟨2, ![4, 64]⟩
abbrev S1024x6144 : Shape := ⟨2, ![1024, 6144]⟩
abbrev S6144 : Shape := ⟨1, ![6144]⟩
abbrev S8x6144 : Shape := ⟨2, ![8, 6144]⟩
abbrev S1x512 : Shape := ⟨2, ![1, 512]⟩
abbrev S1024x1536 : Shape := ⟨2, ![1024, 1536]⟩
abbrev S1x1536 : Shape := ⟨2, ![1, 1536]⟩
abbrev S8x1536 : Shape := ⟨2, ![8, 1536]⟩
abbrev S1 : Shape := ⟨1, ![1]⟩
abbrev S1x1 : Shape := ⟨2, ![1, 1]⟩

abbrev nBuf : Space → Nat
  | .hbm => 21
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S4x64, .f32⟩
  | .hbm, ⟨16, _⟩ => ⟨S1024x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S1x512, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S4x64, .f32⟩
  | .local _ .vmem, ⟨6, _⟩ => ⟨S8x1536, .f32⟩
  | .local _ .vmem, ⟨7, _⟩ => ⟨S8x1536, .f32⟩
  | .local _ .vmem, ⟨8, _⟩ => ⟨S1x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S8x1024 : Shape := ⟨2, ![8, 1024]⟩
abbrev S1x1024x6144 : Shape := ⟨3, ![1, 1024, 6144]⟩
abbrev S1x6144 : Shape := ⟨2, ![1, 6144]⟩
abbrev S1x64 : Shape := ⟨2, ![1, 64]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩
abbrev S64 : Shape := ⟨1, ![64]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S1024x6144, .f32⟩
  | .hbm, ⟨17, _⟩ => ⟨S8x6144, .f32⟩
  | .hbm, ⟨18, _⟩ => ⟨S6144, .f32⟩
  | .hbm, ⟨19, _⟩ => ⟨S1x6144, .f32⟩
  | .hbm, ⟨20, _⟩ => ⟨S8x6144, .f32⟩
  | .hbm, ⟨21, _⟩ => ⟨S8x6144, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x512, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== Proof.KernelIdeal.Spec.lean ====
module

public import proofs.«01_k».proof.Proof.Gen.KernelIdeal.Loops
public import Idealize.ShloMosaic.Lib.Exec
public import Idealize.ShloMosaic.Lib.Tactic
public import Idealize.ShloMosaic.Lib.VecWindow
public import Idealize.ShloMosaic.Lib.ValueIdx
public import Idealize.ShloMosaic.Lib.ValueLayout
public import Idealize.ShloMosaic.Lib.Pipeline.Value
public import Idealize.ShloMosaic.Lib.Pipeline.Kit

@[expose] public section

set_option maxRecDepth 8192

noncomputable section

namespace Cert.Proof.KernelIdeal
open Cert.KernelIdeal Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # What one grid point computes

One grid point holds one head of one batch: its queries, its keys, its values. The query rows come in
sixteen blocks of 512; this module writes down, as plain functions of what the windows hold, the block
of results for one block of query rows. -/

/-- Key block `j`: rows `512 j … 512 j + 511` of the keys. -/
def kBlk (K : Vec F S1x8192x128 .bf16) (j : ℕ) : Vec F S1x512x128 .bf16 :=
  fun y => K (ix3 0 ⟨(512 * j + (y 1).val) % 8192, Nat.mod_lt _ (by decide)⟩ (y 2))

/-- Value block `j`. -/
def vBlk (V : Vec F S1x16x128x512 .bf16) (j : ℕ) : Vec F S1x1x128x512 .bf16 :=
  fun y => V (ix4 0 ⟨(j + (y 1).val) % 16, Nat.mod_lt _ (by decide)⟩ (y 2) (y 3))

/-- The two streams' queries of block `i`, side by side: stream 0 in the upper left quarter, stream 1
in the lower right one, zero elsewhere. -/
def qMat (Q : Vec F S1x16x128x512 .bf16) (i : ℕ) : Vec F S128x1024 .bf16 := fun y =>
  if (y 0).val < 64 then
    if h : (y 1).val < 512 then Q (ix4 0 ⟨i % 16, Nat.mod_lt _ (by decide)⟩ (y 0) ⟨(y 1).val, h⟩)
    else Scalar.ofBits .bf16 0x0000#16
  else if h : (y 1).val < 512 then Scalar.ofBits .bf16 0x0000#16
    else Q (ix4 0 ⟨i % 16, Nat.mod_lt _ (by decide)⟩ (y 0) ⟨(y 1).val - 512, by have := (y 1).isLt; change (y 1).val < 1024 at this; omega⟩)

/-- The column sums of a block of weights, in eight interleaved parts. -/
def lBlk (P : FVec F S512x1024 .f32) : FVec F S8x1024 .f32 :=
  multiReduction .add [0] S8x1024 (shapeCast S64x8x1024 P shapeCasts_S512x1024_S64x8x1024) 0x00000000#32 reduces_S64x8x1024_S8x1024 (.inl rfl) rfl

/-- The values of a block weighted by its weights. -/
def aBlk (P : FVec F S512x1024 .f32) (V : Vec F S1x1x128x512 .bf16) : FVec F S128x1024 .f32 :=
  matmul dot_S128x512_S512x1024_S128x1024_1_0_0_1_n_n none (shapeCast S128x512 V shapeCasts_S1x1x128x512_S128x512)
    (truncf .bf16 P bitsLt_bf16_f32) (constant S128x1024 .f32 0x00000000#32)

/-- The column sums of the whole blocks `0 … n`, added from the left. -/
def lSum (K : ℕ → Vec F S1x512x128 .bf16) (Q : Vec F S128x1024 .bf16) : ℕ → FVec F S8x1024 .f32
  | 0 => lBlk (k0_pay2 (K 0) Q)
  | n + 1 => addf (lSum K Q n) (lBlk (k0_pay2 (K (n + 1)) Q))

/-- The weighted values of the whole blocks `0 … n`, added from the left. -/
def aSum (K : ℕ → Vec F S1x512x128 .bf16) (V : ℕ → Vec F S1x1x128x512 .bf16) (Q : Vec F S128x1024 .bf16) : ℕ → FVec F S128x1024 .f32
  | 0 => aBlk (k0_pay2 (K 0) Q) (V 0)
  | n + 1 => addf (aSum K V Q n) (aBlk (k0_pay2 (K (n + 1)) Q) (V (n + 1)))

/-- The column sums of the blocks `0 … n`, the last one masked. -/
def lEnd (K : ℕ → Vec F S1x512x128 .bf16) (Q : Vec F S128x1024 .bf16) : ℕ → FVec F S8x1024 .f32
  | 0 => lBlk (k0_pay42 (K 0) Q)
  | n + 1 => addf (lSum K Q n) (lBlk (k0_pay42 (K (n + 1)) Q))

/-- The weighted values of the blocks `0 … n`, the last one masked. -/
def aEnd (K : ℕ → Vec F S1x512x128 .bf16) (V : ℕ → Vec F S1x1x128x512 .bf16) (Q : Vec F S128x1024 .bf16) : ℕ → FVec F S128x1024 .f32
  | 0 => aBlk (k0_pay42 (K 0) Q) (V 0)
  | n + 1 => addf (aSum K V Q n) (aBlk (k0_pay42 (K (n + 1)) Q) (V (n + 1)))

/-- The column sums held after `n` rounds of eight whole blocks. -/
def lRun (K : ℕ → Vec F S1x512x128 .bf16) (Q : Vec F S128x1024 .bf16) (L : Vec F S8x1024 .f32) : ℕ → Vec F S8x1024 .f32
  | 0 => L
  | n + 1 => shapeCast S8x1024 (addf (lRun K Q L n) (lSum (fun u => K (8 * n + u)) Q 7)) shapeCasts_S8x1024_S8x1024

/-- The weighted values held after `n` rounds of eight whole blocks. -/
def aRun (K : ℕ → Vec F S1x512x128 .bf16) (V : ℕ → Vec F S1x1x128x512 .bf16) (Q : Vec F S128x1024 .bf16) (A : Vec F S128x1024 .f32) : ℕ → Vec F S128x1024 .f32
  | 0 => A
  | n + 1 => shapeCast S128x1024 (addf (aRun K V Q A n) (aSum (fun u => K (8 * n + u)) (fun u => V (8 * n + u)) Q 7)) shapeCasts_S128x1024_S128x1024

/-- The column sums over all the keys of query block `8 m + r`. -/
def lRow (K : ℕ → Vec F S1x512x128 .bf16) (Q : Vec F S128x1024 .bf16) (m r : ℕ) : Vec F S8x1024 .f32 :=
  shapeCast S8x1024 (addf (lRun K Q k0_pay149 m) (lEnd (fun u => K (8 * m + u)) Q r)) shapeCasts_S8x1024_S8x1024

/-- The weighted values over all the keys of query block `8 m + r`. -/
def aRow (K : ℕ → Vec F S1x512x128 .bf16) (V : ℕ → Vec F S1x1x128x512 .bf16) (Q : Vec F S128x1024 .bf16) (m r : ℕ) : Vec F S128x1024 .f32 :=
  shapeCast S128x1024 (addf (aRun K V Q k0_pay150 m) (aEnd (fun u => K (8 * m + u)) (fun u => V (8 * m + u)) Q r)) shapeCasts_S128x1024_S128x1024

/-- The results from the sums `l` and the weighted values `a`: both streams divided by their sums,
the second taken from the first `lam` times, the outcome normalised over the head's 128 values. -/
def finish (l : Vec F S8x1024 .f32) (a : Vec F S128x1024 .f32) (lam : Vec F S1x512 .f32) (g : Vec F S128x512 .f32) : FVec F S1x1x128x512 .bf16 :=
  k0_pay1 l (VecWindow.window a ![0, 0] S128x512.size inb_S128x1024_S128x512_0_0) (VecWindow.window a ![0, 512] S128x512.size inb_S128x1024_S128x512_0_512) lam g

/-- The results of query block `i`. -/
def outRow (lam : Vec F S1x512 .f32) (Q : Vec F S1x16x128x512 .bf16) (K : Vec F S1x8192x128 .bf16) (V : Vec F S1x16x128x512 .bf16) (g : Vec F S128x512 .f32)
    (i : ℕ) : FVec F S1x1x128x512 .bf16 :=
  finish (lRow (kBlk K) (qMat Q i) (i / 8) (i % 8)) (aRow (kBlk K) (vBlk V) (qMat Q i) (i / 8) (i % 8)) lam g

/-- The results of the grid point: block `i` in place `i`. -/
def outBlk (lam : Vec F S1x512 .f32) (Q : Vec F S1x16x128x512 .bf16) (K : Vec F S1x8192x128 .bf16) (V : Vec F S1x16x128x512 .bf16) (g : Vec F S128x512 .f32) :
    Vec F S1x16x128x512 .bf16 :=
  fun y => outRow lam Q K V g (y 1).val (ix4 0 0 (y 2) (y 3))

/-! ## Reading the windows -/

/-- A load of 512 rows of keys is a key block. -/
theorem readAt_kBlk {arg4 : Memref sig .tc .vmem S1x8192x128 .bf16} (f : BufTy.Contents (Elt F) arg4.view.ty) (j : ℕ) (off : Fin 3 → ℕ)
    (h : off 1 = 512 * j) (inb : ∀ a, off a + S1x512x128.size a ≤ S1x8192x128.size a) :
    View.readAt (Elt F) arg4.view (Rect.unit (s := S1x8192x128) off S1x512x128.size inb).toLoadRect f = kBlk (arg4.view.read (Elt F) f) j := by
  funext y
  have h0 := inb 0; have h1 := inb 1; have h2 := inb 2
  have y0 := (y 0).isLt; have y1 := (y 1).isLt; have y2 := (y 2).isLt
  change off 0 + 1 ≤ 1 at h0; change off 1 + 512 ≤ 8192 at h1; change off 2 + 128 ≤ 128 at h2
  change (y 0).val < 1 at y0; change (y 1).val < 512 at y1; change (y 2).val < 128 at y2
  refine congrArg (arg4.view.read (Elt F) f) (funext fun a => Fin.ext ?_)
  fin_cases a
  · change off 0 + 1 * (y 0).val = 0; omega
  · change off 1 + 1 * (y 1).val = (512 * j + (y 1).val) % 8192; omega
  · change off 2 + 1 * (y 2).val = (y 2).val; omega

/-- A load of one block of values. -/
theorem readAt_vBlk {arg5 : Memref sig .tc .vmem S1x16x128x512 .bf16} (f : BufTy.Contents (Elt F) arg5.view.ty) (j : ℕ) (off : Fin 4 → ℕ)
    (h : off 1 = j) (inb : ∀ a, off a + S1x1x128x512.size a ≤ S1x16x128x512.size a) :
    View.readAt (Elt F) arg5.view (Rect.unit (s := S1x16x128x512) off S1x1x128x512.size inb).toLoadRect f = vBlk (arg5.view.read (Elt F) f) j := by
  funext y
  have h0 := inb 0; have h1 := inb 1; have h2 := inb 2; have h3 := inb 3
  have y0 := (y 0).isLt; have y1 := (y 1).isLt
  change off 0 + 1 ≤ 1 at h0; change off 1 + 1 ≤ 16 at h1; change off 2 + 128 ≤ 128 at h2; change off 3 + 512 ≤ 512 at h3
  change (y 0).val < 1 at y0; change (y 1).val < 1 at y1
  refine congrArg (arg5.view.read (Elt F) f) (funext fun a => Fin.ext ?_)
  fin_cases a
  · change off 0 + 1 * (y 0).val = 0; omega
  · change off 1 + 1 * (y 1).val = (j + (y 1).val) % 16; omega
  · change off 2 + 1 * (y 2).val = (y 2).val; omega
  · change off 3 + 1 * (y 3).val = (y 3).val; omega

end Cert.Proof.KernelIdeal
end
-- ==== Proof.KernelIdeal.Inner.lean ====
module

public import proofs.«01_k».proof.Proof.KernelIdeal.Spec
public import Idealize.ShloMosaic.Lib.Exec
public import Idealize.ShloMosaic.Lib.Tactic
public import Idealize.ShloMosaic.Lib.VecWindow
public import Idealize.ShloMosaic.Lib.ValueIdx
public import Idealize.ShloMosaic.Lib.ValueLayout
public import Idealize.ShloMosaic.Lib.Pipeline.Value
public import Idealize.ShloMosaic.Lib.Pipeline.Kit

@[expose] public section

set_option maxRecDepth 8192

noncomputable section

namespace Cert.Proof.KernelIdeal
open Cert.KernelIdeal Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # The inner loop's rounds, and the query matrix

The loop over rounds of eight whole key blocks adds to the running sums; the second inner loop makes no
round at all. -/

/-- A block without its two unit axes. -/
theorem drop11_apply (x : Vec F S1x1x64x512 .bf16) (z : S64x512.Idx) :
    shapeCast S64x512 x shapeCasts_S1x1x64x512_S64x512 z = x (ix4 0 0 (z 0) (z 1)) :=
  shapeCast_apply _ _ _ _ (by
    rw [Shape.rowMajor_val_four, Shape.rowMajor_val_two]
    change ((0 * 1 + 0) * 64 + (z 0).val) * 512 + (z 1).val = (z 0).val * 512 + (z 1).val
    omega)

theorem pay145_apply (x : Vec F S1x1x64x512 .bf16) (z : S64x512.Idx) : k0_pay145 x z = x (ix4 0 0 (z 0) (z 1)) := by
  unfold k0_pay145; rw [shapeCast_self]; exact drop11_apply x z

theorem pay148_apply (x : Vec F S1x1x64x512 .bf16) (z : S64x512.Idx) : k0_pay148 x z = x (ix4 0 0 (z 0) (z 1)) := by
  unfold k0_pay148; rw [shapeCast_self]; exact drop11_apply x z

theorem pay146_eq : k0_pay146 (F := F) = fun _ => Scalar.ofBits .bf16 0x0000#16 := by
  unfold k0_pay146; rw [shapeCast_self]; rfl

theorem pay147_eq : k0_pay147 (F := F) = fun _ => Scalar.ofBits .bf16 0x0000#16 := by
  unfold k0_pay147; rw [shapeCast_self]; rfl

/-- The four stores that lay out the queries leave the query matrix. -/
theorem read_qMat {arg3 : Memref sig .tc .vmem S1x16x128x512 .bf16} {arg8 : Memref sig .tc .vmem S128x1024 .bf16} (t : Fin k0_t1_loop.trips)
    (X3 : BufTy.Contents (Elt F) arg3.view.ty) (f : BufTy.Contents (Elt F) arg8.view.ty) :
    arg8.view.read (Elt F) (arg8.view.writes (Elt F) f
      [⟨Rect.unit (s := S128x1024) ![64, 512] S64x512.size inb_S128x1024_S64x512_64_512, k0_pay148 (View.readAt (Elt F) arg3.view (Rect.unit (s := S1x16x128x512) (k0_off2 t) S1x1x64x512.size (k0_off2_inb t)).toLoadRect X3)⟩,
       ⟨Rect.unit (s := S128x1024) ![64, 0] S64x512.size inb_S128x1024_S64x512_64_0, k0_pay147⟩,
       ⟨Rect.unit (s := S128x1024) ![0, 512] S64x512.size inb_S128x1024_S64x512_0_512, k0_pay146⟩,
       ⟨Rect.unit (s := S128x1024) ![0, 0] S64x512.size inb_S128x1024_S64x512_0_0, k0_pay145 (View.readAt (Elt F) arg3.view (Rect.unit (s := S1x16x128x512) (k0_off1 t) S1x1x64x512.size (k0_off1_inb t)).toLoadRect X3)⟩])
      = qMat (arg3.view.read (Elt F) X3) t.val := by
  rw [View.read_writes_cons_put _ _ _ _ _ rfl, View.read_writes_cons_put _ _ _ _ _ rfl, View.read_writes_cons_put _ _ _ _ _ rfl, View.read_writes_cons_put _ _ _ _ _ rfl]
  funext y
  unfold qMat VecWindow.put
  have y0 := (y 0).isLt; have y1 := (y 1).isLt
  change (y 0).val < 128 at y0; change (y 1).val < 1024 at y1
  by_cases h0 : (y 0).val < 64 <;> by_cases h1 : (y 1).val < 512
  · rw [dif_neg (by intro h; have := (h 0).1; change 64 ≤ (y 0).val at this; omega),
      dif_neg (by intro h; have := (h 0).1; change 64 ≤ (y 0).val at this; omega),
      dif_neg (by intro h; have := (h 1).1; change 512 ≤ (y 1).val at this; omega),
      dif_pos (by rw [Fin.forall_fin_two]; exact ⟨⟨Nat.zero_le _, by change _ < 0 + 64; omega⟩, ⟨Nat.zero_le _, by change _ < 0 + 512; omega⟩⟩),
      if_pos h0, dif_pos h1]
    refine (pay145_apply _ _).trans ?_
    refine congrArg (arg3.view.read (Elt F) X3) (funext fun a => Fin.ext ?_)
    have ht : t.val < 16 := t.isLt
    have e := k0_off1_eq t
    fin_cases a
    · change k0_off1 t 0 + 1 * 0 = 0; rw [e]; rfl
    · change k0_off1 t 1 + 1 * 0 = t.val % 16; rw [e]; change t.val + 1 * 0 = _; omega
    · change k0_off1 t 2 + 1 * ((y 0).val - 0) = (y 0).val; rw [e]; change 0 + 1 * _ = _; omega
    · change k0_off1 t 3 + 1 * ((y 1).val - 0) = (y 1).val; rw [e]; change 0 + 1 * _ = _; omega
  · rw [dif_neg (by intro h; have := (h 0).1; change 64 ≤ (y 0).val at this; omega),
      dif_neg (by intro h; have := (h 0).1; change 64 ≤ (y 0).val at this; omega),
      dif_pos (by rw [Fin.forall_fin_two]; exact ⟨⟨Nat.zero_le _, by change _ < 0 + 64; omega⟩, ⟨by change 512 ≤ _; omega, by change _ < 512 + 512; omega⟩⟩),
      if_pos h0, dif_neg h1]
    rw [pay146_eq]
  · rw [dif_neg (by intro h; have := (h 1).1; change 512 ≤ (y 1).val at this; omega),
      dif_pos (by rw [Fin.forall_fin_two]; exact ⟨⟨by change 64 ≤ _; omega, by change _ < 64 + 64; omega⟩, ⟨Nat.zero_le _, by change _ < 0 + 512; omega⟩⟩),
      if_neg h0, dif_pos h1]
    rw [pay147_eq]
  · rw [dif_pos (by rw [Fin.forall_fin_two]; exact ⟨⟨by change 64 ≤ _; omega, by change _ < 64 + 64; omega⟩, ⟨by change 512 ≤ _; omega, by change _ < 512 + 512; omega⟩⟩),
      if_neg h0, dif_neg h1]
    refine (pay148_apply _ _).trans ?_
    refine congrArg (arg3.view.read (Elt F) X3) (funext fun a => Fin.ext ?_)
    have ht : t.val < 16 := t.isLt
    have e := k0_off2_eq t
    fin_cases a
    · change k0_off2 t 0 + 1 * 0 = 0; rw [e]; rfl
    · change k0_off2 t 1 + 1 * 0 = t.val % 16; rw [e]; change t.val + 1 * 0 = _; omega
    · change k0_off2 t 2 + 1 * ((y 0).val - 64) = (y 0).val; rw [e]; change 64 + 1 * _ = _; omega
    · change k0_off2 t 3 + 1 * ((y 1).val - 512) = (y 1).val - 512; rw [e]; change 0 + 1 * _ = _; omega

/-- The trips of the first inner loop: one for each eight whole blocks. -/
theorem trips_t2 : ∀ t : Fin k0_t1_loop.trips, Scf.trips (k0_t2_loop t).lb (k0_t2_loop t).ub (k0_t2_loop t).st = t.val / 8 := by decide +kernel

/-- The second inner loop makes none. -/
theorem trips_t3 : ∀ t : Fin k0_t1_loop.trips, Scf.trips (k0_t3_loop t).lb (k0_t3_loop t).ub (k0_t3_loop t).st = 0 := by decide +kernel

theorem word_eq (w : BitVec 32) : BitVec.ofNat 32 w.toNat = w := by simp

/-- The key block a load of a round reads. -/
theorem readAt_off3 {arg4 : Memref sig .tc .vmem S1x8192x128 .bf16} (f : BufTy.Contents (Elt F) arg4.view.ty) (t : Fin k0_t1_loop.trips)
    (k : Fin (k0_t2_loop t).trips) (w : BitVec 32) (hw : w.toNat < 8) (inb : ∀ a, k0_off3 t k w a + S1x512x128.size a ≤ S1x8192x128.size a) :
    View.readAt (Elt F) arg4.view (Rect.unit (s := S1x8192x128) (k0_off3 t k w) S1x512x128.size inb).toLoadRect f
      = kBlk (arg4.view.read (Elt F) f) (8 * k.val + w.toNat) := by
  refine readAt_kBlk f _ _ ?_ inb
  have e := k0_off3_eq t k ⟨w.toNat, hw⟩
  rw [word_eq] at e
  rw [e]
  change 4096 * k.val + 512 * w.toNat = _
  omega

/-- The value block a load of a round reads. -/
theorem readAt_off4 {arg5 : Memref sig .tc .vmem S1x16x128x512 .bf16} (f : BufTy.Contents (Elt F) arg5.view.ty) (t : Fin k0_t1_loop.trips)
    (k : Fin (k0_t2_loop t).trips) (w : BitVec 32) (hw : w.toNat < 8) (inb : ∀ a, k0_off4 t k w a + S1x1x128x512.size a ≤ S1x16x128x512.size a) :
    View.readAt (Elt F) arg5.view (Rect.unit (s := S1x16x128x512) (k0_off4 t k w) S1x1x128x512.size inb).toLoadRect f
      = vBlk (arg5.view.read (Elt F) f) (8 * k.val + w.toNat) := by
  refine readAt_vBlk f _ _ ?_ inb
  have e := k0_off4_eq t k ⟨w.toNat, hw⟩
  rw [word_eq] at e
  rw [e]
  rfl

/-- One round adds the sums of its eight blocks. -/
theorem pb_t2_read (c : Dev nD) (i : grid0.Coords) (arg2 : Memref sig .tc .vmem S1x512 .f32) (harg2 : arg2.IsWhole) (arg3 : Memref sig .tc .vmem S1x16x128x512 .bf16) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S128x512 .f32) (harg6 : arg6.IsWhole) (arg7 : Memref sig .tc .vmem S1x16x128x512 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S8x1024 .f32) (harg10 : arg10.IsWhole) (arg11 : Memref sig .tc .vmem S128x1024 .f32) (harg11 : arg11.IsWhole) (t : Fin k0_t1_loop.trips) (a12 v28 v29 : BitVec 32)
    (X4 : BufTy.Contents (Elt F) arg4.view.ty) (X5 : BufTy.Contents (Elt F) arg5.view.ty) (X8 : BufTy.Contents (Elt F) arg8.view.ty)
    (G10 : BufTy.Contents (Elt F) arg10.view.ty) (G11 : BufTy.Contents (Elt F) arg11.view.ty) (n : ℕ) (hn : n ≤ (k0_t2_loop t).trips) :
    arg10.view.read (Elt F) (arg10.view.writes (Elt F) G10 (pb_k0_t2 (F := F) Variants.none c none i arg2 harg2 arg3 harg3 arg4 harg4 arg5 harg5 arg6 harg6 arg7 harg7 arg8 harg8 arg9 harg9 arg10 harg10 arg11 harg11 t a12 v28 v29 X4 X5 X8 G10 G11 n).1)
        = lRun (kBlk (arg4.view.read (Elt F) X4)) (arg8.view.read (Elt F) X8) (arg10.view.read (Elt F) G10) n
    ∧ arg11.view.read (Elt F) (arg11.view.writes (Elt F) G11 (pb_k0_t2 (F := F) Variants.none c none i arg2 harg2 arg3 harg3 arg4 harg4 arg5 harg5 arg6 harg6 arg7 harg7 arg8 harg8 arg9 harg9 arg10 harg10 arg11 harg11 t a12 v28 v29 X4 X5 X8 G10 G11 n).2)
        = aRun (kBlk (arg4.view.read (Elt F) X4)) (vBlk (arg5.view.read (Elt F) X5)) (arg8.view.read (Elt F) X8) (arg11.view.read (Elt F) G11) n := by
  induction n with
  | zero => exact ⟨rfl, rfl⟩
  | succ n ih =>
    obtain ⟨ih1, ih2⟩ := ih (Nat.le_of_succ_le hn)
    have e := pb_k0_t2_succ (F := F) Variants.none c none i arg2 harg2 arg3 harg3 arg4 harg4 arg5 harg5 arg6 harg6 arg7 harg7 arg8 harg8 arg9 harg9 arg10 harg10 arg11 harg11 t a12 v28 v29 X4 X5 X8 G10 G11 ⟨n, hn⟩
    rw [e]
    clear e ih
    generalize pb_k0_t2 (F := F) Variants.none c none i arg2 harg2 arg3 harg3 arg4 harg4 arg5 harg5 arg6 harg6 arg7 harg7 arg8 harg8 arg9 harg9 arg10 harg10 arg11 harg11 t a12 v28 v29 X4 X5 X8 G10 G11 n = P at ih1 ih2 ⊢
    rw [View.writes_append, View.writes_append]
    generalize hG : arg10.view.writes (Elt F) G10 P.1 = g10 at ih1 ⊢
    generalize hG' : arg11.view.writes (Elt F) G11 P.2 = g11 at ih2 ⊢
    delta tripL_k0_t2 trip_k0_t2
    refine ⟨(View.read_writes_full _ _ _ _ _).trans ?_, (View.read_writes_full _ _ _ _ _).trans ?_⟩
    · simp (config := { proj := false }) (disch := decide) only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, View.readAt_full, readAt_off3, readAt_off4, ih1, ih2]
      rfl
    · simp (config := { proj := false }) (disch := decide) only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, View.readAt_full, readAt_off3, readAt_off4, ih1, ih2]
      rfl

/-- The column sums after all the rounds. -/
theorem pb_t2_read10 (c : Dev nD) (i : grid0.Coords) (arg2 : Memref sig .tc .vmem S1x512 .f32) (harg2 : arg2.IsWhole) (arg3 : Memref sig .tc .vmem S1x16x128x512 .bf16) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S128x512 .f32) (harg6 : arg6.IsWhole) (arg7 : Memref sig .tc .vmem S1x16x128x512 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S8x1024 .f32) (harg10 : arg10.IsWhole) (arg11 : Memref sig .tc .vmem S128x1024 .f32) (harg11 : arg11.IsWhole) (t : Fin k0_t1_loop.trips) (a12 v28 v29 : BitVec 32)
    (X4 : BufTy.Contents (Elt F) arg4.view.ty) (X5 : BufTy.Contents (Elt F) arg5.view.ty) (X8 : BufTy.Contents (Elt F) arg8.view.ty)
    (G10 : BufTy.Contents (Elt F) arg10.view.ty) (G11 : BufTy.Contents (Elt F) arg11.view.ty) :
    arg10.view.read (Elt F) (arg10.view.writes (Elt F) G10 (pb_k0_t2 (F := F) Variants.none c none i arg2 harg2 arg3 harg3 arg4 harg4 arg5 harg5 arg6 harg6 arg7 harg7 arg8 harg8 arg9 harg9 arg10 harg10 arg11 harg11 t a12 v28 v29 X4 X5 X8 G10 G11 (Scf.trips (k0_t2_loop t).lb (k0_t2_loop t).ub (k0_t2_loop t).st)).1)
        = lRun (kBlk (arg4.view.read (Elt F) X4)) (arg8.view.read (Elt F) X8) (arg10.view.read (Elt F) G10) (t.val / 8) := by
  rw [← trips_t2 t]
  exact (pb_t2_read c i arg2 harg2 arg3 harg3 arg4 harg4 arg5 harg5 arg6 harg6 arg7 harg7 arg8 harg8 arg9 harg9 arg10 harg10 arg11 harg11 t a12 v28 v29 X4 X5 X8 G10 G11 _ le_rfl).1

/-- The weighted values after all the rounds. -/
theorem pb_t2_read11 (c : Dev nD) (i : grid0.Coords) (arg2 : Memref sig .tc .vmem S1x512 .f32) (harg2 : arg2.IsWhole) (arg3 : Memref sig .tc .vmem S1x16x128x512 .bf16) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S128x512 .f32) (harg6 : arg6.IsWhole) (arg7 : Memref sig .tc .vmem S1x16x128x512 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S8x1024 .f32) (harg10 : arg10.IsWhole) (arg11 : Memref sig .tc .vmem S128x1024 .f32) (harg11 : arg11.IsWhole) (t : Fin k0_t1_loop.trips) (a12 v28 v29 : BitVec 32)
    (X4 : BufTy.Contents (Elt F) arg4.view.ty) (X5 : BufTy.Contents (Elt F) arg5.view.ty) (X8 : BufTy.Contents (Elt F) arg8.view.ty)
    (G10 : BufTy.Contents (Elt F) arg10.view.ty) (G11 : BufTy.Contents (Elt F) arg11.view.ty) :
    arg11.view.read (Elt F) (arg11.view.writes (Elt F) G11 (pb_k0_t2 (F := F) Variants.none c none i arg2 harg2 arg3 harg3 arg4 harg4 arg5 harg5 arg6 harg6 arg7 harg7 arg8 harg8 arg9 harg9 arg10 harg10 arg11 harg11 t a12 v28 v29 X4 X5 X8 G10 G11 (Scf.trips (k0_t2_loop t).lb (k0_t2_loop t).ub (k0_t2_loop t).st)).2)
        = aRun (kBlk (arg4.view.read (Elt F) X4)) (vBlk (arg5.view.read (Elt F) X5)) (arg8.view.read (Elt F) X8) (arg11.view.read (Elt F) G11) (t.val / 8) := by
  rw [← trips_t2 t]
  exact (pb_t2_read c i arg2 harg2 arg3 harg3 arg4 harg4 arg5 harg5 arg6 harg6 arg7 harg7 arg8 harg8 arg9 harg9 arg10 harg10 arg11 harg11 t a12 v28 v29 X4 X5 X8 G10 G11 _ le_rfl).2

/-- The second inner loop stores nothing. -/
theorem pb_t3_nil1 (c : Dev nD) (i : grid0.Coords) (arg2 : Memref sig .tc .vmem S1x512 .f32) (harg2 : arg2.IsWhole) (arg3 : Memref sig .tc .vmem S1x16x128x512 .bf16) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S128x512 .f32) (harg6 : arg6.IsWhole) (arg7 : Memref sig .tc .vmem S1x16x128x512 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S8x1024 .f32) (harg10 : arg10.IsWhole) (arg11 : Memref sig .tc .vmem S128x1024 .f32) (harg11 : arg11.IsWhole) (t : Fin k0_t1_loop.trips) (a12 v28 v29 v34 : BitVec 32)
    (X4 : BufTy.Contents (Elt F) arg4.view.ty) (X5 : BufTy.Contents (Elt F) arg5.view.ty) (X8 : BufTy.Contents (Elt F) arg8.view.ty)
    (G10 : BufTy.Contents (Elt F) arg10.view.ty) (G11 : BufTy.Contents (Elt F) arg11.view.ty) :
    (pb_k0_t3 (F := F) Variants.none c none i arg2 harg2 arg3 harg3 arg4 harg4 arg5 harg5 arg6 harg6 arg7 harg7 arg8 harg8 arg9 harg9 arg10 harg10 arg11 harg11 t a12 v28 v29 v34 X4 X5 X8 G10 G11 (Scf.trips (k0_t3_loop t).lb (k0_t3_loop t).ub (k0_t3_loop t).st)).1 = [] := by
  rw [trips_t3 t]; rfl

/-- The second inner loop stores nothing, in either buffer. -/
theorem pb_t3_nil2 (c : Dev nD) (i : grid0.Coords) (arg2 : Memref sig .tc .vmem S1x512 .f32) (harg2 : arg2.IsWhole) (arg3 : Memref sig .tc .vmem S1x16x128x512 .bf16) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S128x512 .f32) (harg6 : arg6.IsWhole) (arg7 : Memref sig .tc .vmem S1x16x128x512 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S8x1024 .f32) (harg10 : arg10.IsWhole) (arg11 : Memref sig .tc .vmem S128x1024 .f32) (harg11 : arg11.IsWhole) (t : Fin k0_t1_loop.trips) (a12 v28 v29 v34 : BitVec 32)
    (X4 : BufTy.Contents (Elt F) arg4.view.ty) (X5 : BufTy.Contents (Elt F) arg5.view.ty) (X8 : BufTy.Contents (Elt F) arg8.view.ty)
    (G10 : BufTy.Contents (Elt F) arg10.view.ty) (G11 : BufTy.Contents (Elt F) arg11.view.ty) :
    (pb_k0_t3 (F := F) Variants.none c none i arg2 harg2 arg3 harg3 arg4 harg4 arg5 harg5 arg6 harg6 arg7 harg7 arg8 harg8 arg9 harg9 arg10 harg10 arg11 harg11 t a12 v28 v29 v34 X4 X5 X8 G10 G11 (Scf.trips (k0_t3_loop t).lb (k0_t3_loop t).ub (k0_t3_loop t).st)).2 = [] := by
  rw [trips_t3 t]; rfl

end Cert.Proof.KernelIdeal
end
-- ==== Proof.KernelIdeal.Trip.lean ====
module

public import proofs.«01_k».proof.Proof.KernelIdeal.Inner
public import Idealize.ShloMosaic.Lib.Exec
public import Idealize.ShloMosaic.Lib.Tactic
public import Idealize.ShloMosaic.Lib.VecWindow
public import Idealize.ShloMosaic.Lib.ValueIdx
public import Idealize.ShloMosaic.Lib.ValueLayout
public import Idealize.ShloMosaic.Lib.Pipeline.Value
public import Idealize.ShloMosaic.Lib.Pipeline.Kit

@[expose] public section

set_option maxRecDepth 8192

noncomputable section

namespace Cert.Proof.KernelIdeal
open Cert.KernelIdeal Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frames. -/
local notation "𝕄G" => MT nD τ sig Unit (Elt F) ℕ (UR sig nD τ) ℕ

/-! # One query block

The loop over query blocks treats a block by its number modulo 8: so many key blocks remain after the
rounds of eight. Each of the eight cases is run once, and each leaves the block's results in place. -/

/-- What one query block works on: the windows it reads and the buffers it writes. -/
abbrev Held (c : Dev nD) (arg2 : Memref sig .tc .vmem S1x512 .f32) (arg3 : Memref sig .tc .vmem S1x16x128x512 .bf16) (arg4 : Memref sig .tc .vmem S1x8192x128 .bf16) (arg5 : Memref sig .tc .vmem S1x16x128x512 .bf16) (arg6 : Memref sig .tc .vmem S128x512 .f32) (arg7 : Memref sig .tc .vmem S1x16x128x512 .bf16) (arg8 : Memref sig .tc .vmem S128x1024 .bf16) (arg10 : Memref sig .tc .vmem S8x1024 .f32) (arg11 : Memref sig .tc .vmem S128x1024 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f10 : BufTy.Contents (Elt F) arg10.view.ty) (f11 : BufTy.Contents (Elt F) arg11.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11))

variable (c : Dev nD) (i : grid0.Coords)
  (arg2 : Memref sig .tc .vmem S1x512 .f32) (harg2 : arg2.IsWhole)
  (arg3 : Memref sig .tc .vmem S1x16x128x512 .bf16) (harg3 : arg3.IsWhole)
  (arg4 : Memref sig .tc .vmem S1x8192x128 .bf16) (harg4 : arg4.IsWhole)
  (arg5 : Memref sig .tc .vmem S1x16x128x512 .bf16) (harg5 : arg5.IsWhole)
  (arg6 : Memref sig .tc .vmem S128x512 .f32) (harg6 : arg6.IsWhole)
  (arg7 : Memref sig .tc .vmem S1x16x128x512 .bf16) (harg7 : arg7.IsWhole)
  (arg8 : Memref sig .tc .vmem S128x1024 .bf16) (harg8 : arg8.IsWhole)
  (arg9 : Memref sig .tc .vmem S1x1024 .f32) (harg9 : arg9.IsWhole)
  (arg10 : Memref sig .tc .vmem S8x1024 .f32) (harg10 : arg10.IsWhole)
  (arg11 : Memref sig .tc .vmem S128x1024 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)

/-- The key block a query block of case 0 reads. -/
theorem readAt_off7 {arg4 : Memref sig .tc .vmem S1x8192x128 .bf16} (f : BufTy.Contents (Elt F) arg4.view.ty) (t : Fin k0_t1_loop.trips)
    (h : k0_cond1 t = 1#1) (inb : ∀ a, k0_off7 t a + S1x512x128.size a ≤ S1x8192x128.size a) :
    View.readAt (Elt F) arg4.view (Rect.unit (s := S1x8192x128) (k0_off7 t) S1x512x128.size inb).toLoadRect f
      = kBlk (arg4.view.read (Elt F) f) (8 * (t.val / 8) + 0) :=
  readAt_kBlk f _ _ ((by decide +kernel : ∀ t, k0_cond1 t = 1#1 → k0_off7 t 1 = 512 * (8 * (t.val / 8) + 0)) t h) inb

/-- The value block it reads. -/
theorem readAt_off8 {arg5 : Memref sig .tc .vmem S1x16x128x512 .bf16} (f : BufTy.Contents (Elt F) arg5.view.ty) (t : Fin k0_t1_loop.trips)
    (h : k0_cond1 t = 1#1) (inb : ∀ a, k0_off8 t a + S1x1x128x512.size a ≤ S1x16x128x512.size a) :
    View.readAt (Elt F) arg5.view (Rect.unit (s := S1x16x128x512) (k0_off8 t) S1x1x128x512.size inb).toLoadRect f
      = vBlk (arg5.view.read (Elt F) f) (8 * (t.val / 8) + 0) :=
  readAt_vBlk f _ _ ((by decide +kernel : ∀ t, k0_cond1 t = 1#1 → k0_off8 t 1 = 8 * (t.val / 8) + 0) t h) inb

/-- A key block that a query block of case 1 reads. -/
theorem readAt_off9 {arg4 : Memref sig .tc .vmem S1x8192x128 .bf16} (f : BufTy.Contents (Elt F) arg4.view.ty) (t : Fin k0_t1_loop.trips)
    (h : k0_cond2 t = 1#1) (w : BitVec 32) (hw : w.toNat < 2) (inb : ∀ a, k0_off9 t w a + S1x512x128.size a ≤ S1x8192x128.size a) :
    View.readAt (Elt F) arg4.view (Rect.unit (s := S1x8192x128) (k0_off9 t w) S1x512x128.size inb).toLoadRect f
      = kBlk (arg4.view.read (Elt F) f) (8 * (t.val / 8) + w.toNat) := by
  have e := (by decide +kernel : ∀ t, k0_cond2 t = 1#1 → ∀ u : Fin 2, k0_off9 t (BitVec.ofNat 32 u.val) 1 = 512 * (8 * (t.val / 8) + u.val)) t h ⟨w.toNat, hw⟩
  rw [word_eq] at e
  exact readAt_kBlk f _ _ e inb

/-- A value block it reads. -/
theorem readAt_off10 {arg5 : Memref sig .tc .vmem S1x16x128x512 .bf16} (f : BufTy.Contents (Elt F) arg5.view.ty) (t : Fin k0_t1_loop.trips)
    (h : k0_cond2 t = 1#1) (w : BitVec 32) (hw : w.toNat < 2) (inb : ∀ a, k0_off10 t w a + S1x1x128x512.size a ≤ S1x16x128x512.size a) :
    View.readAt (Elt F) arg5.view (Rect.unit (s := S1x16x128x512) (k0_off10 t w) S1x1x128x512.size inb).toLoadRect f
      = vBlk (arg5.view.read (Elt F) f) (8 * (t.val / 8) + w.toNat) := by
  have e := (by decide +kernel : ∀ t, k0_cond2 t = 1#1 → ∀ u : Fin 2, k0_off10 t (BitVec.ofNat 32 u.val) 1 = 8 * (t.val / 8) + u.val) t h ⟨w.toNat, hw⟩
  rw [word_eq] at e
  exact readAt_vBlk f _ _ e inb

/-- A key block that a query block of case 2 reads. -/
theorem readAt_off11 {arg4 : Memref sig .tc .vmem S1x8192x128 .bf16} (f : BufTy.Contents (Elt F) arg4.view.ty) (t : Fin k0_t1_loop.trips)
    (h : k0_cond3 t = 1#1) (w : BitVec 32) (hw : w.toNat < 3) (inb : ∀ a, k0_off11 t w a + S1x512x128.size a ≤ S1x8192x128.size a) :
    View.readAt (Elt F) arg4.view (Rect.unit (s := S1x8192x128) (k0_off11 t w) S1x512x128.size inb).toLoadRect f
      = kBlk (arg4.view.read (Elt F) f) (8 * (t.val / 8) + w.toNat) := by
  have e := (by decide +kernel : ∀ t, k0_cond3 t = 1#1 → ∀ u : Fin 3, k0_off11 t (BitVec.ofNat 32 u.val) 1 = 512 * (8 * (t.val / 8) + u.val)) t h ⟨w.toNat, hw⟩
  rw [word_eq] at e
  exact readAt_kBlk f _ _ e inb

/-- A value block it reads. -/
theorem readAt_off12 {arg5 : Memref sig .tc .vmem S1x16x128x512 .bf16} (f : BufTy.Contents (Elt F) arg5.view.ty) (t : Fin k0_t1_loop.trips)
    (h : k0_cond3 t = 1#1) (w : BitVec 32) (hw : w.toNat < 3) (inb : ∀ a, k0_off12 t w a + S1x1x128x512.size a ≤ S1x16x128x512.size a) :
    View.readAt (Elt F) arg5.view (Rect.unit (s := S1x16x128x512) (k0_off12 t w) S1x1x128x512.size inb).toLoadRect f
      = vBlk (arg5.view.read (Elt F) f) (8 * (t.val / 8) + w.toNat) := by
  have e := (by decide +kernel : ∀ t, k0_cond3 t = 1#1 → ∀ u : Fin 3, k0_off12 t (BitVec.ofNat 32 u.val) 1 = 8 * (t.val / 8) + u.val) t h ⟨w.toNat, hw⟩
  rw [word_eq] at e
  exact readAt_vBlk f _ _ e inb

/-- A key block that a query block of case 3 reads. -/
theorem readAt_off13 {arg4 : Memref sig .tc .vmem S1x8192x128 .bf16} (f : BufTy.Contents (Elt F) arg4.view.ty) (t : Fin k0_t1_loop.trips)
    (h : k0_cond4 t = 1#1) (w : BitVec 32) (hw : w.toNat < 4) (inb : ∀ a, k0_off13 t w a + S1x512x128.size a ≤ S1x8192x128.size a) :
    View.readAt (Elt F) arg4.view (Rect.unit (s := S1x8192x128) (k0_off13 t w) S1x512x128.size inb).toLoadRect f
      = kBlk (arg4.view.read (Elt F) f) (8 * (t.val / 8) + w.toNat) := by
  have e := (by decide +kernel : ∀ t, k0_cond4 t = 1#1 → ∀ u : Fin 4, k0_off13 t (BitVec.ofNat 32 u.val) 1 = 512 * (8 * (t.val / 8) + u.val)) t h ⟨w.toNat, hw⟩
  rw [word_eq] at e
  exact readAt_kBlk f _ _ e inb

/-- A value block it reads. -/
theorem readAt_off14 {arg5 : Memref sig .tc .vmem S1x16x128x512 .bf16} (f : BufTy.Contents (Elt F) arg5.view.ty) (t : Fin k0_t1_loop.trips)
    (h : k0_cond4 t = 1#1) (w : BitVec 32) (hw : w.toNat < 4) (inb : ∀ a, k0_off14 t w a + S1x1x128x512.size a ≤ S1x16x128x512.size a) :
    View.readAt (Elt F) arg5.view (Rect.unit (s := S1x16x128x512) (k0_off14 t w) S1x1x128x512.size inb).toLoadRect f
      = vBlk (arg5.view.read (Elt F) f) (8 * (t.val / 8) + w.toNat) := by
  have e := (by decide +kernel : ∀ t, k0_cond4 t = 1#1 → ∀ u : Fin 4, k0_off14 t (BitVec.ofNat 32 u.val) 1 = 8 * (t.val / 8) + u.val) t h ⟨w.toNat, hw⟩
  rw [word_eq] at e
  exact readAt_vBlk f _ _ e inb

/-- A key block that a query block of case 4 reads. -/
theorem readAt_off15 {arg4 : Memref sig .tc .vmem S1x8192x128 .bf16} (f : BufTy.Contents (Elt F) arg4.view.ty) (t : Fin k0_t1_loop.trips)
    (h : k0_cond5 t = 1#1) (w : BitVec 32) (hw : w.toNat < 5) (inb : ∀ a, k0_off15 t w a + S1x512x128.size a ≤ S1x8192x128.size a) :
    View.readAt (Elt F) arg4.view (Rect.unit (s := S1x8192x128) (k0_off15 t w) S1x512x128.size inb).toLoadRect f
      = kBlk (arg4.view.read (Elt F) f) (8 * (t.val / 8) + w.toNat) := by
  have e := (by decide +kernel : ∀ t, k0_cond5 t = 1#1 → ∀ u : Fin 5, k0_off15 t (BitVec.ofNat 32 u.val) 1 = 512 * (8 * (t.val / 8) + u.val)) t h ⟨w.toNat, hw⟩
  rw [word_eq] at e
  exact readAt_kBlk f _ _ e inb

/-- A value block it reads. -/
theorem readAt_off16 {arg5 : Memref sig .tc .vmem S1x16x128x512 .bf16} (f : BufTy.Contents (Elt F) arg5.view.ty) (t : Fin k0_t1_loop.trips)
    (h : k0_cond5 t = 1#1) (w : BitVec 32) (hw : w.toNat < 5) (inb : ∀ a, k0_off16 t w a + S1x1x128x512.size a ≤ S1x16x128x512.size a) :
    View.readAt (Elt F) arg5.view (Rect.unit (s := S1x16x128x512) (k0_off16 t w) S1x1x128x512.size inb).toLoadRect f
      = vBlk (arg5.view.read (Elt F) f) (8 * (t.val / 8) + w.toNat) := by
  have e := (by decide +kernel : ∀ t, k0_cond5 t = 1#1 → ∀ u : Fin 5, k0_off16 t (BitVec.ofNat 32 u.val) 1 = 8 * (t.val / 8) + u.val) t h ⟨w.toNat, hw⟩
  rw [word_eq] at e
  exact readAt_vBlk f _ _ e inb

/-- A key block that a query block of case 5 reads. -/
theorem readAt_off17 {arg4 : Memref sig .tc .vmem S1x8192x128 .bf16} (f : BufTy.Contents (Elt F) arg4.view.ty) (t : Fin k0_t1_loop.trips)
    (h : k0_cond6 t = 1#1) (w : BitVec 32) (hw : w.toNat < 6) (inb : ∀ a, k0_off17 t w a + S1x512x128.size a ≤ S1x8192x128.size a) :
    View.readAt (Elt F) arg4.view (Rect.unit (s := S1x8192x128) (k0_off17 t w) S1x512x128.size inb).toLoadRect f
      = kBlk (arg4.view.read (Elt F) f) (8 * (t.val / 8) + w.toNat) := by
  have e := (by decide +kernel : ∀ t, k0_cond6 t = 1#1 → ∀ u : Fin 6, k0_off17 t (BitVec.ofNat 32 u.val) 1 = 512 * (8 * (t.val / 8) + u.val)) t h ⟨w.toNat, hw⟩
  rw [word_eq] at e
  exact readAt_kBlk f _ _ e inb

/-- A value block it reads. -/
theorem readAt_off18 {arg5 : Memref sig .tc .vmem S1x16x128x512 .bf16} (f : BufTy.Contents (Elt F) arg5.view.ty) (t : Fin k0_t1_loop.trips)
    (h : k0_cond6 t = 1#1) (w : BitVec 32) (hw : w.toNat < 6) (inb : ∀ a, k0_off18 t w a + S1x1x128x512.size a ≤ S1x16x128x512.size a) :
    View.readAt (Elt F) arg5.view (Rect.unit (s := S1x16x128x512) (k0_off18 t w) S1x1x128x512.size inb).toLoadRect f
      = vBlk (arg5.view.read (Elt F) f) (8 * (t.val / 8) + w.toNat) := by
  have e := (by decide +kernel : ∀ t, k0_cond6 t = 1#1 → ∀ u : Fin 6, k0_off18 t (BitVec.ofNat 32 u.val) 1 = 8 * (t.val / 8) + u.val) t h ⟨w.toNat, hw⟩
  rw [word_eq] at e
  exact readAt_vBlk f _ _ e inb

/-- A key block that a query block of case 6 reads. -/
theorem readAt_off19 {arg4 : Memref sig .tc .vmem S1x8192x128 .bf16} (f : BufTy.Contents (Elt F) arg4.view.ty) (t : Fin k0_t1_loop.trips)
    (h : k0_cond7 t = 1#1) (w : BitVec 32) (hw : w.toNat < 7) (inb : ∀ a, k0_off19 t w a + S1x512x128.size a ≤ S1x8192x128.size a) :
    View.readAt (Elt F) arg4.view (Rect.unit (s := S1x8192x128) (k0_off19 t w) S1x512x128.size inb).toLoadRect f
      = kBlk (arg4.view.read (Elt F) f) (8 * (t.val / 8) + w.toNat) := by
  have e := (by decide +kernel : ∀ t, k0_cond7 t = 1#1 → ∀ u : Fin 7, k0_off19 t (BitVec.ofNat 32 u.val) 1 = 512 * (8 * (t.val / 8) + u.val)) t h ⟨w.toNat, hw⟩
  rw [word_eq] at e
  exact readAt_kBlk f _ _ e inb

/-- A value block it reads. -/
theorem readAt_off20 {arg5 : Memref sig .tc .vmem S1x16x128x512 .bf16} (f : BufTy.Contents (Elt F) arg5.view.ty) (t : Fin k0_t1_loop.trips)
    (h : k0_cond7 t = 1#1) (w : BitVec 32) (hw : w.toNat < 7) (inb : ∀ a, k0_off20 t w a + S1x1x128x512.size a ≤ S1x16x128x512.size a) :
    View.readAt (Elt F) arg5.view (Rect.unit (s := S1x16x128x512) (k0_off20 t w) S1x1x128x512.size inb).toLoadRect f
      = vBlk (arg5.view.read (Elt F) f) (8 * (t.val / 8) + w.toNat) := by
  have e := (by decide +kernel : ∀ t, k0_cond7 t = 1#1 → ∀ u : Fin 7, k0_off20 t (BitVec.ofNat 32 u.val) 1 = 8 * (t.val / 8) + u.val) t h ⟨w.toNat, hw⟩
  rw [word_eq] at e
  exact readAt_vBlk f _ _ e inb

/-- A key block that a query block of case 7 reads. -/
theorem readAt_off21 {arg4 : Memref sig .tc .vmem S1x8192x128 .bf16} (f : BufTy.Contents (Elt F) arg4.view.ty) (t : Fin k0_t1_loop.trips)
    (h : k0_cond8 t = 1#1) (w : BitVec 32) (hw : w.toNat < 8) (inb : ∀ a, k0_off21 t w a + S1x512x128.size a ≤ S1x8192x128.size a) :
    View.readAt (Elt F) arg4.view (Rect.unit (s := S1x8192x128) (k0_off21 t w) S1x512x128.size inb).toLoadRect f
      = kBlk (arg4.view.read (Elt F) f) (8 * (t.val / 8) + w.toNat) := by
  have e := (by decide +kernel : ∀ t, k0_cond8 t = 1#1 → ∀ u : Fin 8, k0_off21 t (BitVec.ofNat 32 u.val) 1 = 512 * (8 * (t.val / 8) + u.val)) t h ⟨w.toNat, hw⟩
  rw [word_eq] at e
  exact readAt_kBlk f _ _ e inb

/-- A value block it reads. -/
theorem readAt_off22 {arg5 : Memref sig .tc .vmem S1x16x128x512 .bf16} (f : BufTy.Contents (Elt F) arg5.view.ty) (t : Fin k0_t1_loop.trips)
    (h : k0_cond8 t = 1#1) (w : BitVec 32) (hw : w.toNat < 8) (inb : ∀ a, k0_off22 t w a + S1x1x128x512.size a ≤ S1x16x128x512.size a) :
    View.readAt (Elt F) arg5.view (Rect.unit (s := S1x16x128x512) (k0_off22 t w) S1x1x128x512.size inb).toLoadRect f
      = vBlk (arg5.view.read (Elt F) f) (8 * (t.val / 8) + w.toNat) := by
  have e := (by decide +kernel : ∀ t, k0_cond8 t = 1#1 → ∀ u : Fin 8, k0_off22 t (BitVec.ofNat 32 u.val) 1 = 8 * (t.val / 8) + u.val) t h ⟨w.toNat, hw⟩
  rw [word_eq] at e
  exact readAt_vBlk f _ _ e inb

/-- A load of one stream's half of the weighted values. -/
theorem readAt_half (v : View sig .tc .vmem S128x1024 .f32) (f : v.ty.Contents (Elt F)) (off : Fin 2 → ℕ) (inb : ∀ a, off a + S128x512.size a ≤ S128x1024.size a) :
    View.readAt (Elt F) v (Rect.unit (s := S128x1024) off S128x512.size inb).toLoadRect f = VecWindow.window (v.read (Elt F) f) off S128x512.size inb := rfl

/-- What a query block leaves: its results in its rows of the output, the windows as they were. -/
abbrev Left (t : Fin k0_t1_loop.trips) (f7 : BufTy.Contents (Elt F) arg7.view.ty) : sProp 𝕄G :=
  iprop(∃ g7 g8 g10 g11, Held c arg2 arg3 arg4 arg5 arg6 arg7 arg8 arg10 arg11 X2 X3 X4 X5 X6 g7 g8 g10 g11 ∗
    ⌜g7 = arg7.view.writes (Elt F) f7 [⟨Rect.unit (s := S1x16x128x512) (k0_off23 t) S1x1x128x512.size (k0_off23_inb t),
      outRow (arg2.view.read (Elt F) X2) (arg3.view.read (Elt F) X3) (arg4.view.read (Elt F) X4) (arg5.view.read (Elt F) X5) (arg6.view.read (Elt F) X6) t.val⟩]⌝)

set_option maxHeartbeats 4000000 in
/-- Case 0: 1 key block after the rounds of eight. -/
theorem trip0 (t : Fin k0_t1_loop.trips) (h1 : k0_cond1 t = 1#1) (h2 : ¬ k0_cond2 t = 1#1) (h3 : ¬ k0_cond3 t = 1#1) (h4 : ¬ k0_cond4 t = 1#1) (h5 : ¬ k0_cond5 t = 1#1) (h6 : ¬ k0_cond6 t = 1#1) (h7 : ¬ k0_cond7 t = 1#1) (h8 : ¬ k0_cond8 t = 1#1)
    (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  unfold k0_t1_body
  iintro ⟨H2, H3, H4, H5, H6, H7, H8, H10, H11⟩
  sl_exec
  sl_step
  have hr : t.val % 8 = 0 := (by decide +kernel : ∀ t, k0_cond1 t = 1#1 → t.val % 8 = 0) t h1
  iexists _, _, _, _
  isplitl [H2 H3 H4 H5 H6 H7 H8 H10 H11]
  · isplitl [H2]; iexact H2
    isplitl [H3]; iexact H3
    isplitl [H4]; iexact H4
    isplitl [H5]; iexact H5
    isplitl [H6]; iexact H6
    isplitl [H7]; iexact H7
    isplitl [H8]; iexact H8
    isplitl [H10]; iexact H10
    iexact H11
  ipureintro
  delta trip0.sl.v59 trip0.sl.v64 trip0.sl.v68 trip0.sl.H10_1_1 trip0.sl.H11_1_1 trip0.sl.H10_1 trip0.sl.H11_1 trip0.sl.H8_4 trip0.sl.v101 trip0.sl.r trip0.sl.v122 trip0.sl.v127
  simp (config := { proj := false }) (disch := first | assumption | decide) only [
    View.readCov, View.readAt_full, readAt_half, View.writes_nil, View.writes_append, View.read_writes_full, pb_t3_nil1, pb_t3_nil2, List.nil_append, pb_t2_read10, pb_t2_read11, read_qMat, readAt_off7, readAt_off8]
  rw [outRow, finish, hr]
  rfl

set_option maxHeartbeats 4000000 in
/-- Case 1: 2 key blocks after the rounds of eight. -/
theorem trip1 (t : Fin k0_t1_loop.trips) (h1 : ¬ k0_cond1 t = 1#1) (h2 : k0_cond2 t = 1#1) (h3 : ¬ k0_cond3 t = 1#1) (h4 : ¬ k0_cond4 t = 1#1) (h5 : ¬ k0_cond5 t = 1#1) (h6 : ¬ k0_cond6 t = 1#1) (h7 : ¬ k0_cond7 t = 1#1) (h8 : ¬ k0_cond8 t = 1#1)
    (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  unfold k0_t1_body
  iintro ⟨H2, H3, H4, H5, H6, H7, H8, H10, H11⟩
  sl_exec
  sl_step
  have hr : t.val % 8 = 1 := (by decide +kernel : ∀ t, k0_cond2 t = 1#1 → t.val % 8 = 1) t h2
  iexists _, _, _, _
  isplitl [H2 H3 H4 H5 H6 H7 H8 H10 H11]
  · isplitl [H2]; iexact H2
    isplitl [H3]; iexact H3
    isplitl [H4]; iexact H4
    isplitl [H5]; iexact H5
    isplitl [H6]; iexact H6
    isplitl [H7]; iexact H7
    isplitl [H8]; iexact H8
    isplitl [H10]; iexact H10
    iexact H11
  ipureintro
  delta trip1.sl.v59 trip1.sl.v64 trip1.sl.v68 trip1.sl.H10_1_1 trip1.sl.H11_1_1 trip1.sl.H10_1 trip1.sl.H11_1 trip1.sl.H8_4 trip1.sl.v101 trip1.sl.r trip1.sl.r_1 trip1.sl.r_2 trip1.sl.v141 trip1.sl.v146
  simp (config := { proj := false }) (disch := first | assumption | decide) only [
    View.readCov, View.readAt_full, readAt_half, View.writes_nil, View.writes_append, View.read_writes_full, pb_t3_nil1, pb_t3_nil2, List.nil_append, pb_t2_read10, pb_t2_read11, read_qMat, readAt_off9, readAt_off10]
  rw [outRow, finish, hr]
  rfl

set_option maxHeartbeats 4000000 in
/-- Case 2: 3 key blocks after the rounds of eight. -/
theorem trip2 (t : Fin k0_t1_loop.trips) (h1 : ¬ k0_cond1 t = 1#1) (h2 : ¬ k0_cond2 t = 1#1) (h3 : k0_cond3 t = 1#1) (h4 : ¬ k0_cond4 t = 1#1) (h5 : ¬ k0_cond5 t = 1#1) (h6 : ¬ k0_cond6 t = 1#1) (h7 : ¬ k0_cond7 t = 1#1) (h8 : ¬ k0_cond8 t = 1#1)
    (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  unfold k0_t1_body
  iintro ⟨H2, H3, H4, H5, H6, H7, H8, H10, H11⟩
  sl_exec
  sl_step
  have hr : t.val % 8 = 2 := (by decide +kernel : ∀ t, k0_cond3 t = 1#1 → t.val % 8 = 2) t h3
  iexists _, _, _, _
  isplitl [H2 H3 H4 H5 H6 H7 H8 H10 H11]
  · isplitl [H2]; iexact H2
    isplitl [H3]; iexact H3
    isplitl [H4]; iexact H4
    isplitl [H5]; iexact H5
    isplitl [H6]; iexact H6
    isplitl [H7]; iexact H7
    isplitl [H8]; iexact H8
    isplitl [H10]; iexact H10
    iexact H11
  ipureintro
  delta trip2.sl.v59 trip2.sl.v64 trip2.sl.v68 trip2.sl.H10_1_1 trip2.sl.H11_1_1 trip2.sl.H10_1 trip2.sl.H11_1 trip2.sl.H8_4 trip2.sl.v101 trip2.sl.r trip2.sl.r_1 trip2.sl.r_2 trip2.sl.r_3 trip2.sl.r_4 trip2.sl.r_5 trip2.sl.v160 trip2.sl.v165
  simp (config := { proj := false }) (disch := first | assumption | decide) only [
    View.readCov, View.readAt_full, readAt_half, View.writes_nil, View.writes_append, View.read_writes_full, pb_t3_nil1, pb_t3_nil2, List.nil_append, pb_t2_read10, pb_t2_read11, read_qMat, readAt_off11, readAt_off12]
  rw [outRow, finish, hr]
  rfl

set_option maxHeartbeats 4000000 in
/-- Case 3: 4 key blocks after the rounds of eight. -/
theorem trip3 (t : Fin k0_t1_loop.trips) (h1 : ¬ k0_cond1 t = 1#1) (h2 : ¬ k0_cond2 t = 1#1) (h3 : ¬ k0_cond3 t = 1#1) (h4 : k0_cond4 t = 1#1) (h5 : ¬ k0_cond5 t = 1#1) (h6 : ¬ k0_cond6 t = 1#1) (h7 : ¬ k0_cond7 t = 1#1) (h8 : ¬ k0_cond8 t = 1#1)
    (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  unfold k0_t1_body
  iintro ⟨H2, H3, H4, H5, H6, H7, H8, H10, H11⟩
  sl_exec
  sl_step
  have hr : t.val % 8 = 3 := (by decide +kernel : ∀ t, k0_cond4 t = 1#1 → t.val % 8 = 3) t h4
  iexists _, _, _, _
  isplitl [H2 H3 H4 H5 H6 H7 H8 H10 H11]
  · isplitl [H2]; iexact H2
    isplitl [H3]; iexact H3
    isplitl [H4]; iexact H4
    isplitl [H5]; iexact H5
    isplitl [H6]; iexact H6
    isplitl [H7]; iexact H7
    isplitl [H8]; iexact H8
    isplitl [H10]; iexact H10
    iexact H11
  ipureintro
  delta trip3.sl.v59 trip3.sl.v64 trip3.sl.v68 trip3.sl.H10_1_1 trip3.sl.H11_1_1 trip3.sl.H10_1 trip3.sl.H11_1 trip3.sl.H8_4 trip3.sl.v101 trip3.sl.r trip3.sl.r_1 trip3.sl.r_2 trip3.sl.r_3 trip3.sl.r_4 trip3.sl.r_5 trip3.sl.r_6 trip3.sl.r_7 trip3.sl.v158 trip3.sl.v179 trip3.sl.v184
  simp (config := { proj := false }) (disch := first | assumption | decide) only [
    View.readCov, View.readAt_full, readAt_half, View.writes_nil, View.writes_append, View.read_writes_full, pb_t3_nil1, pb_t3_nil2, List.nil_append, pb_t2_read10, pb_t2_read11, read_qMat, readAt_off13, readAt_off14]
  rw [outRow, finish, hr]
  rfl

set_option maxHeartbeats 4000000 in
/-- Case 4: 5 key blocks after the rounds of eight. -/
theorem trip4 (t : Fin k0_t1_loop.trips) (h1 : ¬ k0_cond1 t = 1#1) (h2 : ¬ k0_cond2 t = 1#1) (h3 : ¬ k0_cond3 t = 1#1) (h4 : ¬ k0_cond4 t = 1#1) (h5 : k0_cond5 t = 1#1) (h6 : ¬ k0_cond6 t = 1#1) (h7 : ¬ k0_cond7 t = 1#1) (h8 : ¬ k0_cond8 t = 1#1)
    (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  unfold k0_t1_body
  iintro ⟨H2, H3, H4, H5, H6, H7, H8, H10, H11⟩
  sl_exec
  sl_step
  have hr : t.val % 8 = 4 := (by decide +kernel : ∀ t, k0_cond5 t = 1#1 → t.val % 8 = 4) t h5
  iexists _, _, _, _
  isplitl [H2 H3 H4 H5 H6 H7 H8 H10 H11]
  · isplitl [H2]; iexact H2
    isplitl [H3]; iexact H3
    isplitl [H4]; iexact H4
    isplitl [H5]; iexact H5
    isplitl [H6]; iexact H6
    isplitl [H7]; iexact H7
    isplitl [H8]; iexact H8
    isplitl [H10]; iexact H10
    iexact H11
  ipureintro
  delta trip4.sl.v59 trip4.sl.v64 trip4.sl.v68 trip4.sl.H10_1_1 trip4.sl.H11_1_1 trip4.sl.H10_1 trip4.sl.H11_1 trip4.sl.H8_4 trip4.sl.v101 trip4.sl.r trip4.sl.r_1 trip4.sl.r_10 trip4.sl.r_2 trip4.sl.r_3 trip4.sl.r_4 trip4.sl.r_5 trip4.sl.r_6 trip4.sl.r_7 trip4.sl.r_8 trip4.sl.r_9 trip4.sl.v198 trip4.sl.v203
  simp (config := { proj := false }) (disch := first | assumption | decide) only [
    View.readCov, View.readAt_full, readAt_half, View.writes_nil, View.writes_append, View.read_writes_full, pb_t3_nil1, pb_t3_nil2, List.nil_append, pb_t2_read10, pb_t2_read11, read_qMat, readAt_off15, readAt_off16]
  rw [outRow, finish, hr]
  rfl

set_option maxHeartbeats 4000000 in
/-- Case 5: 6 key blocks after the rounds of eight. -/
theorem trip5 (t : Fin k0_t1_loop.trips) (h1 : ¬ k0_cond1 t = 1#1) (h2 : ¬ k0_cond2 t = 1#1) (h3 : ¬ k0_cond3 t = 1#1) (h4 : ¬ k0_cond4 t = 1#1) (h5 : ¬ k0_cond5 t = 1#1) (h6 : k0_cond6 t = 1#1) (h7 : ¬ k0_cond7 t = 1#1) (h8 : ¬ k0_cond8 t = 1#1)
    (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  unfold k0_t1_body
  iintro ⟨H2, H3, H4, H5, H6, H7, H8, H10, H11⟩
  sl_exec
  sl_step
  have hr : t.val % 8 = 5 := (by decide +kernel : ∀ t, k0_cond6 t = 1#1 → t.val % 8 = 5) t h6
  iexists _, _, _, _
  isplitl [H2 H3 H4 H5 H6 H7 H8 H10 H11]
  · isplitl [H2]; iexact H2
    isplitl [H3]; iexact H3
    isplitl [H4]; iexact H4
    isplitl [H5]; iexact H5
    isplitl [H6]; iexact H6
    isplitl [H7]; iexact H7
    isplitl [H8]; iexact H8
    isplitl [H10]; iexact H10
    iexact H11
  ipureintro
  delta trip5.sl.v59 trip5.sl.v64 trip5.sl.v68 trip5.sl.H10_1_1 trip5.sl.H11_1_1 trip5.sl.H10_1 trip5.sl.H11_1 trip5.sl.H8_4 trip5.sl.v101 trip5.sl.r trip5.sl.r_1 trip5.sl.r_10 trip5.sl.r_11 trip5.sl.r_2 trip5.sl.r_3 trip5.sl.r_4 trip5.sl.r_5 trip5.sl.r_6 trip5.sl.r_7 trip5.sl.r_8 trip5.sl.r_9 trip5.sl.v196 trip5.sl.v197 trip5.sl.v217 trip5.sl.v222
  simp (config := { proj := false }) (disch := first | assumption | decide) only [
    View.readCov, View.readAt_full, readAt_half, View.writes_nil, View.writes_append, View.read_writes_full, pb_t3_nil1, pb_t3_nil2, List.nil_append, pb_t2_read10, pb_t2_read11, read_qMat, readAt_off17, readAt_off18]
  rw [outRow, finish, hr]
  rfl

set_option maxHeartbeats 4000000 in
/-- Case 6: 7 key blocks after the rounds of eight. -/
theorem trip6 (t : Fin k0_t1_loop.trips) (h1 : ¬ k0_cond1 t = 1#1) (h2 : ¬ k0_cond2 t = 1#1) (h3 : ¬ k0_cond3 t = 1#1) (h4 : ¬ k0_cond4 t = 1#1) (h5 : ¬ k0_cond5 t = 1#1) (h6 : ¬ k0_cond6 t = 1#1) (h7 : k0_cond7 t = 1#1) (h8 : ¬ k0_cond8 t = 1#1)
    (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  unfold k0_t1_body
  iintro ⟨H2, H3, H4, H5, H6, H7, H8, H10, H11⟩
  sl_exec
  sl_step
  have hr : t.val % 8 = 6 := (by decide +kernel : ∀ t, k0_cond7 t = 1#1 → t.val % 8 = 6) t h7
  iexists _, _, _, _
  isplitl [H2 H3 H4 H5 H6 H7 H8 H10 H11]
  · isplitl [H2]; iexact H2
    isplitl [H3]; iexact H3
    isplitl [H4]; iexact H4
    isplitl [H5]; iexact H5
    isplitl [H6]; iexact H6
    isplitl [H7]; iexact H7
    isplitl [H8]; iexact H8
    isplitl [H10]; iexact H10
    iexact H11
  ipureintro
  delta trip6.sl.v59 trip6.sl.v64 trip6.sl.v68 trip6.sl.H10_1_1 trip6.sl.H11_1_1 trip6.sl.H10_1 trip6.sl.H11_1 trip6.sl.H8_4 trip6.sl.v101 trip6.sl.r trip6.sl.r_1 trip6.sl.r_10 trip6.sl.r_11 trip6.sl.r_12 trip6.sl.r_13 trip6.sl.r_14 trip6.sl.r_2 trip6.sl.r_3 trip6.sl.r_4 trip6.sl.r_5 trip6.sl.r_6 trip6.sl.r_7 trip6.sl.r_8 trip6.sl.r_9 trip6.sl.v236 trip6.sl.v241
  simp (config := { proj := false }) (disch := first | assumption | decide) only [
    View.readCov, View.readAt_full, readAt_half, View.writes_nil, View.writes_append, View.read_writes_full, pb_t3_nil1, pb_t3_nil2, List.nil_append, pb_t2_read10, pb_t2_read11, read_qMat, readAt_off19, readAt_off20]
  rw [outRow, finish, hr]
  rfl

set_option maxHeartbeats 4000000 in
/-- Case 7: 8 key blocks after the rounds of eight. -/
theorem trip7 (t : Fin k0_t1_loop.trips) (h1 : ¬ k0_cond1 t = 1#1) (h2 : ¬ k0_cond2 t = 1#1) (h3 : ¬ k0_cond3 t = 1#1) (h4 : ¬ k0_cond4 t = 1#1) (h5 : ¬ k0_cond5 t = 1#1) (h6 : ¬ k0_cond6 t = 1#1) (h7 : ¬ k0_cond7 t = 1#1) (h8 : k0_cond8 t = 1#1)
    (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  unfold k0_t1_body
  iintro ⟨H2, H3, H4, H5, H6, H7, H8, H10, H11⟩
  sl_exec
  sl_step
  have hr : t.val % 8 = 7 := (by decide +kernel : ∀ t, k0_cond8 t = 1#1 → t.val % 8 = 7) t h8
  iexists _, _, _, _
  isplitl [H2 H3 H4 H5 H6 H7 H8 H10 H11]
  · isplitl [H2]; iexact H2
    isplitl [H3]; iexact H3
    isplitl [H4]; iexact H4
    isplitl [H5]; iexact H5
    isplitl [H6]; iexact H6
    isplitl [H7]; iexact H7
    isplitl [H8]; iexact H8
    isplitl [H10]; iexact H10
    iexact H11
  ipureintro
  delta trip7.sl.v59 trip7.sl.v64 trip7.sl.v68 trip7.sl.H10_1_1 trip7.sl.H11_1_1 trip7.sl.H10_1 trip7.sl.H11_1 trip7.sl.H8_4 trip7.sl.v101 trip7.sl.r trip7.sl.r_1 trip7.sl.r_10 trip7.sl.r_11 trip7.sl.r_12 trip7.sl.r_13 trip7.sl.r_14 trip7.sl.r_15 trip7.sl.r_2 trip7.sl.r_3 trip7.sl.r_4 trip7.sl.r_5 trip7.sl.r_6 trip7.sl.r_7 trip7.sl.r_8 trip7.sl.r_9 trip7.sl.v234 trip7.sl.v255 trip7.sl.v260
  simp (config := { proj := false }) (disch := first | assumption | decide) only [
    View.readCov, View.readAt_full, readAt_half, View.writes_nil, View.writes_append, View.read_writes_full, pb_t3_nil1, pb_t3_nil2, List.nil_append, pb_t2_read10, pb_t2_read11, read_qMat, readAt_off21, readAt_off22]
  rw [outRow, finish, hr]
  rfl

end Cert.Proof.KernelIdeal
end
-- ==== Proof.KernelIdeal.Body.lean ====
module

public import proofs.«01_k».proof.Proof.KernelIdeal.Trip
public import proofs.«01_k».proof.Proof.Gen.KernelIdeal.Frame
public import Idealize.ShloMosaic.Lib.Claim
public import Idealize.ShloMosaic.Lib.Exec
public import Idealize.ShloMosaic.Lib.Tactic
public import Idealize.ShloMosaic.Lib.VecWindow
public import Idealize.ShloMosaic.Lib.ValueIdx
public import Idealize.ShloMosaic.Lib.ValueLayout
public import Idealize.ShloMosaic.Lib.Pipeline.Value
public import Idealize.ShloMosaic.Lib.Pipeline.Kit

@[expose] public section

set_option maxRecDepth 8192

noncomputable section

namespace Cert.Proof.KernelIdeal
open Cert.KernelIdeal Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frames. -/
local notation "𝕄G" => MT nD τ sig Unit (Elt F) ℕ (UR sig nD τ) ℕ

/-! # The loop over query blocks -/

/-! The eight cases: the number of whole key blocks, modulo eight. -/

theorem cond1_iff : ∀ t : Fin k0_t1_loop.trips, k0_cond1 t = 1#1 ↔ t.val % 8 = 0 := by decide +kernel
theorem cond2_iff : ∀ t : Fin k0_t1_loop.trips, k0_cond2 t = 1#1 ↔ t.val % 8 = 1 := by decide +kernel
theorem cond3_iff : ∀ t : Fin k0_t1_loop.trips, k0_cond3 t = 1#1 ↔ t.val % 8 = 2 := by decide +kernel
theorem cond4_iff : ∀ t : Fin k0_t1_loop.trips, k0_cond4 t = 1#1 ↔ t.val % 8 = 3 := by decide +kernel
theorem cond5_iff : ∀ t : Fin k0_t1_loop.trips, k0_cond5 t = 1#1 ↔ t.val % 8 = 4 := by decide +kernel
theorem cond6_iff : ∀ t : Fin k0_t1_loop.trips, k0_cond6 t = 1#1 ↔ t.val % 8 = 5 := by decide +kernel
theorem cond7_iff : ∀ t : Fin k0_t1_loop.trips, k0_cond7 t = 1#1 ↔ t.val % 8 = 6 := by decide +kernel
theorem cond8_iff : ∀ t : Fin k0_t1_loop.trips, k0_cond8 t = 1#1 ↔ t.val % 8 = 7 := by decide +kernel

section Trips
variable (c : Dev nD) (i : grid0.Coords)
  (arg2 : Memref sig .tc .vmem S1x512 .f32) (harg2 : arg2.IsWhole)
  (arg3 : Memref sig .tc .vmem S1x16x128x512 .bf16) (harg3 : arg3.IsWhole)
  (arg4 : Memref sig .tc .vmem S1x8192x128 .bf16) (harg4 : arg4.IsWhole)
  (arg5 : Memref sig .tc .vmem S1x16x128x512 .bf16) (harg5 : arg5.IsWhole)
  (arg6 : Memref sig .tc .vmem S128x512 .f32) (harg6 : arg6.IsWhole)
  (arg7 : Memref sig .tc .vmem S1x16x128x512 .bf16) (harg7 : arg7.IsWhole)
  (arg8 : Memref sig .tc .vmem S128x1024 .bf16) (harg8 : arg8.IsWhole)
  (arg9 : Memref sig .tc .vmem S1x1024 .f32) (harg9 : arg9.IsWhole)
  (arg10 : Memref sig .tc .vmem S8x1024 .f32) (harg10 : arg10.IsWhole)
  (arg11 : Memref sig .tc .vmem S128x1024 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)

/-- Any query block: its results in place, the windows as they were. -/
theorem trip (t : Fin k0_t1_loop.trips) (f7 : BufTy.Contents (Elt F) arg7.view.ty) (f8 : BufTy.Contents (Elt F) arg8.view.ty) (f10 : BufTy.Contents (Elt F) arg10.view.ty) (f11 : BufTy.Contents (Elt F) arg11.view.ty) :
    Held c arg2 arg3 arg4 arg5 arg6 arg7 arg8 arg10 arg11 X2 X3 X4 X5 X6 f7 f8 f10 f11 ⊢ wp Idealize.ShloMosaic.frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 t PUnit.unit) (fun _ => Left c arg2 arg3 arg4 arg5 arg6 arg7 arg8 arg10 arg11 X2 X3 X4 X5 X6 t f7) := by
  have hr : t.val % 8 < 8 := Nat.mod_lt _ (by omega)
  have e1 := cond1_iff t; have e2 := cond2_iff t; have e3 := cond3_iff t; have e4 := cond4_iff t
  have e5 := cond5_iff t; have e6 := cond6_iff t; have e7 := cond7_iff t; have e8 := cond8_iff t
  generalize hw : t.val % 8 = w at hr e1 e2 e3 e4 e5 e6 e7 e8
  have n1 := @not_congr _ _ e1; have n2 := @not_congr _ _ e2; have n3 := @not_congr _ _ e3; have n4 := @not_congr _ _ e4
  have n5 := @not_congr _ _ e5; have n6 := @not_congr _ _ e6; have n7 := @not_congr _ _ e7; have n8 := @not_congr _ _ e8
  interval_cases w
  · exact trip0 c i arg2 harg2 arg3 harg3 arg4 harg4 arg5 harg5 arg6 harg6 arg7 harg7 arg8 harg8 arg9 harg9 arg10 harg10 arg11 harg11 X2 X3 X4 X5 X6 t (e1.mpr rfl) (n2.mpr (by decide)) (n3.mpr (by decide)) (n4.mpr (by decide)) (n5.mpr (by decide)) (n6.mpr (by decide)) (n7.mpr (by decide)) (n8.mpr (by decide)) f7 f8 f10 f11
  · exact trip1 c i arg2 harg2 arg3 harg3 arg4 harg4 arg5 harg5 arg6 harg6 arg7 harg7 arg8 harg8 arg9 harg9 arg10 harg10 arg11 harg11 X2 X3 X4 X5 X6 t (n1.mpr (by decide)) (e2.mpr rfl) (n3.mpr (by decide)) (n4.mpr (by decide)) (n5.mpr (by decide)) (n6.mpr (by decide)) (n7.mpr (by decide)) (n8.mpr (by decide)) f7 f8 f10 f11
  · exact trip2 c i arg2 harg2 arg3 harg3 arg4 harg4 arg5 harg5 arg6 harg6 arg7 harg7 arg8 harg8 arg9 harg9 arg10 harg10 arg11 harg11 X2 X3 X4 X5 X6 t (n1.mpr (by decide)) (n2.mpr (by decide)) (e3.mpr rfl) (n4.mpr (by decide)) (n5.mpr (by decide)) (n6.mpr (by decide)) (n7.mpr (by decide)) (n8.mpr (by decide)) f7 f8 f10 f11
  · exact trip3 c i arg2 harg2 arg3 harg3 arg4 harg4 arg5 harg5 arg6 harg6 arg7 harg7 arg8 harg8 arg9 harg9 arg10 harg10 arg11 harg11 X2 X3 X4 X5 X6 t (n1.mpr (by decide)) (n2.mpr (by decide)) (n3.mpr (by decide)) (e4.mpr rfl) (n5.mpr (by decide)) (n6.mpr (by decide)) (n7.mpr (by decide)) (n8.mpr (by decide)) f7 f8 f10 f11
  · exact trip4 c i arg2 harg2 arg3 harg3 arg4 harg4 arg5 harg5 arg6 harg6 arg7 harg7 arg8 harg8 arg9 harg9 arg10 harg10 arg11 harg11 X2 X3 X4 X5 X6 t (n1.mpr (by decide)) (n2.mpr (by decide)) (n3.mpr (by decide)) (n4.mpr (by decide)) (e5.mpr rfl) (n6.mpr (by decide)) (n7.mpr (by decide)) (n8.mpr (by decide)) f7 f8 f10 f11
  · exact trip5 c i arg2 harg2 arg3 harg3 arg4 harg4 arg5 harg5 arg6 harg6 arg7 harg7 arg8 harg8 arg9 harg9 arg10 harg10 arg11 harg11 X2 X3 X4 X5 X6 t (n1.mpr (by decide)) (n2.mpr (by decide)) (n3.mpr (by decide)) (n4.mpr (by decide)) (n5.mpr (by decide)) (e6.mpr rfl) (n7.mpr (by decide)) (n8.mpr (by decide)) f7 f8 f10 f11
  · exact trip6 c i arg2 harg2 arg3 harg3 arg4 harg4 arg5 harg5 arg6 harg6 arg7 harg7 arg8 harg8 arg9 harg9 arg10 harg10 arg11 harg11 X2 X3 X4 X5 X6 t (n1.mpr (by decide)) (n2.mpr (by decide)) (n3.mpr (by decide)) (n4.mpr (by decide)) (n5.mpr (by decide)) (n6.mpr (by decide)) (e7.mpr rfl) (n8.mpr (by decide)) f7 f8 f10 f11
  · exact trip7 c i arg2 harg2 arg3 harg3 arg4 harg4 arg5 harg5 arg6 harg6 arg7 harg7 arg8 harg8 arg9 harg9 arg10 harg10 arg11 harg11 X2 X3 X4 X5 X6 t (n1.mpr (by decide)) (n2.mpr (by decide)) (n3.mpr (by decide)) (n4.mpr (by decide)) (n5.mpr (by decide)) (n6.mpr (by decide)) (n7.mpr (by decide)) (e8.mpr rfl) f7 f8 f10 f11

/-- The stores into the output of the query blocks before `k`, the last first. -/
def rows (lam : Vec F S1x512 .f32) (Q : Vec F S1x16x128x512 .bf16) (K : Vec F S1x8192x128 .bf16) (V : Vec F S1x16x128x512 .bf16) (g : Vec F S128x512 .f32) :
    ℕ → List (View.Piece (Elt F) S1x16x128x512 .bf16)
  | 0 => []
  | n + 1 => if h : n < k0_t1_loop.trips then
      ⟨Rect.unit (s := S1x16x128x512) (k0_off23 ⟨n, h⟩) S1x1x128x512.size (k0_off23_inb ⟨n, h⟩), outRow lam Q K V g n⟩ :: rows lam Q K V g n
    else rows lam Q K V g n

/-- Before query block `k`: the blocks before it are in place in the output. -/
abbrev inv_t1 (G7 : BufTy.Contents (Elt F) arg7.view.ty) (k : ℕ) (_u : PUnit) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗
    (∃ f, (arg7.view.loc (c : Thread nD τ) ↦[arg7.view.set]{fullShare} f) ∗ ⌜f = arg7.view.writes (Elt F) G7 (rows (arg2.view.read (Elt F) X2) (arg3.view.read (Elt F) X3) (arg4.view.read (Elt F) X4) (arg5.view.read (Elt F) X5) (arg6.view.read (Elt F) X6) k)⌝) ∗
    (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)))

set_option warn.classDefReducibility false in
/-- The loop over the query blocks. -/
@[sl_loop] def loopInv_t1 (G7 : BufTy.Contents (Elt F) arg7.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 where
  inv := inv_t1 c arg2 arg3 arg4 arg5 arg6 arg7 arg8 arg10 arg11 X2 X3 X4 X5 X6 G7
  step k acc := by
    iintro ⟨H2, H3, H4, H5, H6, ⟨%f7, H7, %h7⟩, ⟨%f8, H8⟩, ⟨%f10, H10⟩, ⟨%f11, H11⟩⟩
    iapply (wp_wand_r Idealize.ShloMosaic.frame (wpE (defs₀ (F := F)) Variants.none (c : Thread nD τ) none) Set.univ)
    isplitl [H2 H3 H4 H5 H6 H7 H8 H10 H11]
    · iapply (trip c i arg2 harg2 arg3 harg3 arg4 harg4 arg5 harg5 arg6 harg6 arg7 harg7 arg8 harg8 arg9 harg9 arg10 harg10 arg11 harg11 X2 X3 X4 X5 X6 k f7 f8 f10 f11)
      isplitl [H2]; iexact H2
      isplitl [H3]; iexact H3
      isplitl [H4]; iexact H4
      isplitl [H5]; iexact H5
      isplitl [H6]; iexact H6
      isplitl [H7]; iexact H7
      isplitl [H8]; iexact H8
      isplitl [H10]; iexact H10
      iexact H11
    · iintro %_ ⟨%g7, %g8, %g10, %g11, ⟨H2, H3, H4, H5, H6, H7, H8, H10, H11⟩, %hg⟩
      isplitl [H2]; iexact H2
      isplitl [H3]; iexact H3
      isplitl [H4]; iexact H4
      isplitl [H5]; iexact H5
      isplitl [H6]; iexact H6
      isplitl [H7]
      · iexists _; isplitl [H7]; · iexact H7
        ipureintro
        rw [hg, h7, rows, dif_pos k.isLt, ← View.writes_append]; rfl
      isplitl [H8]; iexists _; iexact H8
      isplitl [H10]; iexists _; iexact H10
      iexists _; iexact H11

end Trips

/-! ## What the grid point leaves -/

/-- After all sixteen blocks the output holds the grid point's results, whatever was there. -/
theorem read_rows (v : View sig .tc .vmem S1x16x128x512 .bf16) (f : v.ty.Contents (Elt F)) (lam : Vec F S1x512 .f32) (Q : Vec F S1x16x128x512 .bf16) (K : Vec F S1x8192x128 .bf16) (V : Vec F S1x16x128x512 .bf16) (g : Vec F S128x512 .f32)
    (n : ℕ) (hn : n ≤ 16) (y : S1x16x128x512.Idx) (hy : (y 1).val < n) :
    v.read (Elt F) (v.writes (Elt F) f (rows lam Q K V g n)) y = outBlk lam Q K V g y := by
  induction n with
  | zero => exact absurd hy (Nat.not_lt_zero _)
  | succ n ih =>
    have hlt : n < k0_t1_loop.trips := hn
    rw [rows, dif_pos hlt]
    by_cases e : (y 1).val = n
    · refine (View.read_writes_cons_unit_of_mem v f (k0_off23_inb ⟨n, hlt⟩) (outRow lam Q K V g n) _ y (ix4 0 0 (y 2) (y 3)) (k0_off23_eq ⟨n, hlt⟩) ?_).trans ?_
      · intro a
        have y0 := (y 0).isLt
        change (y 0).val < 1 at y0
        fin_cases a
        · change (y 0).val = 0 + 0; omega
        · change (y 1).val = n + 0; omega
        · change (y 2).val = 0 + (y 2).val; omega
        · change (y 3).val = 0 + (y 3).val; omega
      · unfold outBlk; rw [e]
    · refine Eq.trans ?_ (ih (by omega) (by omega))
      rw [View.read_writes_cons_put v f (k0_off23_inb ⟨n, hlt⟩) _ _ (k0_off23_eq ⟨n, hlt⟩)]
      unfold VecWindow.put
      refine dif_neg fun h => ?_
      have a1 := (h 1).1; have a2 := (h 1).2
      change n ≤ (y 1).val at a1
      change (y 1).val < n + 1 at a2
      omega

/-! ## The body's triple -/

/-- The kernel at one grid point: the windows as they were, the output at the grid point's results. -/
theorem sound_kernel (c : Dev nD) (i : grid0.Coords) (arg2 : Memref sig .tc .vmem S1x512 .f32) (harg2 : arg2.IsWhole) (arg3 : Memref sig .tc .vmem S1x16x128x512 .bf16) (harg3 : arg3.IsWhole) (arg4 : Memref sig .tc .vmem S1x8192x128 .bf16) (harg4 : arg4.IsWhole) (arg5 : Memref sig .tc .vmem S1x16x128x512 .bf16) (harg5 : arg5.IsWhole) (arg6 : Memref sig .tc .vmem S128x512 .f32) (harg6 : arg6.IsWhole) (arg7 : Memref sig .tc .vmem S1x16x128x512 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S8x1024 .f32) (harg10 : arg10.IsWhole) (arg11 : Memref sig .tc .vmem S128x1024 .f32) (harg11 : arg11.IsWhole)
    (x2 : Vec F S1x512 .f32) (x3 : Vec F S1x16x128x512 .bf16) (x4 : Vec F S1x8192x128 .bf16) (x5 : Vec F S1x16x128x512 .bf16) (x6 : Vec F S128x512 .f32) (KK : PUnit → sProp 𝕄G) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ (∃ d, owns (c : Thread nD τ) arg7 fullShare d)
        ∗ (∃ d, owns (c : Thread nD τ) arg8 fullShare d) ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare (outBlk x2 x3 x4 x5 x6)
          ∗ (∃ d, owns (c : Thread nD τ) arg8 fullShare d) ∗ (∃ d, owns (c : Thread nD τ) arg10 fullShare d) ∗ (∃ d, owns (c : Thread nD τ) arg11 fullShare d)) -∗ KK ⟨⟩))
      ⊢ wp Idealize.ShloMosaic.frame (wpE (defs₀ (F := F)) Variants.none c none) Set.univ (cc0_diff_attention i arg2 harg2 arg3 harg3 arg4 harg4 arg5 harg5 arg6 harg6 arg7 harg7 arg8 harg8 arg9 harg9 arg10 harg10 arg11 harg11) KK := by
  simp only [cc0_diff_attention_eq_skeleton]; unfold cc0_diff_attention_skel
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d10, %f10, -, H10⟩, ⟨%d11, %f11, -, H11⟩, Hk⟩
  subst h2 h3 h4 h5 h6
  sl_exec
  sl_step
  iapply Hk
  isplitl [H2]; iexists _; isplitr; swap; iexact H2; ipureintro; rfl
  isplitl [H3]; iexists _; isplitr; swap; iexact H3; ipureintro; rfl
  isplitl [H4]; iexists _; isplitr; swap; iexact H4; ipureintro; rfl
  isplitl [H5]; iexists _; isplitr; swap; iexact H5; ipureintro; rfl
  isplitl [H6]; iexists _; isplitr; swap; iexact H6; ipureintro; rfl
  isplitl [H7]
  · iexists _; isplitr; swap; iexact H7; ipureintro
    exact funext fun y => read_rows arg7.view f7 _ _ _ _ _ 16 le_rfl y (y 1).isLt
  isplitl [H8]; iexists _, _; isplitr; swap; iexact H8; ipureintro; rfl
  isplitl [H10]; iexists _, _; isplitr; swap; iexact H10; ipureintro; rfl
  iexists _, _; isplitr; swap; iexact H11; ipureintro; rfl

/-! ## The pipeline's proof data -/

variable (m : (ℓ : Loc nD τ sig) → Buf (Elt F) ℓ) (ρ : Dev nD → PrngReg)

/-- On core `c`: the arrays as the region finds them; after the body at point `t` each input's buffer at its block and
    the output's at the point's results; the scratch and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves in each window's buffer, and what it finds in each input's. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t =
    outBlk (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The invariant between grid points: the four scratch buffers and the generator register, at anything. -/
theorem PhiA_eq (c : Dev nD) :
    (Pipeline.ΦA spec0 c : sProp 𝕄G) = iprop(((∃ d, owns (c : Thread nD τ) (Memref.whole cc0_scratch0) fullShare d)
      ∗ (∃ d, owns (c : Thread nD τ) (Memref.whole cc0_scratch1) fullShare d) ∗ (∃ d, owns (c : Thread nD τ) (Memref.whole cc0_scratch2) fullShare d)
      ∗ (∃ d, owns (c : Thread nD τ) (Memref.whole cc0_scratch3) fullShare d)) ∗ (∃ r, prngReg c r)) := by
  unfold Pipeline.ΦA
  rw [scopedRest0_eq]; simp only [owns_whole]; try rfl

/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, PhiA_eq]
  iintro ⟨⟨⟨HS0, HS1, HS2, HS3⟩, Hr⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS2]; · iexact HS2
  isplitl [HS3]; · iexact HS3
  iintro ⟨H0, H1, H2, H3, H4, H5, HS0, HS2, HS3⟩
  isplitl [HS0 HS1 HS2 HS3 Hr]
  · isplitr [Hr]; swap; iexact Hr
    isplitl [HS0]; iexact HS0
    isplitl [HS1]; iexact HS1
    isplitl [HS2]; iexact HS2
    iexact HS3
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution terminates with each array of the pipeline at what the proof data say, the other buffers as the
    region found them, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every execution terminates, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.KernelIdeal
end
-- ==== Proof.Value.Blocks.lean ====
module

public import proofs.«01_k».proof.Proof.KernelIdeal.Spec
public import Idealize.ShloMosaic.Lib.Pointwise

@[expose] public section

set_option maxRecDepth 16384

noncomputable section

namespace Cert.Proof.Value
open Cert.KernelIdeal Cert.KernelIdeal.Gen Cert.Proof.KernelIdeal

open Idealize.ShloMosaic Idealize.ShloMosaic.TcCoe

/-! # One block of keys over the real numbers

What the kernel makes of one block of 512 keys, when everything it reads is a real number: the weights
of the block, their column sums in eight parts, and the values weighted by them. -/

/-- A finite sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of minus infinity. -/
theorem ofBits_negInf : Ideal.ofBits .f32 0xFF800000#32 = ⊥ := by
  simp [Ideal.ofBits, Ideal.ieee]

/-- A comparison of small numbers as words. -/
theorem sle_ofNat {a b : ℕ} (ha : a < 2 ^ 31) (hb : b < 2 ^ 31) :
    IntOp.cmpi .sle (BitVec.ofNat 32 a) (BitVec.ofNat 32 b) = if a ≤ b then 1#1 else 0#1 := by
  have h : ∀ n : ℕ, n < 2 ^ 31 → (BitVec.ofNat 32 n).toInt = (n : ℤ) := fun n hn => by
    rw [BitVec.toInt_eq_toNat_cond, BitVec.toNat_ofNat, Nat.mod_eq_of_lt (by omega), if_pos (by omega)]
  have e := IntOp.cmpi_sle (x := BitVec.ofNat 32 a) (y := BitVec.ofNat 32 b)
  rw [h a ha, h b hb, Int.ofNat_le] at e
  by_cases hab : a ≤ b
  · rw [if_pos hab]; exact e.mpr hab
  · rw [if_neg hab]
    rcases BitVec.eq_zero_or_eq_one (IntOp.cmpi .sle (BitVec.ofNat 32 a) (BitVec.ofNat 32 b)) with h0 | h1
    · exact h0
    · exact absurd (e.mp h1) hab

/-- A whole block's weight: two to the power of the score. -/
theorem pay2_real (Kb : Vec Ideal S1x512x128 .bf16) (Q : Vec Ideal S128x1024 .bf16) (k : Fin 512 → Fin 128 → ℝ) (q : Fin 128 → Fin 1024 → ℝ)
    (hk : ∀ t r, Kb (ix3 0 t r) = ((k t r : ℝ) : EReal)) (hq : ∀ r z, Q (ix2 r z) = ((q r z : ℝ) : EReal)) (t : Fin 512) (z : Fin 1024) :
    k0_pay2 Kb Q (ix2 t z) = (((2 : ℝ) ^ (∑ r, k t r * q r z) : ℝ) : EReal) := by
  pointwise [k0_pay2]
  simp only [hk, hq, ← EReal.coe_mul, ← coe_sum, Ideal.exp2_coe]
  rfl

/-- The masked block's weight: the same where the key is not after the query, zero elsewhere. -/
theorem pay42_real (Kb : Vec Ideal S1x512x128 .bf16) (Q : Vec Ideal S128x1024 .bf16) (k : Fin 512 → Fin 128 → ℝ) (q : Fin 128 → Fin 1024 → ℝ)
    (hk : ∀ t r, Kb (ix3 0 t r) = ((k t r : ℝ) : EReal)) (hq : ∀ r z, Q (ix2 r z) = ((q r z : ℝ) : EReal)) (t : Fin 512) (z : Fin 1024) :
    k0_pay42 Kb Q (ix2 t z) = ((if t.val ≤ z.val % 512 then (2 : ℝ) ^ (∑ r, k t r * q r z) else 0 : ℝ) : EReal) := by
  pointwise [k0_pay42]
  rw [show Scalar.select (IntOp.cmpi .sge (BitVec.ofNat 32 z.val) 512#32) (IntOp.subi (BitVec.ofNat 32 z.val) 512#32) (BitVec.ofNat 32 z.val)
      = BitVec.ofNat 32 (z.val % 512) from by revert z; decide +kernel]
  simp only [hk, hq, ← EReal.coe_mul, ← coe_sum]
  rw [sle_ofNat (by omega) (by omega), ofBits_negInf]
  by_cases h : t.val ≤ z.val % 512
  · rw [if_pos h, if_pos h]; rfl
  · rw [if_neg h, if_neg h]; rfl

/-- The column sums of a block, part `s` of eight. -/
theorem lBlk_real (P : FVec Ideal S512x1024 .f32) (p : Fin 512 → Fin 1024 → ℝ) (hP : ∀ t z, P (ix2 t z) = ((p t z : ℝ) : EReal)) (s : Fin 8) (z : Fin 1024) :
    lBlk P (ix2 s z) = ((∑ u : Fin 64, p ⟨8 * u.val + s.val, by omega⟩ z : ℝ) : EReal) := by
  pointwise [lBlk]
  rw [coe_sum]
  exact Finset.sum_congr rfl fun u _ => (hP _ _).trans (congrArg (fun t => ((p t z : ℝ) : EReal)) (Fin.ext (by simp only; omega)))

/-- The values weighted by a block's weights. -/
theorem aBlk_real (P : FVec Ideal S512x1024 .f32) (V : Vec Ideal S1x1x128x512 .bf16) (p : Fin 512 → Fin 1024 → ℝ) (v : Fin 128 → Fin 512 → ℝ)
    (hP : ∀ t z, P (ix2 t z) = ((p t z : ℝ) : EReal)) (hV : ∀ e t, V (ix4 0 0 e t) = ((v e t : ℝ) : EReal)) (e : Fin 128) (z : Fin 1024) :
    aBlk P V (ix2 e z) = ((∑ t : Fin 512, v e t * p t z : ℝ) : EReal) := by
  pointwise [aBlk]
  simp only [hV, hP, ← EReal.coe_mul, ← coe_sum]

/-- One result before the gain: `o e` over the root of the mean square of all 128 (plus the printed
small constant). -/
def rms (o : Fin 128 → ℝ) (e : Fin 128) : EReal :=
  (o e : EReal) * Ideal.rsqrt (Ideal.div ((∑ x, o x * o x : ℝ) : EReal) (Ideal.ofBits .f32 0x43000000#32) + Ideal.ofBits .f32 0x358637BD#32)

/-- The difference of the two streams' quotients. -/
def diffOf (A L : Fin 1024 → ℝ) (lm : ℝ) (x : Fin 512) : ℝ :=
  A ⟨x.val, by omega⟩ / L ⟨x.val, by omega⟩ - lm * (A ⟨512 + x.val, by omega⟩ / L ⟨512 + x.val, by omega⟩)

/-- The results from the sums. -/
theorem finish_real (l : Vec Ideal S8x1024 .f32) (a : Vec Ideal S128x1024 .f32) (lam : Vec Ideal S1x512 .f32) (g : Vec Ideal S128x512 .f32)
    (L : Fin 1024 → ℝ) (A : Fin 128 → Fin 1024 → ℝ) (lm : ℝ) (x : Fin 512) (hl : ∀ z, ∑ s, l (ix2 s z) = ((L z : ℝ) : EReal)) (hL : ∀ z, L z ≠ 0)
    (ha : ∀ e z, a (ix2 e z) = ((A e z : ℝ) : EReal)) (hlam : lam (ix2 0 x) = (lm : EReal)) (e : Fin 128) :
    finish l a lam g (ix4 0 0 e x) = rms (fun e => diffOf (A e) L lm x) e * g (ix2 e x) := by
  have w0 : ∀ e : Fin 128, VecWindow.window a ![0, 0] ![128, 512] inb_S128x1024_S128x512_0_0 (ix2 e x) = ((A e ⟨x.val, by omega⟩ : ℝ) : EReal) :=
    fun e => (congrArg a (by funext b; fin_cases b <;> exact Fin.ext (by simp [ix2]))).trans (ha e _)
  have w1 : ∀ e : Fin 128, VecWindow.window a ![0, 512] ![128, 512] inb_S128x1024_S128x512_0_512 (ix2 e x) = ((A e ⟨512 + x.val, by omega⟩ : ℝ) : EReal) :=
    fun e => (congrArg a (by funext b; fin_cases b <;> exact Fin.ext (by simp [ix2]))).trans (ha e _)
  have d : ∀ z, Ideal.div 1 ((L z : ℝ) : EReal) = ((1 / L z : ℝ) : EReal) := fun z => by rw [Ideal.div_coe (hL z), one_mul]
  pointwise [finish, k0_pay1]
  simp only [w0, w1, hl, hlam, d, ← EReal.coe_mul, ← EReal.coe_sub, ← coe_sum]
  have o : ∀ e, A e ⟨x.val, by omega⟩ * (1 / L ⟨x.val, by omega⟩) - A e ⟨512 + x.val, by omega⟩ * (lm * (1 / L ⟨512 + x.val, by omega⟩)) = diffOf (A e) L lm x :=
    fun e => by unfold diffOf; ring
  simp only [o]
  rfl

end Cert.Proof.Value
end
-- ==== Proof.Value.Sums.lean ====
module

public import proofs.«01_k».proof.Proof.Value.Blocks

@[expose] public section

set_option maxRecDepth 16384

noncomputable section

namespace Cert.Proof.Value
open Cert.KernelIdeal Cert.KernelIdeal.Gen Cert.Proof.KernelIdeal

open Idealize.ShloMosaic Idealize.ShloMosaic.TcCoe

/-! # The sums over a query's keys

The kernel goes through the keys before a block of queries in rounds of eight blocks, then in single
blocks, the last of them masked. Over the real numbers the outcome is one sum over the keys not after
the query. -/

/-- A sum over `b n` numbers, taken in `n` runs of `b`. -/
theorem sum_runs (b n : ℕ) (f : ℕ → ℝ) : ∑ s ∈ Finset.range (b * n), f s = ∑ j ∈ Finset.range n, ∑ t ∈ Finset.range b, f (b * j + t) := by
  induction n with
  | zero => simp
  | succ n ih => rw [Nat.mul_succ, Finset.sum_range_add, ih, Finset.sum_range_succ]

/-- A sum of 512 numbers, taken in eight interleaved parts. -/
theorem sum_parts (f : ℕ → ℝ) : ∑ s : Fin 8, ∑ u : Fin 64, f (8 * u.val + s.val) = ∑ t ∈ Finset.range 512, f t := by
  rw [show 512 = 8 * 64 from rfl, sum_runs, Finset.sum_comm, ← Fin.sum_univ_eq_sum_range (fun j => ∑ t ∈ Finset.range 8, f (8 * j + t)) 64]
  exact Finset.sum_congr rfl fun u _ => Fin.sum_univ_eq_sum_range (fun s => f (8 * u.val + s)) 8

/-- The terms of a run of 512 whose number is at most `x`. -/
theorem sum_masked (f : ℕ → ℝ) (x : ℕ) (hx : x < 512) : ∑ t ∈ Finset.range 512, (if t ≤ x then f t else 0) = ∑ t ∈ Finset.range (x + 1), f t := by
  rw [← Finset.sum_filter]
  exact Finset.sum_congr (by ext t; simp only [Finset.mem_filter, Finset.mem_range]; omega) fun _ _ => rfl

/-- The whole runs before `i` and the terms of run `i` up to `x`, together. -/
theorem sum_upto (f : ℕ → ℝ) (i x : ℕ) (hx : x < 512) :
    (∑ j ∈ Finset.range i, ∑ t ∈ Finset.range 512, f (512 * j + t)) + ∑ t ∈ Finset.range 512, (if t ≤ x then f (512 * i + t) else 0)
      = ∑ s ∈ Finset.range (512 * i + x + 1), f s := by
  rw [sum_masked (fun t => f (512 * i + t)) x hx, ← sum_runs, Nat.add_assoc, Finset.sum_range_add _ (512 * i) (x + 1)]

variable (K : ℕ → Vec Ideal S1x512x128 .bf16) (V : ℕ → Vec Ideal S1x1x128x512 .bf16) (Q : Vec Ideal S128x1024 .bf16)

section parts
variable (b bm : ℕ → Fin 8 → Fin 1024 → ℝ) (hb : ∀ j s z, lBlk (k0_pay2 (K j) Q) (ix2 s z) = ((b j s z : ℝ) : EReal))
  (hm : ∀ j s z, lBlk (k0_pay42 (K j) Q) (ix2 s z) = ((bm j s z : ℝ) : EReal))
include hb

theorem lSum_real (n : ℕ) (s : Fin 8) (z : Fin 1024) : lSum K Q n (ix2 s z) = ((∑ j ∈ Finset.range (n + 1), b j s z : ℝ) : EReal) := by
  induction n with
  | zero => rw [Finset.sum_range_one]; exact hb 0 s z
  | succ n ih => rw [Finset.sum_range_succ, EReal.coe_add, ← ih, ← hb]; rfl

include hm in
theorem lEnd_real (n : ℕ) (s : Fin 8) (z : Fin 1024) : lEnd K Q n (ix2 s z) = (((∑ j ∈ Finset.range n, b j s z) + bm n s z : ℝ) : EReal) := by
  cases n with
  | zero => rw [Finset.sum_range_zero, zero_add]; exact hm 0 s z
  | succ n => rw [EReal.coe_add, ← lSum_real K Q b hb, ← hm]; rfl

theorem lRun_real (n : ℕ) (s : Fin 8) (z : Fin 1024) : lRun K Q (k0_pay149 (F := Ideal)) n (ix2 s z) = ((∑ j ∈ Finset.range (8 * n), b j s z : ℝ) : EReal) := by
  induction n with
  | zero => pointwise [lRun, k0_pay149]; simp
  | succ n ih =>
    rw [Nat.mul_succ, Finset.sum_range_add, EReal.coe_add, ← ih, ← lSum_real (fun u => K (8 * n + u)) Q (fun u => b (8 * n + u)) (fun j => hb _) 7]
    pointwise [lRun]

include hm in
theorem lRow_parts (m r : ℕ) (s : Fin 8) (z : Fin 1024) :
    lRow K Q m r (ix2 s z) = (((∑ j ∈ Finset.range (8 * m + r), b j s z) + bm (8 * m + r) s z : ℝ) : EReal) := by
  rw [Finset.sum_range_add, add_assoc, EReal.coe_add, ← lRun_real K Q b hb,
    ← lEnd_real (fun u => K (8 * m + u)) Q (fun u => b (8 * m + u)) (fun u => bm (8 * m + u)) (fun j => hb _) (fun j => hm _) r]
  pointwise [lRow]

end parts

section values
variable (b bm : ℕ → Fin 128 → Fin 1024 → ℝ) (hb : ∀ j s z, aBlk (k0_pay2 (K j) Q) (V j) (ix2 s z) = ((b j s z : ℝ) : EReal))
  (hm : ∀ j s z, aBlk (k0_pay42 (K j) Q) (V j) (ix2 s z) = ((bm j s z : ℝ) : EReal))
include hb

theorem aSum_real (n : ℕ) (s : Fin 128) (z : Fin 1024) : aSum K V Q n (ix2 s z) = ((∑ j ∈ Finset.range (n + 1), b j s z : ℝ) : EReal) := by
  induction n with
  | zero => rw [Finset.sum_range_one]; exact hb 0 s z
  | succ n ih => rw [Finset.sum_range_succ, EReal.coe_add, ← ih, ← hb]; rfl

include hm in
theorem aEnd_real (n : ℕ) (s : Fin 128) (z : Fin 1024) : aEnd K V Q n (ix2 s z) = (((∑ j ∈ Finset.range n, b j s z) + bm n s z : ℝ) : EReal) := by
  cases n with
  | zero => rw [Finset.sum_range_zero, zero_add]; exact hm 0 s z
  | succ n => rw [EReal.coe_add, ← aSum_real K V Q b hb, ← hm]; rfl

theorem aRun_real (n : ℕ) (s : Fin 128) (z : Fin 1024) : aRun K V Q (k0_pay150 (F := Ideal)) n (ix2 s z) = ((∑ j ∈ Finset.range (8 * n), b j s z : ℝ) : EReal) := by
  induction n with
  | zero => pointwise [aRun, k0_pay150]; simp
  | succ n ih =>
    rw [Nat.mul_succ, Finset.sum_range_add, EReal.coe_add, ← ih,
      ← aSum_real (fun u => K (8 * n + u)) (fun u => V (8 * n + u)) Q (fun u => b (8 * n + u)) (fun j => hb _) 7]
    pointwise [aRun]

include hm in
theorem aRow_parts (m r : ℕ) (s : Fin 128) (z : Fin 1024) :
    aRow K V Q m r (ix2 s z) = (((∑ j ∈ Finset.range (8 * m + r), b j s z) + bm (8 * m + r) s z : ℝ) : EReal) := by
  rw [Finset.sum_range_add, add_assoc, EReal.coe_add, ← aRun_real K V Q b hb,
    ← aEnd_real (fun u => K (8 * m + u)) (fun u => V (8 * m + u)) Q (fun u => b (8 * m + u)) (fun u => bm (8 * m + u)) (fun j => hb _) (fun j => hm _) r]
  pointwise [aRow]

end values

/-- The weight of key `s` for column `z`, before any mask. -/
def wt (k : ℕ → Fin 128 → ℝ) (q : Fin 128 → Fin 1024 → ℝ) (s : ℕ) (z : Fin 1024) : ℝ := (2 : ℝ) ^ (∑ r, k s r * q r z)

theorem wt_pos (k : ℕ → Fin 128 → ℝ) (q : Fin 128 → Fin 1024 → ℝ) (s : ℕ) (z : Fin 1024) : 0 < wt k q s z :=
  Real.rpow_pos_of_pos two_pos _

section rows
variable (k : ℕ → Fin 128 → ℝ) (v : Fin 128 → ℕ → ℝ) (q : Fin 128 → Fin 1024 → ℝ)
  (hk : ∀ j t r, K j (ix3 0 t r) = ((k (512 * j + t.val) r : ℝ) : EReal)) (hv : ∀ j e t, V j (ix4 0 0 e t) = ((v e (512 * j + t.val) : ℝ) : EReal))
  (hq : ∀ r z, Q (ix2 r z) = ((q r z : ℝ) : EReal))
include hk hq

/-- The column sums: all the keys not after the query. -/
theorem lRow_real (m r : ℕ) (z : Fin 1024) :
    ∑ s, lRow K Q m r (ix2 s z) = ((∑ s ∈ Finset.range (512 * (8 * m + r) + z.val % 512 + 1), wt k q s z : ℝ) : EReal) := by
  have hb := fun (j : ℕ) => lBlk_real (k0_pay2 (K j) Q) _ (pay2_real (K j) Q (fun t => k (512 * j + t.val)) q (hk j) hq)
  have hm := fun (j : ℕ) => lBlk_real (k0_pay42 (K j) Q) _ (pay42_real (K j) Q (fun t => k (512 * j + t.val)) q (hk j) hq)
  simp only [lRow_parts K Q _ _ hb hm m r, ← coe_sum]
  rw [← sum_upto _ _ _ (Nat.mod_lt _ (by decide)), Finset.sum_add_distrib, Finset.sum_comm]
  refine congrArg _ (congrArg₂ (· + ·) (Finset.sum_congr rfl fun j _ => ?_) ?_)
  · exact sum_parts (fun t => wt k q (512 * j + t) z)
  · exact sum_parts (fun t => if t ≤ z.val % 512 then wt k q (512 * (8 * m + r) + t) z else 0)

include hv in
/-- The weighted values: all the keys not after the query. -/
theorem aRow_real (m r : ℕ) (e : Fin 128) (z : Fin 1024) :
    aRow K V Q m r (ix2 e z) = ((∑ s ∈ Finset.range (512 * (8 * m + r) + z.val % 512 + 1), v e s * wt k q s z : ℝ) : EReal) := by
  have hb := fun (j : ℕ) => aBlk_real (k0_pay2 (K j) Q) (V j) _ _ (pay2_real (K j) Q (fun t => k (512 * j + t.val)) q (hk j) hq) (hv j)
  have hm := fun (j : ℕ) => aBlk_real (k0_pay42 (K j) Q) (V j) _ _ (pay42_real (K j) Q (fun t => k (512 * j + t.val)) q (hk j) hq) (hv j)
  rw [aRow_parts K V Q _ _ hb hm m r, ← sum_upto _ _ _ (Nat.mod_lt _ (by decide))]
  refine congrArg _ (congrArg₂ (· + ·) (Finset.sum_congr rfl fun j _ => ?_) ?_)
  · exact Fin.sum_univ_eq_sum_range (fun t => v e (512 * j + t) * wt k q (512 * j + t) z) 512
  · simp only [mul_ite, mul_zero]
    exact Fin.sum_univ_eq_sum_range (fun t => if t ≤ z.val % 512 then v e (512 * (8 * m + r) + t) * wt k q (512 * (8 * m + r) + t) z else 0) 512

end rows

end Cert.Proof.Value
end
-- ==== Proof.Value.Rows.lean ====
module

public import proofs.«01_k».proof.Proof.Value.Sums

@[expose] public section

set_option maxRecDepth 16384

noncomputable section

namespace Cert.Proof.Value
open Cert.KernelIdeal Cert.KernelIdeal.Gen Cert.Proof.KernelIdeal

open Idealize.ShloMosaic Idealize.ShloMosaic.TcCoe

/-! # One query's results

The results the kernel writes for the query in place `x` of block `i`, when its windows hold real
numbers: two weighted means of the values, the second taken from the first `lm` times, and the outcome
normalised. -/

/-- The difference of two weighted means of `v` over the keys `0 … n`. -/
def mix (v w₀ w₁ : ℕ → ℝ) (lm : ℝ) (n : ℕ) : ℝ :=
  (∑ s ∈ Finset.range (n + 1), v s * w₀ s) / (∑ s ∈ Finset.range (n + 1), w₀ s)
    - lm * ((∑ s ∈ Finset.range (n + 1), v s * w₁ s) / (∑ s ∈ Finset.range (n + 1), w₁ s))

/-- Only the weights of the keys `0 … n` matter. -/
theorem mix_congr {v v' w₀ w₀' w₁ w₁' : ℕ → ℝ} {lm : ℝ} {n : ℕ} (hv : ∀ s ≤ n, v s = v' s) (h₀ : ∀ s ≤ n, w₀ s = w₀' s) (h₁ : ∀ s ≤ n, w₁ s = w₁' s) :
    mix v w₀ w₁ lm n = mix v' w₀' w₁' lm n := by
  have h : ∀ s ∈ Finset.range (n + 1), s ≤ n := fun s hs => Nat.lt_succ_iff.mp (Finset.mem_range.mp hs)
  have a₀ : ∑ s ∈ Finset.range (n + 1), v s * w₀ s = ∑ s ∈ Finset.range (n + 1), v' s * w₀' s := Finset.sum_congr rfl fun s hs => by rw [hv s (h s hs), h₀ s (h s hs)]
  have a₁ : ∑ s ∈ Finset.range (n + 1), v s * w₁ s = ∑ s ∈ Finset.range (n + 1), v' s * w₁' s := Finset.sum_congr rfl fun s hs => by rw [hv s (h s hs), h₁ s (h s hs)]
  have l₀ : ∑ s ∈ Finset.range (n + 1), w₀ s = ∑ s ∈ Finset.range (n + 1), w₀' s := Finset.sum_congr rfl fun s hs => h₀ s (h s hs)
  have l₁ : ∑ s ∈ Finset.range (n + 1), w₁ s = ∑ s ∈ Finset.range (n + 1), w₁' s := Finset.sum_congr rfl fun s hs => h₁ s (h s hs)
  unfold mix
  rw [a₀, a₁, l₀, l₁]

/-- The score of key `s` in stream `c`: the product over the stream's 64 entries. -/
def score (k : ℕ → Fin 128 → ℝ) (q : Fin 128 → ℝ) (c : Fin 2) (s : ℕ) : ℝ :=
  ∑ d : Fin 64, k s ⟨64 * c.val + d.val, by omega⟩ * q ⟨64 * c.val + d.val, by omega⟩

/-- The two streams' queries side by side, over the real numbers. -/
def qCol (q : Fin 128 → Fin 512 → ℝ) (r : Fin 128) (z : Fin 1024) : ℝ :=
  if r.val < 64 then if h : z.val < 512 then q r ⟨z.val, h⟩ else 0 else if h : z.val < 512 then 0 else q r ⟨z.val - 512, by omega⟩

theorem qMat_real (Q : Vec Ideal S1x16x128x512 .bf16) (i : ℕ) (hi : i < 16) (q : Fin 128 → Fin 512 → ℝ)
    (hq : ∀ r x, Q (ix4 0 ⟨i, hi⟩ r x) = ((q r x : ℝ) : EReal)) (r : Fin 128) (z : Fin 1024) : qMat Q i (ix2 r z) = ((qCol q r z : ℝ) : EReal) := by
  have e : (⟨i % 16, Nat.mod_lt _ (by decide)⟩ : Fin 16) = ⟨i, hi⟩ := Fin.ext (Nat.mod_eq_of_lt hi)
  have z0 : Scalar.ofBits (F := Ideal) .bf16 0x0000#16 = ((0 : ℝ) : EReal) := by
    show Ideal.ofBits .bf16 0x0000#16 = _; rw [Ideal.ofBits_zero]; rfl
  unfold qMat qCol
  show (if r.val < 64 then if h : z.val < 512 then Q (ix4 0 ⟨i % 16, _⟩ r ⟨z.val, h⟩) else Scalar.ofBits (F := Ideal) .bf16 0x0000#16
    else if h : z.val < 512 then Scalar.ofBits (F := Ideal) .bf16 0x0000#16 else Q (ix4 0 ⟨i % 16, _⟩ r ⟨z.val - 512, _⟩)) = _
  rw [e, z0]
  split_ifs <;> first | exact hq _ _ | rfl

/-- The two streams' scores, over the real numbers. -/
theorem sum_qCol (k : ℕ → Fin 128 → ℝ) (q : Fin 128 → Fin 512 → ℝ) (s : ℕ) (x : Fin 512) (c : Fin 2) :
    ∑ r, k s r * qCol q r ⟨512 * c.val + x.val, by omega⟩ = score k (fun r => q r x) c s := by
  have h : ∀ r : Fin 128, qCol q r ⟨512 * c.val + x.val, by omega⟩ = if r.val / 64 = c.val then q r x else 0 := fun r => by
    unfold qCol
    simp only
    split_ifs <;> first | omega | rfl | exact congrArg (q r) (Fin.ext (by simp only; omega))
  simp only [h, mul_ite, mul_zero]
  rw [Fin.sum_univ_two_halves 64 64 rfl]
  unfold score
  match c with
  | 0 =>
    rw [Finset.sum_eq_zero (s := Finset.univ) (f := fun i : Fin 64 => if (64 + i.val) / 64 = (0 : Fin 2).val then _ else 0) fun d _ => if_neg (by have := d.isLt; simp only [Fin.val_zero]; omega), add_zero]
    exact Finset.sum_congr rfl fun d _ => by
      rw [if_pos (by have := d.isLt; simp only [Fin.val_zero]; omega)]; congr 2 <;> exact Fin.ext (by simp)
  | 1 =>
    rw [Finset.sum_eq_zero (s := Finset.univ) (f := fun i : Fin 64 => if i.val / 64 = (1 : Fin 2).val then _ else 0) fun d _ => if_neg (by have := d.isLt; simp only [Fin.val_one]; omega), zero_add]
    exact Finset.sum_congr rfl fun d _ => by
      rw [if_pos (by have := d.isLt; simp only [Fin.val_one]; omega)]; congr 2 <;> exact Fin.ext (by simp)

/-- The results of the query in place `x` of block `i`. -/
theorem outRow_real (lam : Vec Ideal S1x512 .f32) (Q : Vec Ideal S1x16x128x512 .bf16) (K : Vec Ideal S1x8192x128 .bf16) (V : Vec Ideal S1x16x128x512 .bf16)
    (g : Vec Ideal S128x512 .f32) (i : ℕ) (hi : i < 16) (x : Fin 512) (lm : ℝ) (q : Fin 128 → Fin 512 → ℝ) (k : ℕ → Fin 128 → ℝ) (v : Fin 128 → ℕ → ℝ)
    (hlam : lam (ix2 0 x) = (lm : EReal)) (hq : ∀ r x, Q (ix4 0 ⟨i, hi⟩ r x) = ((q r x : ℝ) : EReal))
    (hk : ∀ (s : Fin 8192) r, K (ix3 0 s r) = ((k s.val r : ℝ) : EReal)) (hv : ∀ (j : Fin 16) e (t : Fin 512), V (ix4 0 j e t) = ((v e (512 * j.val + t.val) : ℝ) : EReal))
    (e : Fin 128) :
    outRow lam Q K V g i (ix4 0 0 e x)
      = rms (fun e => mix (v e) (fun s => (2 : ℝ) ^ score k (fun r => q r x) 0 s) (fun s => (2 : ℝ) ^ score k (fun r => q r x) 1 s) lm (512 * i + x.val)) e * g (ix2 e x) := by
  have hK : ∀ j t r, kBlk K j (ix3 0 t r) = ((k ((512 * j + t.val) % 8192) r : ℝ) : EReal) := fun j t r => hk ⟨(512 * j + t.val) % 8192, Nat.mod_lt _ (by decide)⟩ r
  have hV : ∀ j e t, vBlk V j (ix4 0 0 e t) = ((v e ((512 * j + t.val) % 8192) : ℝ) : EReal) := fun j e t =>
    (hv ⟨(j + 0) % 16, Nat.mod_lt _ (by decide)⟩ e t).trans (by rw [show 512 * ((j + 0) % 16) + t.val = (512 * j + t.val) % 8192 from by omega])
  have hQ := qMat_real Q i hi q hq
  have h8 : 8 * (i / 8) + i % 8 = i := Nat.div_add_mod i 8
  have hl := lRow_real (kBlk K) (qMat Q i) (fun s => k (s % 8192)) (qCol q) hK hQ (i / 8) (i % 8)
  have ha := aRow_real (kBlk K) (vBlk V) (qMat Q i) (fun s => k (s % 8192)) (fun e s => v e (s % 8192)) (qCol q) hK hV hQ (i / 8) (i % 8)
  rw [h8] at hl ha
  unfold outRow
  rw [finish_real _ _ _ _ _ _ lm x hl (fun z => (Finset.sum_pos (fun s _ => wt_pos _ _ _ _) ⟨0, by simp⟩).ne') ha hlam e]
  congr 2
  funext e
  have hx0 : x.val % 512 = x.val := Nat.mod_eq_of_lt x.isLt
  have hx1 : (512 + x.val) % 512 = x.val := by omega
  have e0 : ∀ s, wt (fun s => k (s % 8192)) (qCol q) s ⟨x.val, by omega⟩ = (2 : ℝ) ^ score (fun s => k (s % 8192)) (fun r => q r x) 0 s := fun s => by
    rw [← sum_qCol]; unfold wt; simp
  have e1 : ∀ s, wt (fun s => k (s % 8192)) (qCol q) s ⟨512 + x.val, by omega⟩ = (2 : ℝ) ^ score (fun s => k (s % 8192)) (fun r => q r x) 1 s := fun s => by
    rw [← sum_qCol]; unfold wt; simp
  unfold diffOf
  simp only [hx0, hx1, e0, e1]
  show mix (fun s => v e (s % 8192)) _ _ _ _ = _
  have hs : ∀ s ≤ 512 * i + x.val, s % 8192 = s := fun s hs => Nat.mod_eq_of_lt (by omega)
  refine mix_congr (fun s h => ?_) (fun s h => ?_) (fun s h => ?_)
  · simp only [hs s h]
  · simp only [score, hs s h]
  · simp only [score, hs s h]

end Cert.Proof.Value
end
-- ==== Proof.Value.Entry.lean ====
module

public import proofs.«01_k».proof.Proof.KernelIdeal.Body
public import proofs.«01_k».proof.Proof.Value.Rows

@[expose] public section

set_option maxRecDepth 16384

noncomputable section

namespace Cert.Proof.Value
open Cert.KernelIdeal Cert.KernelIdeal.Gen Cert.Proof.KernelIdeal

open Idealize.ShloMosaic Idealize.ShloMosaic.TcCoe Idealize.SL.Sem

/-! # What the launch's windows hold

The host lays the arguments out before the launch: the queries scaled and with the positions last, the
keys and values by head, lambda along a row, the gain along the columns. -/

variable (m : ∀ ℓ : Loc nD τ sig, Buf (Elt Ideal) ℓ)

/-- The scale of the queries: an eighth over the logarithm of two. -/
def qScale : EReal := Ideal.ofBits .f32 0x3E000000#32 * Ideal.div 1 (Ideal.log (Ideal.ofBits .f32 0x40000000#32))

/-- The queries: batch, position, head, stream, entry. -/
def argQ (c : Dev nD) (b : Fin 8) (s : Fin 8192) (h : Fin 8) (st : Fin 2) (d : Fin 64) : EReal :=
  (m (c, main_arg0) : (⟨S8x8192x8x2x64, .f32⟩ : BufTy).Contents (Elt Ideal)) (ix5 b s h st d)

/-- The keys. -/
def argK (c : Dev nD) (b : Fin 8) (s : Fin 8192) (h : Fin 8) (st : Fin 2) (d : Fin 64) : EReal :=
  (m (c, main_arg1) : (⟨S8x8192x8x2x64, .f32⟩ : BufTy).Contents (Elt Ideal)) (ix5 b s h st d)

/-- The values: batch, position, head, entry. -/
def argV (c : Dev nD) (b : Fin 8) (s : Fin 8192) (h : Fin 8) (e : Fin 128) : EReal :=
  (m (c, main_arg2) : (⟨S8x8192x8x128, .f32⟩ : BufTy).Contents (Elt Ideal)) (ix4 b s h e)

/-- Lambda. -/
def argLam (c : Dev nD) : EReal := (m (c, main_arg3) : (⟨S1x1, .f32⟩ : BufTy).Contents (Elt Ideal)) (ix2 0 0)

/-- The gain. -/
def argG (c : Dev nD) (e : Fin 128) : EReal := (m (c, main_arg4) : (⟨S1x128, .f32⟩ : BufTy).Contents (Elt Ideal)) (ix2 0 e)

theorem entry_q (c : Dev nD) (b : Fin 8) (i : Fin 16) (r : Fin 1024) (x : Fin 512) :
    (V m c main_v7 : (⟨S8x16x1024x512, .bf16⟩ : BufTy).Contents (Elt Ideal)) (ix4 b i r x)
      = argQ m c b ⟨512 * i.val + x.val, by omega⟩ ⟨r.val / 128, by omega⟩ ⟨r.val / 64 % 2, by omega⟩ ⟨r.val % 64, by omega⟩ * qScale := by
  unfold argQ qScale
  entry_read
  pointwise
  simp only [Nat.mul_comm]

theorem entry_k (c : Dev nD) (b : Fin 8) (s : Fin 8192) (r : Fin 1024) :
    (V m c main_v9 : (⟨S8x8192x1024, .bf16⟩ : BufTy).Contents (Elt Ideal)) (ix3 b s r)
      = argK m c b s ⟨r.val / 128, by omega⟩ ⟨r.val / 64 % 2, by omega⟩ ⟨r.val % 64, by omega⟩ := by
  unfold argK
  entry_read
  pointwise

theorem entry_v (c : Dev nD) (b : Fin 8) (i : Fin 16) (r : Fin 1024) (x : Fin 512) :
    (V m c main_v12 : (⟨S8x16x1024x512, .bf16⟩ : BufTy).Contents (Elt Ideal)) (ix4 b i r x)
      = argV m c b ⟨512 * i.val + x.val, by omega⟩ ⟨r.val / 128, by omega⟩ ⟨r.val % 128, by omega⟩ := by
  unfold argV
  entry_read
  pointwise
  simp only [Nat.mul_comm]

theorem entry_lam (c : Dev nD) (x : Fin 512) :
    (V m c main_v13 : (⟨S1x512, .f32⟩ : BufTy).Contents (Elt Ideal)) (ix2 0 x) = argLam m c := by
  unfold argLam
  entry_read
  pointwise

theorem entry_gain (c : Dev nD) (e : Fin 128) (x : Fin 512) :
    (V m c main_v18 : (⟨S128x512, .f32⟩ : BufTy).Contents (Elt Ideal)) (ix2 e x) = argG m c e * Ideal.ofBits .f32 0x3F4CCCCD#32 := by
  unfold argG
  entry_read
  pointwise

end Cert.Proof.Value
end
-- ==== Proof.Value.Windows.lean ====
module

public import proofs.«01_k».proof.Proof.Value.Entry
public import Idealize.ShloMosaic.Lib.Pipeline.ValueKit.Geometry

@[expose] public section

set_option maxRecDepth 16384

noncomputable section

namespace Cert.Proof.Value
open Cert.KernelIdeal Cert.KernelIdeal.Gen Cert.Proof.KernelIdeal

open Idealize.ShloMosaic Idealize.ShloMosaic.TcCoe Idealize.SL.Sem

/-! # The windows of a grid point

Grid point `t` is head `t % 8` of batch `t / 8`. -/

variable (m : ∀ ℓ : Loc nD τ sig, Buf (Elt Ideal) ℓ)

theorem index0 : ∀ t : Fin cfg0.N, win0_0.index t = ![0, 0] := (by decide +kernel : ∀ t : Fin grid0.N, _)
theorem index1 : ∀ t : Fin cfg0.N, win0_1.index t = ![t.val / 8, 0, t.val % 8, 0] := (by decide +kernel : ∀ t : Fin grid0.N, _)
theorem index2 : ∀ t : Fin cfg0.N, win0_2.index t = ![t.val / 8, 0, t.val % 8] := (by decide +kernel : ∀ t : Fin grid0.N, _)
theorem index3 : ∀ t : Fin cfg0.N, win0_3.index t = ![t.val / 8, 0, t.val % 8, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 8, 0, t.val % 8, 0] := (by decide +kernel : ∀ t : Fin grid0.N, _)

variable (c : Dev nD) (t : Fin cfg0.N)

/-- The lambda window is the whole row. -/
theorem read_lam (x : Fin 512) : iblk m c 0 t (ix2 0 x) = V m c main_v13 (ix2 0 x) := by
  blk_ext [iblk, index0 t]

/-- The queries of the grid point's head. -/
theorem read_q (i : Fin 16) (r : Fin 128) (x : Fin 512) (hb : t.val / 8 < 8) (hr : 128 * (t.val % 8) + r.val < 1024) :
    iblk m c 1 t (ix4 0 i r x) = V m c main_v7 (ix4 ⟨t.val / 8, hb⟩ i ⟨128 * (t.val % 8) + r.val, hr⟩ x) := by
  blk_ext [iblk, index1 t]

/-- The keys of the grid point's head. -/
theorem read_k (s : Fin 8192) (r : Fin 128) (hb : t.val / 8 < 8) (hr : 128 * (t.val % 8) + r.val < 1024) :
    iblk m c 2 t (ix3 0 s r) = V m c main_v9 (ix3 ⟨t.val / 8, hb⟩ s ⟨128 * (t.val % 8) + r.val, hr⟩) := by
  blk_ext [iblk, index2 t]

/-- The values of the grid point's head. -/
theorem read_v (i : Fin 16) (r : Fin 128) (x : Fin 512) (hb : t.val / 8 < 8) (hr : 128 * (t.val % 8) + r.val < 1024) :
    iblk m c 3 t (ix4 0 i r x) = V m c main_v12 (ix4 ⟨t.val / 8, hb⟩ i ⟨128 * (t.val % 8) + r.val, hr⟩ x) := by
  blk_ext [iblk, index3 t]

/-- The gain window is the whole array. -/
theorem read_gain (e : Fin 128) (x : Fin 512) : iblk m c 4 t (ix2 e x) = V m c main_v18 (ix2 e x) := by
  blk_ext [iblk, index4 t]

end Cert.Proof.Value
end
-- ==== Proof.Value.Result.lean ====
module

public import proofs.«01_k».proof.Proof.Value.Rows

@[expose] public section

noncomputable section

namespace Cert.Proof.Value
open Idealize.ShloMosaic

/-! # The attention of real arguments

Both programs, on real queries, keys, values and lambda, come to the one formula of this module: weights
`exp (q · k / 8)` over the keys up to the query, the two streams' weighted means subtracted, the outcome
normalised over the head's 128 values. -/

/-- A natural number as a position. -/
def pos (n : ℕ) : Fin 8192 := ⟨n % 8192, Nat.mod_lt _ (by decide)⟩

theorem pos_val (n : Fin 8192) : pos n.val = n := Fin.ext (Nat.mod_eq_of_lt n.isLt)

theorem pos_mk (n : ℕ) (h : n < 8192) : (⟨n, h⟩ : Fin 8192) = pos n := (pos_val ⟨n, h⟩).symm

variable (Q K : Fin 8 → Fin 8192 → Fin 8 → Fin 2 → Fin 64 → ℝ) (V : Fin 8 → Fin 8192 → Fin 8 → Fin 128 → ℝ) (lm : ℝ) (g : Fin 128 → EReal)

/-- The product of query `n` and key `s` over eight. -/
def logit (b h : Fin 8) (st : Fin 2) (n s : ℕ) : ℝ := (∑ d : Fin 64, Q b (pos n) h st d * K b (pos s) h st d) * (1 / 8)

/-- The difference of the two streams' weighted means, at query `n`. -/
def head (b h : Fin 8) (n : ℕ) (e : Fin 128) : ℝ :=
  mix (fun s => V b (pos s) h e) (fun s => Real.exp (logit Q K b h 0 n s)) (fun s => Real.exp (logit Q K b h 1 n s)) lm n

/-- The result: block `i` of positions, row `r` (head `r / 128`, entry `r % 128`), position `x` of the block. -/
def result (b : Fin 8) (i : Fin 16) (r : Fin 1024) (x : Fin 512) : EReal :=
  rms (head Q K V lm b ⟨r.val / 128, by have := r.isLt; omega⟩ (512 * i.val + x.val)) ⟨r.val % 128, Nat.mod_lt _ (by decide)⟩
    * g ⟨r.val % 128, Nat.mod_lt _ (by decide)⟩ * Ideal.ofBits .f32 0x3F4CCCCD#32

/-- Two to the power of a number over the logarithm of two is its exponential. -/
theorem two_rpow_div_log (y : ℝ) : (2 : ℝ) ^ (y * (1 / Real.log 2)) = Real.exp y := by
  have h : Real.log 2 ≠ 0 := (Real.log_pos one_lt_two).ne'
  rw [Real.rpow_def_of_pos two_pos]
  congr 1
  field_simp

end Cert.Proof.Value
end
-- ==== Proof.Value.Array.lean ====
module

public import proofs.«01_k».proof.Proof.Value.Windows
public import proofs.«01_k».proof.Proof.Value.Result

@[expose] public section

set_option maxRecDepth 16384

noncomputable section

namespace Cert.Proof.Value
open Cert.KernelIdeal Cert.KernelIdeal.Gen Cert.Proof.KernelIdeal

open Idealize.ShloMosaic Idealize.ShloMosaic.TcCoe Idealize.SL.Sem

/-! # The kernel's result on real arguments -/

variable (m : ∀ ℓ : Loc nD τ sig, Buf (Elt Ideal) ℓ)
variable (Q K : Fin 8 → Fin 8192 → Fin 8 → Fin 2 → Fin 64 → ℝ) (V : Fin 8 → Fin 8192 → Fin 8 → Fin 128 → ℝ) (lm : ℝ)

/-- The arguments of the core `c` are the real numbers `Q`, `K`, `V`, `lm`. -/
structure Reals (c : Dev nD) : Prop where
  q : ∀ b s h st d, argQ m c b s h st d = ↑(Q b s h st d)
  k : ∀ b s h st d, argK m c b s h st d = ↑(K b s h st d)
  v : ∀ b s h e, argV m c b s h e = ↑(V b s h e)
  lam : argLam m c = ↑lm

/-- The scale of the queries is a real number. -/
theorem qScale_real : qScale = ↑((1 / 8 : ℝ) * (1 / Real.log 2)) := by
  have h8 : Ideal.ofBits .f32 0x3E000000#32 = ((1 / 8 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have hl : Real.log 2 ≠ 0 := (Real.log_pos one_lt_two).ne'
  rw [qScale, h8, h2, Ideal.log_coe, if_neg (by norm_num), Ideal.div_coe hl, one_mul, EReal.coe_mul]

/-- Two to the power of a score of the scaled queries is the exponential of the unscaled one. -/
theorem weight_eq (Q K : Fin 8 → Fin 8192 → Fin 8 → Fin 2 → Fin 64 → ℝ) (b h : Fin 8) (st : Fin 2) (n s : ℕ) (h₁ : ∀ r : Fin 128, r.val / 64 < 2) (h₂ : ∀ r : Fin 128, r.val % 64 < 64) :
    (2 : ℝ) ^ score (fun s r => K b (pos s) h ⟨r.val / 64, h₁ r⟩ ⟨r.val % 64, h₂ r⟩)
        (fun r => Q b (pos n) h ⟨r.val / 64, h₁ r⟩ ⟨r.val % 64, h₂ r⟩ * ((1 / 8 : ℝ) * (1 / Real.log 2))) st s
      = Real.exp (logit Q K b h st n s) := by
  rw [← two_rpow_div_log, score, logit, Finset.sum_mul, Finset.sum_mul]
  congr 1
  refine Finset.sum_congr rfl fun d _ => ?_
  have e₁ (w) : (⟨(64 * st.val + d.val) / 64, w⟩ : Fin 2) = st := Fin.ext (by show (64 * st.val + d.val) / 64 = st.val; omega)
  have e₂ (w) : (⟨(64 * st.val + d.val) % 64, w⟩ : Fin 64) = d := Fin.ext (by show (64 * st.val + d.val) % 64 = d.val; omega)
  simp only [e₁, e₂]
  ring

variable (c : Dev nD) (hR : Reals m Q K V lm c)
include hR

/-- The grid point's results: head `t % 8` of batch `t / 8`. -/
theorem outBlk_real (t : Fin cfg0.N) (i : Fin 16) (e : Fin 128) (x : Fin 512) (hb : t.val / 8 < 8) (hr : 128 * (t.val % 8) + e.val < 1024) :
    outBlk (iblk m c 0 t) (iblk m c 1 t) (iblk m c 2 t) (iblk m c 3 t) (iblk m c 4 t) (ix4 0 i e x)
      = result Q K V lm (argG m c) ⟨t.val / 8, hb⟩ i ⟨128 * (t.val % 8) + e.val, hr⟩ x := by
  have hh : t.val % 8 < 8 := Nat.mod_lt _ (by decide)
  let hd : Fin 8 := ⟨t.val % 8, hh⟩
  let bt : Fin 8 := ⟨t.val / 8, hb⟩
  have row (r : Fin 128) : 128 * (t.val % 8) + r.val < 1024 := by have := r.isLt; omega
  have row8 (r : Fin 128) (h : (128 * (t.val % 8) + r.val) / 128 < 8) : (⟨(128 * (t.val % 8) + r.val) / 128, h⟩ : Fin 8) = hd :=
    Fin.ext (by show (128 * (t.val % 8) + r.val) / 128 = t.val % 8; have := r.isLt; omega)
  have row2 (r : Fin 128) (h) (h' : r.val / 64 < 2) : (⟨(128 * (t.val % 8) + r.val) / 64 % 2, h⟩ : Fin 2) = ⟨r.val / 64, h'⟩ :=
    Fin.ext (by show (128 * (t.val % 8) + r.val) / 64 % 2 = r.val / 64; have := r.isLt; omega)
  have row64 (r : Fin 128) (h) (h' : r.val % 64 < 64) : (⟨(128 * (t.val % 8) + r.val) % 64, h⟩ : Fin 64) = ⟨r.val % 64, h'⟩ :=
    Fin.ext (by show (128 * (t.val % 8) + r.val) % 64 = r.val % 64; have := r.isLt; omega)
  have row128 (r : Fin 128) (h) : (⟨(128 * (t.val % 8) + r.val) % 128, h⟩ : Fin 128) = r :=
    Fin.ext (by show (128 * (t.val % 8) + r.val) % 128 = r.val; have := r.isLt; omega)
  have st (r : Fin 128) : r.val / 64 < 2 := by have := r.isLt; omega
  have en (r : Fin 128) : r.val % 64 < 64 := Nat.mod_lt _ (by decide)
  refine (outRow_real (iblk m c 0 t) (iblk m c 1 t) (iblk m c 2 t) (iblk m c 3 t) (iblk m c 4 t) i.val i.isLt x lm
    (fun r y => Q bt (pos (512 * i.val + y.val)) hd ⟨r.val / 64, st r⟩ ⟨r.val % 64, en r⟩ * ((1 / 8 : ℝ) * (1 / Real.log 2)))
    (fun s r => K bt (pos s) hd ⟨r.val / 64, st r⟩ ⟨r.val % 64, en r⟩)
    (fun r s => V bt (pos s) hd r) ?_ ?_ ?_ ?_ e).trans ?_
  · rw [read_lam, entry_lam, hR.lam]
  · intro r y
    rw [read_q m c t _ r y hb (row r), entry_q, hR.q, qScale_real, row8, row2 r _ (st r), row64 r _ (en r), pos_mk, ← EReal.coe_mul]
  · intro s r
    rw [read_k m c t s r hb (row r), entry_k, hR.k, row8, row2 r _ (st r), row64 r _ (en r), pos_val]
  · intro j r y
    rw [read_v m c t j r y hb (row r), entry_v, hR.v, row8, row128, pos_mk]
  · rw [read_gain, entry_gain, ← mul_assoc, result, row8, row128]
    congr 3
    funext e
    exact mix_congr (fun s _ => rfl) (fun s _ => weight_eq Q K bt hd 0 _ s _ _) (fun s _ => weight_eq Q K bt hd 1 _ s _ _)

end Cert.Proof.Value
end
-- ==== Proof.Value.Kernel.lean ====
module

public import proofs.«01_k».proof.Proof.Value.Array

@[expose] public section

set_option maxRecDepth 16384

noncomputable section

namespace Cert.Proof.Value
open Cert.KernelIdeal Cert.KernelIdeal.Gen Cert.Proof.KernelIdeal

open Idealize.ShloMosaic Idealize.ShloMosaic.TcCoe Idealize.SL.Sem

/-! # The kernel's run on real arguments -/

variable (m : ∀ ℓ : Loc nD τ sig, Buf (Elt Ideal) ℓ)
variable (Q K : Fin 8 → Fin 8192 → Fin 8 → Fin 2 → Fin 64 → ℝ) (V : Fin 8 → Fin 8192 → Fin 8 → Fin 128 → ℝ) (lm : ℝ)

/-- The result array of real arguments. -/
def out (g : Fin 128 → EReal) : Vec Ideal S8x16x1024x512 .bf16 := fun j => result Q K V lm g (j 0) (j 1) (j 2) (j 3)

/-- The result array after the run: every grid point has left its head's results in it. -/
theorem final_o (c : Dev nD) (hR : Reals m Q K V lm c) : (dats m 0 c).arrAt 5 cfg0.N = out Q K V lm (argG m c) := by
  refine (dats m 0 c).arrAt_eq_of_covers 5 _ (by decide +kernel) fun t hf y => ?_
  have ht : t.val < 64 := t.isLt
  blk_simp
  rw [after0_5]
  obtain ⟨y0, y1, y2, y3, rfl⟩ : ∃ (a : Fin 1) (b : Fin 16) (e : Fin 128) (x : Fin 512), y = ix4 a b e x :=
    ⟨y 0, y 1, y 2, y 3, by funext a; fin_cases a <;> rfl⟩
  obtain rfl : y0 = 0 := Subsingleton.elim _ _
  rw [outBlk_real m Q K V lm c hR t y1 y2 y3 (by omega) (by have := y2.isLt; omega)]
  unfold out
  congr 1
  all_goals (apply Fin.ext; blk_simp [index5 t])
  · exact (Nat.add_zero (t.val / 8)).symm
  · show 128 * (t.val % 8) + y2.val = t.val % 8 * 128 + y2.val
    omega

/-- The kernel's run: the result array at the attention of the real arguments, the arguments as they were. -/
theorem run_kernel (ρ : Dev nD → PrngReg) (Q K : Dev nD → Fin 8 → Fin 8192 → Fin 8 → Fin 2 → Fin 64 → ℝ) (V : Dev nD → Fin 8 → Fin 8192 → Fin 8 → Fin 128 → ℝ) (lm : Dev nD → ℝ)
    (hR : ∀ c, Reals m (Q c) (K c) (V c) (lm c) c) :
    θ_run defs (onTc (τ := τ) (main (F := Ideal))) ⟨m, fun _ => 0, ρ⟩ (fun r => ∀ c : Dev nD,
      r.2.mem ((c.tc : Thread nD τ).loc main_v19) = out (Q c) (K c) (V c) (lm c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final_o m (Q c) (K c) (V c) (lm c) c (hR c)), h.2 c⟩)
    (θ_run_and (run_main m ρ) (unchanged m ρ))

end Cert.Proof.Value
end
-- ==== Proof.Value.Stages.lean ====
module

public import proofs.«01_k».proof.Proof.Gen.ReferenceIdeal.Run
public import proofs.«01_k».proof.Proof.Value.Rows
public import Idealize.ShloMosaic.Lib.Tactic.CleanTypes

@[expose] public section

set_option maxRecDepth 16384

noncomputable section

namespace Cert.Proof.Value.Ref
open Cert.ReferenceIdeal Cert.ReferenceIdeal.Gen

open Idealize.ShloMosaic Idealize.ShloMosaic.TcCoe Idealize.SL.Sem

/-! # The reference, in stages

The reference's result is one composed expression of the arguments. Here it is cut at the scores, the
exponentials, the probabilities, the attention and the weighted values, each stage read at an index. -/

/-- The scores, minus infinity where the key comes after the query. -/
def scores (Q K : FVec Ideal S8x8192x8x2x64 .f32) : FVec Ideal S8x8x2x8192x8192 .f32 :=
  select (broadcastInDim S8x8x2x8192x8192 ![3, 4] bcast_S8192x8192_S8x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (mulf (Host.dotGeneral dot_S8x8192x8x2x64_S8x8192x8x2x64_S8x8x2x8192x8192_4_4_1_1_023_023 none Q K) (broadcastInDim S8x8x2x8192x8192 ![] bcast_S_S8x8x2x8192x8192 (constant S_ .f32 0x3E000000#32)))
    (broadcastInDim S8x8x2x8192x8192 ![] bcast_S_S8x8x2x8192x8192 (id (constant S_ .f32 0xFF800000#32)))

/-- Each query's greatest score. -/
def top (s : FVec Ideal S8x8x2x8192x8192 .f32) : FVec Ideal S8x8x2x8192 .f32 :=
  maximumf (broadcastInDim S8x8x2x8192 ![] bcast_S_S8x8x2x8192 (constant S_ .f32 0xFF800000#32))
    (Host.reduce FloatOps.maximumf s (constant S_ .f32 0xFF800000#32) reducesTo_S8x8x2x8192x8192_S8x8x2x8192_d4 h_S_)

/-- The exponentials of the scores less the greatest. -/
def expo (s : FVec Ideal S8x8x2x8192x8192 .f32) (t : FVec Ideal S8x8x2x8192 .f32) : FVec Ideal S8x8x2x8192x8192 .f32 :=
  Host.exp (subf s (broadcastInDim S8x8x2x8192x8192 ![0, 1, 2, 3, 4] bcast_S8x8x2x8192x1_S8x8x2x8192x8192_0_1_2_3_4 (broadcastInDim S8x8x2x8192x1 ![0, 1, 2, 3] bcast_S8x8x2x8192_S8x8x2x8192x1_0_1_2_3 t)))

/-- The probabilities. -/
def prob (x : FVec Ideal S8x8x2x8192x8192 .f32) : FVec Ideal S8x8x2x8192x8192 .f32 :=
  Host.divf x (broadcastInDim S8x8x2x8192x8192 ![0, 1, 2, 3, 4] bcast_S8x8x2x8192x1_S8x8x2x8192x8192_0_1_2_3_4 (broadcastInDim S8x8x2x8192x1 ![0, 1, 2, 3] bcast_S8x8x2x8192_S8x8x2x8192x1_0_1_2_3 (Host.reduceAdd x (constant S_ .f32 0x00000000#32) reducesTo_S8x8x2x8192x8192_S8x8x2x8192_d4 h_S_)))

/-- The first stream's probabilities less lambda times the second's. -/
def attn (p : FVec Ideal S8x8x2x8192x8192 .f32) (lam : FVec Ideal S1x1 .f32) : FVec Ideal S8x8x8192x8192 .f32 :=
  subf (shapeCast _ (extractStridedSlice S8x8x1x8192x8192 ![0, 0, 0, 0, 0] p slices_S8x8x2x8192x8192_S8x8x1x8192x8192_0_0_0_0_0) shapeCasts_S8x8x1x8192x8192_S8x8x8192x8192)
    (mulf (broadcastInDim S8x8x8192x8192 ![] bcast_S_S8x8x8192x8192 (shapeCast _ lam shapeCasts_S1x1_S_))
      (shapeCast _ (extractStridedSlice S8x8x1x8192x8192 ![0, 0, 1, 0, 0] p slices_S8x8x2x8192x8192_S8x8x1x8192x8192_0_0_1_0_0) shapeCasts_S8x8x1x8192x8192_S8x8x8192x8192))

/-- The values weighted by the attention. -/
def weighted (V : FVec Ideal S8x8192x8x128 .f32) (a : FVec Ideal S8x8x8192x8192 .f32) : FVec Ideal S8x8192x8x128 .f32 :=
  transpose S8x8192x8x128 [0, 3, 1, 2] (Host.dotGeneral dot_S8x8192x8x128_S8x8x8192x8192_S8x8x128x8192_1_3_3_2_02_01 none V a) transposes_S8x8x128x8192_S8x8192x8x128_0_3_1_2

/-- The normalised result, laid out with the positions last. -/
def normed (o : FVec Ideal S8x8192x8x128 .f32) (g : FVec Ideal S1x128 .f32) : FVec Ideal S8x16x1024x512 .bf16 :=
  truncf .bf16 (transpose S8x16x1024x512 [0, 1, 3, 2] (shapeCast _ (mulf (mulf (mulf o
    (broadcastInDim S8x8192x8x128 ![0, 1, 2, 3] bcast_S8x8192x8x1_S8x8192x8x128_0_1_2_3 (Host.rsqrt (addf (Host.divf (broadcastInDim S8x8192x8x1 ![0, 1, 2] bcast_S8x8192x8_S8x8192x8x1_0_1_2 (Host.reduceAdd (mulf o o) (constant S_ .f32 0x00000000#32) reducesTo_S8x8192x8x128_S8x8192x8_d3 h_S_)) (broadcastInDim S8x8192x8x1 ![] bcast_S_S8x8192x8x1 (constant S_ .f32 0x43000000#32))) (broadcastInDim S8x8192x8x1 ![] bcast_S_S8x8192x8x1 (constant S_ .f32 0x358637BD#32))))))
    (broadcastInDim S8x8192x8x128 ![0, 1, 2, 3] bcast_S1x1x1x128_S8x8192x8x128_0_1_2_3 (broadcastInDim S1x1x1x128 ![3] bcast_S128_S1x1x1x128_3 (shapeCast _ g shapeCasts_S1x128_S128))))
    (broadcastInDim S8x8192x8x128 ![] bcast_S_S8x8192x8x128 (constant S_ .f32 0x3F4CCCCD#32))) shapeCasts_S8x8192x8x128_S8x16x512x1024) transposes_S8x16x512x1024_S8x16x1024x512_0_1_3_2) bitsLt_bf16_f32

/-- The probabilities of the queries and keys. -/
def probs (Q K : FVec Ideal S8x8192x8x2x64 .f32) : FVec Ideal S8x8x2x8192x8192 .f32 := prob (expo (scores Q K) (top (scores Q K)))

/-- The reference's result, by stages. -/
theorem res_eq (m : (ℓ : Loc nD τ sig) → Buf (Elt Ideal) ℓ) (c : Dev nD) :
    Cert.ReferenceIdeal.Value.res_out0 (F := Ideal) m c
      = normed (weighted (m ((c.tc : Thread nD τ).loc main_arg2)) (attn (probs (m ((c.tc : Thread nD τ).loc main_arg0)) (m ((c.tc : Thread nD τ).loc main_arg1))) (m ((c.tc : Thread nD τ).loc main_arg3)))) (m ((c.tc : Thread nD τ).loc main_arg4)) := by
  unfold Cert.ReferenceIdeal.Value.res_out0 Cert.ReferenceIdeal.Value.res_main_v49 probs normed weighted attn prob expo top scores
  rfl

/-- A greatest element along the last of five axes, from minus infinity, is the fold of `max` over that axis. -/
theorem reduce_max_last {B H C N M : ℕ} (s : FVec Ideal ⟨5, ![B, H, C, N, M]⟩ .f32) (z : FVec Ideal S_ .f32) (z' : FVec Ideal ⟨4, ![B, H, C, N]⟩ .f32)
    (hr : (⟨5, ![B, H, C, N, M]⟩ : Shape).ReducesTo [4] ⟨4, ![B, H, C, N]⟩) (hu : 0 < S_.numel)
    (hz : ∀ i, z i = (⊥ : EReal)) (hz' : ∀ i, z' i = (⊥ : EReal)) (b : Fin B) (h : Fin H) (c : Fin C) (n : Fin N) :
    maximumf z' (Host.reduce FloatOps.maximumf s z hr hu) (ix4 b h c n) = (Finset.univ : Finset (Fin M)).fold max (⊥ : EReal) fun k => s (ix5 b h c n k) := by
  pointwise []
  rw [hz, hz']
  exact max_eq_right bot_le

variable (Q K : FVec Ideal S8x8192x8x2x64 .f32)

/-- A score: the query's and the key's product over eight, minus infinity where the key comes after the query. -/
theorem scores_apply (b h : Fin 8) (st : Fin 2) (n s : Fin 8192) :
    scores Q K (ix5 b h st n s)
      = if s.val ≤ n.val then (∑ d : Fin 64, Q (ix5 b n h st d) * K (ix5 b s h st d)) * Ideal.ofBits .f32 0x3E000000#32 else ⊥ := by
  pointwise [scores]
  rw [sle_ofNat (by omega) (by omega), show id (constant (F := Ideal) S_ .f32 0xFF800000#32) ix0 = (⊥ : EReal) from ofBits_negInf]
  split_ifs <;> rfl

/-- A query's greatest score is the fold of `max` over its scores. -/
theorem top_apply (s : FVec Ideal S8x8x2x8192x8192 .f32) (b h : Fin 8) (st : Fin 2) (n : Fin 8192) :
    top s (ix4 b h st n) = (Finset.univ : Finset (Fin 8192)).fold max ⊥ fun k => s (ix5 b h st n k) := by
  unfold top
  exact reduce_max_last s _ _ reducesTo_S8x8x2x8192x8192_S8x8x2x8192_d4 h_S_ (fun _ => ofBits_negInf) (fun _ => ofBits_negInf) b h st n

/-- An exponential. -/
theorem expo_apply (s : FVec Ideal S8x8x2x8192x8192 .f32) (t : FVec Ideal S8x8x2x8192 .f32) (b h : Fin 8) (st : Fin 2) (n k : Fin 8192) :
    expo s t (ix5 b h st n k) = Ideal.exp (s (ix5 b h st n k) - t (ix4 b h st n)) := by
  pointwise [expo]

/-- A probability. -/
theorem prob_apply (x : FVec Ideal S8x8x2x8192x8192 .f32) (b h : Fin 8) (st : Fin 2) (n k : Fin 8192) :
    prob x (ix5 b h st n k) = Ideal.div (x (ix5 b h st n k)) (∑ j : Fin 8192, x (ix5 b h st n j)) := by
  pointwise [prob]

/-- An entry of the attention. -/
theorem attn_apply (p : FVec Ideal S8x8x2x8192x8192 .f32) (lam : FVec Ideal S1x1 .f32) (b h : Fin 8) (n k : Fin 8192) :
    attn p lam (ix4 b h n k) = p (ix5 b h 0 n k) - lam (ix2 0 0) * p (ix5 b h 1 n k) := by
  pointwise [attn]

/-- An entry of the weighted values. -/
theorem weighted_apply (V : FVec Ideal S8x8192x8x128 .f32) (a : FVec Ideal S8x8x8192x8192 .f32) (b h : Fin 8) (n : Fin 8192) (e : Fin 128) :
    weighted V a (ix4 b n h e) = ∑ k : Fin 8192, V (ix4 b k h e) * a (ix4 b h n k) := by
  pointwise [weighted]

/-- An entry of the result: position `512 i + x`, head `r / 128`, feature `r % 128`. -/
theorem normed_apply (o : FVec Ideal S8x8192x8x128 .f32) (g : FVec Ideal S1x128 .f32) (b : Fin 8) (i : Fin 16) (r : Fin 1024) (x : Fin 512)
    (hn : 512 * i.val + x.val < 8192) (hh : r.val / 128 < 8) (he : r.val % 128 < 128) :
    normed o g (ix4 b i r x)
      = o (ix4 b ⟨512 * i.val + x.val, hn⟩ ⟨r.val / 128, hh⟩ ⟨r.val % 128, he⟩)
        * Ideal.rsqrt (Ideal.div (∑ y : Fin 128, o (ix4 b ⟨512 * i.val + x.val, hn⟩ ⟨r.val / 128, hh⟩ y) * o (ix4 b ⟨512 * i.val + x.val, hn⟩ ⟨r.val / 128, hh⟩ y))
            (Ideal.ofBits .f32 0x43000000#32) + Ideal.ofBits .f32 0x358637BD#32)
        * g (ix2 0 ⟨r.val % 128, he⟩) * Ideal.ofBits .f32 0x3F4CCCCD#32 := by
  pointwise [normed]
  simp only [Nat.mul_comm i.val 512]

end Cert.Proof.Value.Ref
end
-- ==== Proof.Value.Scale.lean ====
module

public import proofs.«01_k».proof.Proof.Value.Result
public import Mathlib.Data.Finset.Fold

@[expose] public section

noncomputable section

namespace Cert.Proof.Value
open Idealize.ShloMosaic

/-! # Facts about masked rows -/

/-- The terms of a masked sum over all the positions are those of the positions up to `n`. -/
theorem sum_mask (f : ℕ → ℝ) (n : Fin 8192) : (∑ s : Fin 8192, if s.val ≤ n.val then f s.val else 0) = ∑ s ∈ Finset.range (n.val + 1), f s := by
  rw [Fin.sum_univ_eq_sum_range (fun s => if s ≤ n.val then f s else 0) 8192, ← Finset.sum_filter]
  exact Finset.sum_congr (by ext t; have := n.isLt; simp only [Finset.mem_filter, Finset.mem_range]; omega) fun _ _ => rfl

/-- The greatest of a row of real numbers, masked by minus infinity, is real: the query's own position is not masked. -/
theorem max_real (f : Fin 8192 → ℝ) (n : Fin 8192) :
    ∃ M : ℝ, (Finset.univ : Finset (Fin 8192)).fold max ⊥ (fun k => if k.val ≤ n.val then (f k : EReal) else ⊥) = ↑M := by
  have lo : (⊥ : EReal) < (Finset.univ : Finset (Fin 8192)).fold max ⊥ (fun k => if k.val ≤ n.val then (f k : EReal) else ⊥) :=
    (Finset.lt_fold_max _).mpr (.inr ⟨n, Finset.mem_univ _, by rw [if_pos le_rfl]; exact EReal.bot_lt_coe _⟩)
  have hi : (Finset.univ : Finset (Fin 8192)).fold max ⊥ (fun k => if k.val ≤ n.val then (f k : EReal) else ⊥) < ⊤ :=
    (Finset.fold_max_lt _).mpr ⟨bot_lt_top, fun k _ => by split_ifs; exacts [EReal.coe_lt_top _, bot_lt_top]⟩
  exact ⟨_, (EReal.coe_toReal hi.ne lo.ne').symm⟩

/-- A common factor of the weights leaves the weighted means as they are; so the greatest score may be taken from every score. -/
theorem mix_shift (v x₀ x₁ : ℕ → ℝ) (M₀ M₁ lm : ℝ) (n : ℕ) :
    mix v (fun s => Real.exp (x₀ s - M₀)) (fun s => Real.exp (x₁ s - M₁)) lm n = mix v (fun s => Real.exp (x₀ s)) (fun s => Real.exp (x₁ s)) lm n := by
  have a (x : ℕ → ℝ) (M : ℝ) : (∑ s ∈ Finset.range (n + 1), v s * Real.exp (x s - M)) / (∑ s ∈ Finset.range (n + 1), Real.exp (x s - M))
      = (∑ s ∈ Finset.range (n + 1), v s * Real.exp (x s)) / (∑ s ∈ Finset.range (n + 1), Real.exp (x s)) := by
    have h := Real.exp_ne_zero M
    rw [show (∑ s ∈ Finset.range (n + 1), v s * Real.exp (x s - M)) = (∑ s ∈ Finset.range (n + 1), v s * Real.exp (x s)) / Real.exp M by
        rw [Finset.sum_div]; exact Finset.sum_congr rfl fun s _ => by rw [Real.exp_sub, mul_div_assoc],
      show (∑ s ∈ Finset.range (n + 1), Real.exp (x s - M)) = (∑ s ∈ Finset.range (n + 1), Real.exp (x s)) / Real.exp M by
        rw [Finset.sum_div]; exact Finset.sum_congr rfl fun s _ => Real.exp_sub _ _,
      div_div_div_cancel_right₀ h]
  unfold mix
  rw [a, a]

/-- The values weighted by the difference of the two streams' shares is the difference of their weighted means. -/
theorem mix_shares (v w₀ w₁ : ℕ → ℝ) (lm : ℝ) (n : ℕ) :
    ∑ s ∈ Finset.range (n + 1), v s * (w₀ s * (1 / ∑ j ∈ Finset.range (n + 1), w₀ j) - lm * (w₁ s * (1 / ∑ j ∈ Finset.range (n + 1), w₁ j)))
      = mix v w₀ w₁ lm n := by
  unfold mix
  rw [Finset.sum_div, Finset.sum_div, Finset.mul_sum, ← Finset.sum_sub_distrib]
  exact Finset.sum_congr rfl fun s _ => by ring

end Cert.Proof.Value
end
-- ==== Proof.Value.Reference.lean ====
module

public import proofs.«01_k».proof.Proof.Value.Stages
public import proofs.«01_k».proof.Proof.Value.Scale

@[expose] public section

set_option maxRecDepth 16384

noncomputable section

namespace Cert.Proof.Value.Ref
open Cert.ReferenceIdeal Cert.ReferenceIdeal.Gen

open Idealize.ShloMosaic Idealize.ShloMosaic.TcCoe Idealize.SL.Sem

/-! # The reference on real arguments -/

variable {Q K : Fin 8 → Fin 8192 → Fin 8 → Fin 2 → Fin 64 → ℝ} {V : Fin 8 → Fin 8192 → Fin 8 → Fin 128 → ℝ} {lm : ℝ}
variable {q k : FVec Ideal S8x8192x8x2x64 .f32} {v : FVec Ideal S8x8192x8x128 .f32} {lam : FVec Ideal S1x1 .f32}
variable (hq : ∀ b s h st d, q (ix5 b s h st d) = (Q b s h st d : EReal)) (hk : ∀ b s h st d, k (ix5 b s h st d) = (K b s h st d : EReal))

include hq hk in
/-- A score of real queries and keys. -/
theorem scores_real (b h : Fin 8) (st : Fin 2) (n s : Fin 8192) :
    scores q k (ix5 b h st n s) = if s.val ≤ n.val then (logit Q K b h st n.val s.val : EReal) else ⊥ := by
  have h8 : Ideal.ofBits .f32 0x3E000000#32 = ((1 / 8 : ℝ) : EReal) := by
    simp [Ideal.ofBits, Ideal.ieee]
    rw [← EReal.coe_mul]; norm_num
  rw [scores_apply, h8]
  simp only [hq, hk, ← EReal.coe_mul, ← coe_sum]
  rw [logit, pos_val, pos_val]

include hq hk in
/-- The probabilities of real queries and keys: the exponentials over their sum, for some number taken from every score. -/
theorem probs_real (b h : Fin 8) (st : Fin 2) (n : Fin 8192) :
    ∃ M : ℝ, ∀ s : Fin 8192, probs q k (ix5 b h st n s)
      = ((if s.val ≤ n.val then Real.exp (logit Q K b h st n.val s.val - M) * (1 / ∑ j ∈ Finset.range (n.val + 1), Real.exp (logit Q K b h st n.val j - M)) else 0 : ℝ) : EReal) := by
  obtain ⟨M, hM⟩ := max_real (fun s => logit Q K b h st n.val s.val) n
  refine ⟨M, fun s => ?_⟩
  have ht : top (scores q k) (ix4 b h st n) = (M : EReal) := by
    rw [top_apply]; simp only [scores_real hq hk]; exact hM
  have he (s : Fin 8192) : expo (scores q k) (top (scores q k)) (ix5 b h st n s)
      = ((if s.val ≤ n.val then Real.exp (logit Q K b h st n.val s.val - M) else 0 : ℝ) : EReal) := by
    rw [expo_apply, ht, scores_real hq hk]
    split_ifs
    · rw [← EReal.coe_sub, Ideal.exp_coe]
    · rw [EReal.bot_sub, Ideal.exp_bot, EReal.coe_zero]
  have hL : (∑ j ∈ Finset.range (n.val + 1), Real.exp (logit Q K b h st n.val j - M)) ≠ 0 :=
    (Finset.sum_pos (fun _ _ => Real.exp_pos _) ⟨0, Finset.mem_range.mpr (Nat.succ_pos _)⟩).ne'
  rw [probs, prob_apply]
  simp only [he]
  rw [← coe_sum, sum_mask (fun j => Real.exp (logit Q K b h st n.val j - M)) n, Ideal.div_coe hL, ← EReal.coe_mul]
  split_ifs
  · rfl
  · rw [zero_mul]

variable (hv : ∀ b s h e, v (ix4 b s h e) = (V b s h e : EReal)) (hl : lam (ix2 0 0) = (lm : EReal))

include hq hk hv hl in
/-- The weighted values of real arguments. -/
theorem weighted_real (b h : Fin 8) (n : Fin 8192) (e : Fin 128) :
    weighted v (attn (probs q k) lam) (ix4 b n h e) = (head Q K V lm b h n.val e : EReal) := by
  obtain ⟨M₀, h₀⟩ := probs_real hq hk b h 0 n
  obtain ⟨M₁, h₁⟩ := probs_real hq hk b h 1 n
  rw [weighted_apply]
  simp only [attn_apply, h₀, h₁, hv, hl, ← EReal.coe_mul, ← EReal.coe_sub, ← coe_sum]
  rw [head, ← mix_shift _ _ _ M₀ M₁, ← mix_shares]
  refine EReal.coe_eq_coe_iff.mpr ((Finset.sum_congr rfl fun s _ => ?_).trans (sum_mask _ n))
  split_ifs
  · rw [pos_val]
  · rw [mul_zero, sub_zero, mul_zero]

include hq hk hv hl in
/-- The reference's result on real arguments. -/
theorem normed_real (g : FVec Ideal S1x128 .f32) (b : Fin 8) (i : Fin 16) (r : Fin 1024) (x : Fin 512) :
    normed (weighted v (attn (probs q k) lam)) g (ix4 b i r x) = result Q K V lm (fun e => g (ix2 0 e)) b i r x := by
  rw [normed_apply _ _ b i r x (by omega) (by omega) (by omega)]
  simp only [weighted_real hq hk hv hl, ← EReal.coe_mul, ← coe_sum]
  rfl

end Cert.Proof.Value.Ref
end
-- ==== Proof.Value.Pre.lean ====
module

public import proofs.«01_k».proof.Defs
public import Idealize.ShloMosaic.Lib.ReduceAll

@[expose] public section

set_option maxRecDepth 16384

noncomputable section

namespace Cert.Proof.Value
open Cert.Pre_finite Idealize.ShloMosaic

/-! # The precondition

`finite` says of the queries, keys, values and lambda that every element's absolute value is below
infinity: that it is a real number. -/

theorem finite_facts : Cert.Pre_finite.Facts where
  bcast_S_S8x8192x8x2x64 := by decide
  reducesTo_S8x8192x8x2x64_S_d0_1_2_3_4 := by decide
  h_S_ := by decide
  bcast_S_S8x8192x8x128 := by decide
  reducesTo_S8x8192x8x128_S_d0_1_2_3 := by decide
  bcast_S_S1x1 := by decide
  reducesTo_S1x1_S_d0_1 := by decide

/-- An extended real whose absolute value is below infinity is a real number. -/
theorem real_of_abs (x : EReal) (h : Ideal.cmp .olt (max x (-x)) (Ideal.ofBits .f32 0x7F800000#32) = 1#1) : x = ↑x.toReal := by
  have hi : Ideal.ofBits .f32 0x7F800000#32 = (⊤ : EReal) := by simp [Ideal.ofBits, Ideal.ieee]
  rw [hi] at h
  induction x with
  | bot => simp [Ideal.cmp] at h
  | coe r => rfl
  | top => simp [Ideal.cmp] at h

variable [Cert.Pre_finite.Facts]

/-- Where `finite` holds, the queries, keys, values and lambda are real numbers. -/
theorem finite_real (q k : FVec Ideal S8x8192x8x2x64 .f32) (v : FVec Ideal S8x8192x8x128 .f32) (lam : FVec Ideal S1x1 .f32) (g : FVec Ideal S1x128 .f32)
    (h : ∀ i, Cert.Pre_finite.fn (F := Ideal) q k v lam g i = 1#1) :
    (∀ i, q i = ((q i).toReal : EReal)) ∧ (∀ i, k i = ((k i).toReal : EReal)) ∧ (∀ i, v i = ((v i).toReal : EReal)) ∧ (∀ i, lam i = ((lam i).toReal : EReal)) := by
  have h0 := h (Shape.Idx.first Facts.h_S_)
  dsimp only [Cert.Pre_finite.fn, Cert.Pre_finite.fn_part1] at h0
  obtain ⟨h1, hl⟩ := IntOp.andi_eq_one.mp h0
  obtain ⟨h2, hv⟩ := IntOp.andi_eq_one.mp h1
  obtain ⟨hq, hk⟩ := IntOp.andi_eq_one.mp h2
  haveI : Subsingleton S_.Idx := ⟨fun a b => funext fun i => i.elim0⟩
  exact ⟨fun i => real_of_abs _ (Host.reduce_andi_all _ _ _ _ _ hq i), fun i => real_of_abs _ (Host.reduce_andi_all _ _ _ _ _ hk i),
    fun i => real_of_abs _ (Host.reduce_andi_all _ _ _ _ _ hv i), fun i => real_of_abs _ (Host.reduce_andi_all _ _ _ _ _ hl i)⟩

end Cert.Proof.Value
end
-- ==== Proof.Post.Spec.lean ====
module

public import proofs.«01_k».proof.Proof.Value.Rows

@[expose] public section

noncomputable section

namespace Cert.Proof.Post
open Idealize.ShloMosaic

/-! # The rest of the layer after the attention, for one token

Both programs compute every token by itself. This module writes down what one token's results are:
the two branches' outputs merged, the residual, the normalised and modulated row, and the feed-forward. -/

/-- What belongs to one token: its row `x` of the layer's input, the two branches' outputs, the merge
gates' arguments and the six modulation rows of its batch. -/
structure Token where
  x : Fin 1024 → EReal
  rnn : Fin 1024 → EReal
  attn : Fin 1024 → EReal
  gate : Fin 2048 → EReal
  mod : Fin 6 → Fin 1024 → EReal

/-- The layer's weights after the attention. -/
structure Weights where
  rnn : Fin 1024 → Fin 1024 → EReal
  attn : Fin 1024 → Fin 1024 → EReal
  out : Fin 1024 → Fin 1024 → EReal
  ff1 : Fin 1024 → Fin 4096 → EReal
  ff2 : Fin 4096 → Fin 1024 → EReal

variable (T : Token) (W : Weights)

/-- The two branches' outputs, each projected and weighted by its gate. -/
def merged (e : Fin 1024) : EReal :=
  Ideal.logistic (T.gate ⟨e.val, by omega⟩) * (∑ k, T.rnn k * W.rnn k e) + Ideal.logistic (T.gate ⟨1024 + e.val, by omega⟩) * ∑ k, T.attn k * W.attn k e

/-- The residual after the mixing of the branches. -/
def resid (e : Fin 1024) : EReal := T.x e + T.mod 2 e * ∑ k, merged T W k * W.out k e

/-- A row over the root of its mean square (plus the printed small constant), scaled and shifted by the
modulation rows. -/
def norm (o scale shift : Fin 1024 → EReal) (e : Fin 1024) : EReal :=
  o e * Ideal.rsqrt (Ideal.div (∑ k, o k * o k) (Ideal.ofBits .f32 0x44800000#32) + Ideal.ofBits .f32 0x358637BD#32) * (1 + scale e) + shift e

/-- The feed-forward's hidden row: the squares of the positive parts. -/
def hidden (n : Fin 1024 → EReal) (w : Fin 1024 → EReal) : EReal := max (∑ k, n k * w k) 0 * max (∑ k, n k * w k) 0

/-- The token's result. -/
def result (e : Fin 1024) : EReal :=
  resid T W e + T.mod 5 e * ∑ f, hidden (norm (resid T W) (T.mod 4) (T.mod 3)) (fun k => W.ff1 k f) * W.ff2 f e

/-- A sum over 4096 entries is the sum of its four quarters, added from the left. -/
theorem sum_quarters (g : Fin 4096 → EReal) :
    ∑ f, g f = (∑ f : Fin 1024, g ⟨f.val, by omega⟩) + (∑ f : Fin 1024, g ⟨1024 + f.val, by omega⟩)
      + (∑ f : Fin 1024, g ⟨2048 + f.val, by omega⟩) + ∑ f : Fin 1024, g ⟨3072 + f.val, by omega⟩ := by
  rw [show (∑ f, g f) = ∑ f : Fin (1024 + 1024 + 1024 + 1024), g f from rfl, Fin.sum_univ_add, Fin.sum_univ_add, Fin.sum_univ_add]
  rfl

end Cert.Proof.Post
end
-- ==== Proof.Post.Body.lean ====
module

public import proofs.«01_k».proof.Proof.Gen.Kernel2Ideal.Value
public import proofs.«01_k».proof.Proof.Post.Spec
public import Idealize.ShloMosaic.Lib.Pipeline.ValueKit.Geometry

@[expose] public section

set_option maxRecDepth 16384

noncomputable section

namespace Cert.Proof.Post
open Cert.Kernel2Ideal Cert.Kernel2Ideal.Gen

open Idealize.ShloMosaic Idealize.ShloMosaic.TcCoe Idealize.SL.Sem

/-! # The kernel's body at a grid point, read at an index -/

/-- The residual: the body's first part. -/
theorem pay2_apply (g : Vec Ideal S1x512x2048 .bf16) (yr : Vec Ideal S1x512x1024 .bf16) (wr : Vec Ideal S1024x1024 .bf16) (ya : Vec Ideal S1x1x1024x512 .bf16)
    (wa : Vec Ideal S1024x1024 .bf16) (x : Vec Ideal S1x512x1024 .f32) (m2 : Vec Ideal S1x1x1024 .f32) (wo : Vec Ideal S1024x1024 .bf16) (s : Fin 512) (e : Fin 1024) :
    k0_pay2 g yr wr ya wa x m2 wo (ix2 s e) = x (ix3 0 s e) + m2 (ix3 0 0 e) * ∑ k : Fin 1024,
      (Ideal.logistic (g (ix3 0 s ⟨k.val, by omega⟩)) * (∑ j, yr (ix3 0 s j) * wr (ix2 j k))
        + Ideal.logistic (g (ix3 0 s ⟨1024 + k.val, by omega⟩)) * ∑ j, ya (ix4 0 0 j s) * wa (ix2 j k)) * wo (ix2 k e) := by
  pointwise [k0_pay2]

/-- The normalised and modulated row. -/
theorem pay3_apply (r : FVec Ideal S512x1024 .f32) (m3 m4 : Vec Ideal S1x1x1024 .f32) (s : Fin 512) (e : Fin 1024) :
    k0_pay3 r m3 m4 (ix2 s e) = norm (fun k => r (ix2 s k)) (fun k => m4 (ix3 0 0 k)) (fun k => m3 (ix3 0 0 k)) e := by
  pointwise [k0_pay3]
  rfl

/-- The first quarter of the feed-forward. -/
theorem pay4_apply (r : FVec Ideal S512x1024 .f32) (m3 m4 : Vec Ideal S1x1x1024 .f32) (w1 w2 : Vec Ideal S1024x1024 .bf16) (s : Fin 512) (e : Fin 1024) :
    k0_pay4 r m3 m4 w1 w2 (ix2 s e) = ∑ f, hidden (fun k => k0_pay3 r m3 m4 (ix2 s k)) (fun k => w1 (ix2 k f)) * w2 (ix2 f e) := by
  pointwise [k0_pay4]
  rfl

/-- The second quarter's hidden row. -/
theorem pay5_apply (r : FVec Ideal S512x1024 .f32) (m3 m4 : Vec Ideal S1x1x1024 .f32) (w1 : Vec Ideal S1024x1024 .bf16) (s : Fin 512) (f : Fin 1024) :
    k0_pay5 r m3 m4 w1 (ix2 s f) = hidden (fun k => k0_pay3 r m3 m4 (ix2 s k)) (fun k => w1 (ix2 k f)) := by
  pointwise [k0_pay5]
  rfl

/-- The stored block: the residual and the modulated sum of the four quarters. -/
theorem pay1_apply (r : FVec Ideal S512x1024 .f32) (n : FVec Ideal S512x1024 .bf16) (q0 : FVec Ideal S512x1024 .f32) (h1 : FVec Ideal S512x1024 .bf16)
    (b1 : FVec Ideal S1024x1024 .bf16) (a2 b2 a3 b3 : Vec Ideal S1024x1024 .bf16) (m5 : Vec Ideal S1x1x1024 .f32) (s : Fin 512) (e : Fin 1024) :
    k0_pay1 r n q0 h1 b1 a2 b2 a3 b3 m5 (ix3 0 s e) = r (ix2 s e) + m5 (ix3 0 0 e) * (q0 (ix2 s e) + (∑ f, h1 (ix2 s f) * b1 (ix2 f e))
      + (∑ f, hidden (fun k => n (ix2 s k)) (fun k => a2 (ix2 k f)) * b2 (ix2 f e)) + ∑ f, hidden (fun k => n (ix2 s k)) (fun k => a3 (ix2 k f)) * b3 (ix2 f e)) := by
  pointwise [k0_pay1]
  rfl

/-! ## The blocks of a grid point -/

variable (x0 : Vec Ideal S1x512x1024 .f32) (x1 : Vec Ideal S1x512x1024 .bf16) (x2 : Vec Ideal S1x1x1024x512 .bf16) (x3 : Vec Ideal S1x512x2048 .bf16) (x4 : Vec Ideal S1x6x1024 .f32)
  (x5 x6 x7 : Vec Ideal S1024x1024 .bf16) (x8 : Vec Ideal S1024x4096 .bf16) (x9 : Vec Ideal S4096x1024 .bf16)

/-- Token `s` of a grid point's blocks. -/
def blockToken (s : Fin 512) : Token where
  x k := x0 (ix3 0 s k)
  rnn k := x1 (ix3 0 s k)
  attn k := x2 (ix4 0 0 k s)
  gate k := x3 (ix3 0 s k)
  mod i k := x4 (ix3 0 i k)

/-- The weights in the windows. -/
def blockWeights : Weights where
  rnn k e := x5 (ix2 k e)
  attn k e := x6 (ix2 k e)
  out k e := x7 (ix2 k e)
  ff1 k f := x8 (ix2 k f)
  ff2 f e := x9 (ix2 f e)

/-- A load of modulation row `i`. -/
theorem ld_mod (i : Fin 6) (inb : ∀ a, (![0, i.val, 0] : Fin 3 → ℕ) a + S1x1x1024.size a ≤ S1x6x1024.size a) (k : Fin 1024) :
    View.ld x4 (Rect.unit (s := S1x6x1024) ![0, i.val, 0] S1x1x1024.size inb) (ix3 0 0 k) = x4 (ix3 0 i k) :=
  congrArg x4 (by funext a; fin_cases a <;> exact Fin.ext (by simp [ix3]))

/-- A load of 1024 columns from column `o` on. -/
theorem ld_cols (o : ℕ) (inb : ∀ a, (![0, o] : Fin 2 → ℕ) a + S1024x1024.size a ≤ S1024x4096.size a) (k f : Fin 1024) (h : o + f.val < 4096) :
    View.ld x8 (Rect.unit (s := S1024x4096) ![0, o] S1024x1024.size inb) (ix2 k f) = x8 (ix2 k ⟨o + f.val, h⟩) :=
  congrArg x8 (by funext a; fin_cases a <;> exact Fin.ext (by simp [ix2]))

/-- A load of 1024 rows from row `o` on. -/
theorem ld_rows (o : ℕ) (inb : ∀ a, (![o, 0] : Fin 2 → ℕ) a + S1024x1024.size a ≤ S4096x1024.size a) (f e : Fin 1024) (h : o + f.val < 4096) :
    View.ld x9 (Rect.unit (s := S4096x1024) ![o, 0] S1024x1024.size inb) (ix2 f e) = x9 (ix2 ⟨o + f.val, h⟩ e) :=
  congrArg x9 (by funext a; fin_cases a <;> exact Fin.ext (by simp [ix2]))

/-- The residual of a token of the blocks. -/
theorem pay7_apply (s : Fin 512) (e : Fin 1024) :
    k0_pay7 x0 x1 x2 x3 x4 x5 x6 x7 x8 x9 (ix2 s e) = resid (blockToken x0 x1 x2 x3 x4 s) (blockWeights x5 x6 x7 x8 x9) e := by
  unfold k0_pay7
  rw [pay2_apply, View.ld_unit_zero (by decide), View.ld_unit_zero (by decide), View.ld_unit_zero (by decide), View.ld_unit_zero (by decide), View.ld_unit_zero (by decide), View.ld_unit_zero (by decide), View.ld_unit_zero (by decide)]
  rw [show View.ld x4 r0_4 (ix3 0 0 e) = x4 (ix3 0 2 e) from ld_mod x4 2 _ e]
  rfl

/-- What a grid point leaves in its result block: its tokens' results. -/
theorem out_apply (s : Fin 512) (e : Fin 1024) :
    out0_10 x0 x1 x2 x3 x4 x5 x6 x7 x8 x9 (ix3 0 s e) = result (blockToken x0 x1 x2 x3 x4 s) (blockWeights x5 x6 x7 x8 x9) e := by
  unfold out0_10
  rw [View.canon_unit_zero (by decide), pay1_apply, pay4_apply]
  simp only [pay5_apply, pay3_apply, pay7_apply]
  have m3 (k) : View.ld x4 r0_5 (ix3 0 0 k) = x4 (ix3 0 3 k) := ld_mod x4 3 _ k
  have m4 (k) : View.ld x4 r0_6 (ix3 0 0 k) = x4 (ix3 0 4 k) := ld_mod x4 4 _ k
  have m5 (k) : View.ld x4 r0_15 (ix3 0 0 k) = x4 (ix3 0 5 k) := ld_mod x4 5 _ k
  have a0 (k f : Fin 1024) : View.ld x8 r0_7 (ix2 k f) = x8 (ix2 k ⟨f.val, by omega⟩) := (ld_cols x8 0 _ k f (by omega)).trans (by simp only [Nat.zero_add])
  have a1 (k f : Fin 1024) : View.ld x8 r0_9 (ix2 k f) = x8 (ix2 k ⟨1024 + f.val, by omega⟩) := ld_cols x8 1024 _ k f _
  have a2 (k f : Fin 1024) : View.ld x8 r0_11 (ix2 k f) = x8 (ix2 k ⟨2048 + f.val, by omega⟩) := ld_cols x8 2048 _ k f _
  have a3 (k f : Fin 1024) : View.ld x8 r0_13 (ix2 k f) = x8 (ix2 k ⟨3072 + f.val, by omega⟩) := ld_cols x8 3072 _ k f _
  have b0 (f e : Fin 1024) : View.ld x9 r0_8 (ix2 f e) = x9 (ix2 ⟨f.val, by omega⟩ e) := (ld_rows x9 0 _ f e (by omega)).trans (by simp only [Nat.zero_add])
  have b1 (f e : Fin 1024) : k0_pay6 (View.ld x9 r0_10) (ix2 f e) = x9 (ix2 ⟨1024 + f.val, by omega⟩ e) := by
    pointwise [k0_pay6]
  have b2 (f e : Fin 1024) : View.ld x9 r0_12 (ix2 f e) = x9 (ix2 ⟨2048 + f.val, by omega⟩ e) := ld_rows x9 2048 _ f e _
  have b3 (f e : Fin 1024) : View.ld x9 r0_14 (ix2 f e) = x9 (ix2 ⟨3072 + f.val, by omega⟩ e) := ld_rows x9 3072 _ f e _
  simp only [m3, m4, m5, a0, a1, a2, a3, b0, b1, b2, b3]
  rw [result, sum_quarters]
  rfl

end Cert.Proof.Post
end
-- ==== Proof.Post.Reference.lean ====
module

public import proofs.«01_k».proof.Proof.Gen.Reference2Ideal.Run
public import proofs.«01_k».proof.Proof.Post.Spec
public import Idealize.ShloMosaic.Lib.Tactic.CleanTypes

@[expose] public section

set_option maxRecDepth 16384

noncomputable section

namespace Cert.Proof.Post.Ref
open Cert.Reference2Ideal Cert.Reference2Ideal.Gen

open Idealize.ShloMosaic Idealize.ShloMosaic.TcCoe Idealize.SL.Sem

/-! # The reference of the rest of the layer, in stages

The reference's result is one composed expression of the arguments. Here it is cut at the gates, the merged
branches, the residual and the normalised rows, each stage read at an index. -/

/-- The merge gates: the logistic function of their arguments, by branch. -/
def gates (g : FVec Ideal S8x8192x2048 .f32) : FVec Ideal S8x8192x2x1024 .f32 :=
  shapeCast _ (Host.divf (broadcastInDim S8x8192x2048 ![] bcast_S_S8x8192x2048 (constant S_ .f32 0x3F800000#32)) (addf (broadcastInDim S8x8192x2048 ![] bcast_S_S8x8192x2048 (constant S_ .f32 0x3F800000#32)) (Host.exp (Host.negf g)))) shapeCasts_S8x8192x2048_S8x8192x2x1024

/-- The two branches' outputs, projected and gated. -/
def branches (yr ya : FVec Ideal S8x8192x1024 .f32) (wr wa : FVec Ideal S1x1024x1024 .f32) (g : FVec Ideal S8x8192x2x1024 .f32) : FVec Ideal S8x8192x1024 .f32 :=
  addf (mulf (shapeCast _ (extractStridedSlice S8x8192x1x1024 ![0, 0, 0, 0] g slices_S8x8192x2x1024_S8x8192x1x1024_0_0_0_0) shapeCasts_S8x8192x1x1024_S8x8192x1024) (Host.dotGeneral dot_S8x8192x1024_S1024x1024_S8x8192x1024_2_0_01_1_n_n none yr (shapeCast _ wr shapeCasts_S1x1024x1024_S1024x1024)))
    (mulf (shapeCast _ (extractStridedSlice S8x8192x1x1024 ![0, 0, 1, 0] g slices_S8x8192x2x1024_S8x8192x1x1024_0_0_1_0) shapeCasts_S8x8192x1x1024_S8x8192x1024) (Host.dotGeneral dot_S8x8192x1024_S1024x1024_S8x8192x1024_2_0_01_1_n_n none ya (shapeCast _ wa shapeCasts_S1x1024x1024_S1024x1024)))

/-- The residual. -/
def residual (x b : FVec Ideal S8x8192x1024 .f32) (md : FVec Ideal S8x6144 .f32) (wo : FVec Ideal S1x1024x1024 .f32) : FVec Ideal S8x8192x1024 .f32 :=
  addf x (mulf (broadcastInDim S8x8192x1024 ![0, 1, 2] bcast_S8x1x1024_S8x8192x1024_0_1_2 (extractStridedSlice S8x1x1024 ![0, 0, 2048] (broadcastInDim S8x1x6144 ![0, 2] bcast_S8x6144_S8x1x6144_0_2 md) slices_S8x1x6144_S8x1x1024_0_0_2048)) (Host.dotGeneral dot_S8x8192x1024_S1024x1024_S8x8192x1024_2_0_01_1_n_n none b (shapeCast _ wo shapeCasts_S1x1024x1024_S1024x1024)))

/-- The normalised and modulated rows. -/
def normed (o : FVec Ideal S8x8192x1024 .f32) (md : FVec Ideal S8x6144 .f32) : FVec Ideal S8x8192x1024 .f32 :=
  addf (mulf (mulf o (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf o o) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S8x1x1024_S8x8192x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 md) slices_S8x1x6144_S8x1x1024_0_0_4096))))
    (broadcastInDim S8x8192x1024 ![0, 1, 2] bcast_S8x1x1024_S8x8192x1024_0_1_2 (extractStridedSlice S8x1x1024 ![0, 0, 3072] (broadcastInDim S8x1x6144 ![0, 2] bcast_S8x6144_S8x1x6144_0_2 md) slices_S8x1x6144_S8x1x1024_0_0_3072))

/-- The positive parts of the feed-forward's first product. -/
def positive (n : FVec Ideal S8x8192x1024 .f32) (w1 : FVec Ideal S1x1024x4096 .f32) : FVec Ideal S8x8192x4096 .f32 :=
  maximumf (Host.dotGeneral dot_S8x8192x1024_S1024x4096_S8x8192x4096_2_0_01_1_n_n none n (shapeCast _ w1 shapeCasts_S1x1024x4096_S1024x4096)) (broadcastInDim S8x8192x4096 ![] bcast_S_S8x8192x4096 (constant S_ .f32 0x00000000#32))

/-- The residual with the modulated feed-forward added. -/
def fed (o : FVec Ideal S8x8192x1024 .f32) (p : FVec Ideal S8x8192x4096 .f32) (md : FVec Ideal S8x6144 .f32) (w2 : FVec Ideal S1x4096x1024 .f32) : FVec Ideal S8x8192x1024 .f32 :=
  addf o (mulf (broadcastInDim S8x8192x1024 ![0, 1, 2] bcast_S8x1x1024_S8x8192x1024_0_1_2 (extractStridedSlice S8x1x1024 ![0, 0, 5120] (broadcastInDim S8x1x6144 ![0, 2] bcast_S8x6144_S8x1x6144_0_2 md) slices_S8x1x6144_S8x1x1024_0_0_5120)) (Host.dotGeneral dot_S8x8192x4096_S4096x1024_S8x8192x1024_2_0_01_1_n_n none (mulf p p) (shapeCast _ w2 shapeCasts_S1x4096x1024_S4096x1024)))

variable (x yr ya : FVec Ideal S8x8192x1024 .f32) (g : FVec Ideal S8x8192x2048 .f32) (md : FVec Ideal S8x6144 .f32) (wr wa wo : FVec Ideal S1x1024x1024 .f32) (w1 : FVec Ideal S1x1024x4096 .f32) (w2 : FVec Ideal S1x4096x1024 .f32)

/-- The residual of the arguments. -/
def mixed : FVec Ideal S8x8192x1024 .f32 := residual x (branches yr ya wr wa (gates g)) md wo

/-- The result of the arguments. -/
def whole : FVec Ideal S8x8192x1024 .f32 :=
  fed (mixed x yr ya g md wr wa wo) (positive (normed (mixed x yr ya g md wr wa wo) md) w1) md w2

/-- The reference's result, by stages. -/
theorem res_eq (m : (ℓ : Loc nD τ sig) → Buf (Elt Ideal) ℓ) (c : Dev nD) :
    Cert.Reference2Ideal.Value.res_out0 (F := Ideal) m c
      = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.Reference2Ideal.Value.res_out0 Cert.Reference2Ideal.Value.res_main_v54 whole fed positive normed mixed residual branches gates
  rfl

/-- Token `s` of batch `b` of the arguments. -/
def token (b : Fin 8) (s : Fin 8192) : Token where
  x k := x (ix3 b s k)
  rnn k := yr (ix3 b s k)
  attn k := ya (ix3 b s k)
  gate k := g (ix3 b s k)
  mod i k := md (ix2 b ⟨i.val * 1024 + k.val, by omega⟩)

/-- The weights of the arguments. -/
def weights : Weights where
  rnn k e := wr (ix3 0 k e)
  attn k e := wa (ix3 0 k e)
  out k e := wo (ix3 0 k e)
  ff1 k f := w1 (ix3 0 k f)
  ff2 f e := w2 (ix3 0 f e)

/-- A gate. -/
theorem gates_apply (b : Fin 8) (s : Fin 8192) (i : Fin 2) (e : Fin 1024) :
    gates g (ix4 b s i e) = Ideal.logistic (g (ix3 b s ⟨1024 * i.val + e.val, by omega⟩)) := by
  pointwise [gates]
  simp only [Nat.mul_comm]
  rfl

/-- The residual at an index. -/
theorem mixed_apply (b : Fin 8) (s : Fin 8192) (e : Fin 1024) :
    mixed x yr ya g md wr wa wo (ix3 b s e) = resid (token x yr ya g md b s) (weights wr wa wo w1 w2) e := by
  have g0 (k) : gates g (ix4 b s 0 k) = Ideal.logistic (g (ix3 b s ⟨k.val, by omega⟩)) := (gates_apply g b s 0 k).trans (congrArg (fun i => Ideal.logistic (g (ix3 b s i))) (Fin.ext (by show 1024 * 0 + k.val = k.val; omega)))
  have g1 (k) : gates g (ix4 b s 1 k) = Ideal.logistic (g (ix3 b s ⟨1024 + k.val, by omega⟩)) := gates_apply g b s 1 k
  pointwise [mixed, residual, branches]
  simp only [g0, g1]
  rfl

/-- A normalised row at an index. -/
theorem normed_apply (o : FVec Ideal S8x8192x1024 .f32) (b : Fin 8) (s : Fin 8192) (e : Fin 1024) :
    normed o md (ix3 b s e) = norm (fun k => o (ix3 b s k)) ((token x yr ya g md b s).mod 4) ((token x yr ya g md b s).mod 3) e := by
  pointwise [normed]
  rfl

/-- The result at an index. -/
theorem whole_apply (b : Fin 8) (s : Fin 8192) (e : Fin 1024) :
    whole x yr ya g md wr wa wo w1 w2 (ix3 b s e) = result (token x yr ya g md b s) (weights wr wa wo w1 w2) e := by
  pointwise [whole, fed, positive]
  simp only [normed_apply x yr ya g md, mixed_apply x yr ya g md wr wa wo w1 w2]
  rfl

end Cert.Proof.Post.Ref
end
-- ==== Proof.Post.Windows.lean ====
module

public import proofs.«01_k».proof.Proof.Post.Body
public import proofs.«01_k».proof.Proof.Post.Reference

@[expose] public section

set_option maxRecDepth 16384

noncomputable section

namespace Cert.Proof.Post
open Cert.Kernel2Ideal Cert.Kernel2Ideal.Gen

open Idealize.ShloMosaic Idealize.ShloMosaic.TcCoe Idealize.SL.Sem

/-! # The windows of a grid point, and what the host laid out before the launch

Grid point `t` is tile `t % 16` of batch `t / 16`: tokens `512 (t % 16) … 512 (t % 16) + 511`. -/

variable (m : ∀ ℓ : Loc nD τ sig, Buf (Elt Ideal) ℓ)

/-- Token `s` of batch `b` of the arguments. -/
def argToken (c : Dev nD) (b : Fin 8) (s : Fin 8192) : Token :=
  Ref.token (m (c, main_arg0)) (m (c, main_arg1)) (m (c, main_arg2)) (m (c, main_arg3)) (m (c, main_arg4)) b s

/-- The weights of the arguments. -/
def argWeights (c : Dev nD) : Weights := Ref.weights (m (c, main_arg5)) (m (c, main_arg6)) (m (c, main_arg7)) (m (c, main_arg8)) (m (c, main_arg9))

/-! ## The host's layouts -/

theorem entry_x (c : Dev nD) (b : Fin 8) (s : Fin 8192) (k : Fin 1024) :
    (V m c main_arg0 : (⟨S8x8192x1024, .f32⟩ : BufTy).Contents (Elt Ideal)) (ix3 b s k) = (argToken m c b s).x k := by
  rw [V_main_arg0]; rfl

theorem entry_rnn (c : Dev nD) (b : Fin 8) (s : Fin 8192) (k : Fin 1024) :
    (V m c main_v3 : (⟨S8x8192x1024, .bf16⟩ : BufTy).Contents (Elt Ideal)) (ix3 b s k) = (argToken m c b s).rnn k := by
  entry_read
  pointwise
  rfl

theorem entry_attn (c : Dev nD) (b : Fin 8) (i : Fin 16) (k : Fin 1024) (x : Fin 512) :
    (V m c main_v2 : (⟨S8x16x1024x512, .bf16⟩ : BufTy).Contents (Elt Ideal)) (ix4 b i k x) = (argToken m c b ⟨512 * i.val + x.val, by omega⟩).attn k := by
  entry_read
  pointwise
  simp only [Nat.mul_comm]
  rfl

theorem entry_gate (c : Dev nD) (b : Fin 8) (s : Fin 8192) (k : Fin 2048) :
    (V m c main_v4 : (⟨S8x8192x2048, .bf16⟩ : BufTy).Contents (Elt Ideal)) (ix3 b s k) = (argToken m c b s).gate k := by
  entry_read
  pointwise
  rfl

theorem entry_mod (c : Dev nD) (b : Fin 8) (s : Fin 8192) (i : Fin 6) (k : Fin 1024) :
    (V m c main_v5 : (⟨S8x6x1024, .f32⟩ : BufTy).Contents (Elt Ideal)) (ix3 b i k) = (argToken m c b s).mod i k := by
  entry_read
  pointwise
  rfl

theorem entry_wrnn (c : Dev nD) (k e : Fin 1024) :
    (V m c main_v7 : (⟨S1024x1024, .bf16⟩ : BufTy).Contents (Elt Ideal)) (ix2 k e) = (argWeights m c).rnn k e := by
  entry_read
  pointwise
  rfl

theorem entry_wattn (c : Dev nD) (k e : Fin 1024) :
    (V m c main_v9 : (⟨S1024x1024, .bf16⟩ : BufTy).Contents (Elt Ideal)) (ix2 k e) = (argWeights m c).attn k e := by
  entry_read
  pointwise
  rfl

theorem entry_wout (c : Dev nD) (k e : Fin 1024) :
    (V m c main_v11 : (⟨S1024x1024, .bf16⟩ : BufTy).Contents (Elt Ideal)) (ix2 k e) = (argWeights m c).out k e := by
  entry_read
  pointwise
  rfl

theorem entry_ff1 (c : Dev nD) (k : Fin 1024) (f : Fin 4096) :
    (V m c main_v13 : (⟨S1024x4096, .bf16⟩ : BufTy).Contents (Elt Ideal)) (ix2 k f) = (argWeights m c).ff1 k f := by
  entry_read
  pointwise
  rfl

theorem entry_ff2 (c : Dev nD) (f : Fin 4096) (e : Fin 1024) :
    (V m c main_v15 : (⟨S4096x1024, .bf16⟩ : BufTy).Contents (Elt Ideal)) (ix2 f e) = (argWeights m c).ff2 f e := by
  entry_read
  pointwise
  rfl

/-! ## The windows -/

theorem index0 : ∀ t : Fin cfg0.N, win0_0.index t = ![t.val / 16, t.val % 16, 0] := (by decide +kernel : ∀ t : Fin grid0.N, _)
theorem index1 : ∀ t : Fin cfg0.N, win0_1.index t = ![t.val / 16, t.val % 16, 0] := (by decide +kernel : ∀ t : Fin grid0.N, _)
theorem index2 : ∀ t : Fin cfg0.N, win0_2.index t = ![t.val / 16, t.val % 16, 0, 0] := (by decide +kernel : ∀ t : Fin grid0.N, _)
theorem index3 : ∀ t : Fin cfg0.N, win0_3.index t = ![t.val / 16, t.val % 16, 0] := (by decide +kernel : ∀ t : Fin grid0.N, _)
theorem index4 : ∀ t : Fin cfg0.N, win0_4.index t = ![t.val / 16, 0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val / 16, t.val % 16, 0] := (by decide +kernel : ∀ t : Fin grid0.N, _)

variable (c : Dev nD) (t : Fin cfg0.N)

theorem read_x (s : Fin 512) (k : Fin 1024) (hb : t.val / 16 < 8) (hs : 512 * (t.val % 16) + s.val < 8192) :
    iblk m c 0 t (ix3 0 s k) = V m c main_arg0 (ix3 ⟨t.val / 16, hb⟩ ⟨512 * (t.val % 16) + s.val, hs⟩ k) := by
  blk_ext [iblk, index0 t]

theorem read_rnn (s : Fin 512) (k : Fin 1024) (hb : t.val / 16 < 8) (hs : 512 * (t.val % 16) + s.val < 8192) :
    iblk m c 1 t (ix3 0 s k) = V m c main_v3 (ix3 ⟨t.val / 16, hb⟩ ⟨512 * (t.val % 16) + s.val, hs⟩ k) := by
  blk_ext [iblk, index1 t]

theorem read_attn (s : Fin 512) (k : Fin 1024) (hb : t.val / 16 < 8) (hi : t.val % 16 < 16) :
    iblk m c 2 t (ix4 0 0 k s) = V m c main_v2 (ix4 ⟨t.val / 16, hb⟩ ⟨t.val % 16, hi⟩ k s) := by
  blk_ext [iblk, index2 t]

theorem read_gate (s : Fin 512) (k : Fin 2048) (hb : t.val / 16 < 8) (hs : 512 * (t.val % 16) + s.val < 8192) :
    iblk m c 3 t (ix3 0 s k) = V m c main_v4 (ix3 ⟨t.val / 16, hb⟩ ⟨512 * (t.val % 16) + s.val, hs⟩ k) := by
  blk_ext [iblk, index3 t]

theorem read_mod (i : Fin 6) (k : Fin 1024) (hb : t.val / 16 < 8) :
    iblk m c 4 t (ix3 0 i k) = V m c main_v5 (ix3 ⟨t.val / 16, hb⟩ i k) := by
  blk_ext [iblk, index4 t]

theorem read_wrnn (k e : Fin 1024) : iblk m c 5 t (ix2 k e) = V m c main_v7 (ix2 k e) := by blk_ext [iblk, index5 t]
theorem read_wattn (k e : Fin 1024) : iblk m c 6 t (ix2 k e) = V m c main_v9 (ix2 k e) := by blk_ext [iblk, index6 t]
theorem read_wout (k e : Fin 1024) : iblk m c 7 t (ix2 k e) = V m c main_v11 (ix2 k e) := by blk_ext [iblk, index7 t]
theorem read_ff1 (k : Fin 1024) (f : Fin 4096) : iblk m c 8 t (ix2 k f) = V m c main_v13 (ix2 k f) := by blk_ext [iblk, index8 t]
theorem read_ff2 (f : Fin 4096) (e : Fin 1024) : iblk m c 9 t (ix2 f e) = V m c main_v15 (ix2 f e) := by blk_ext [iblk, index9 t]

/-- A grid point's tokens are the arguments' tokens of its batch and tile. -/
theorem token_eq (s : Fin 512) (hb : t.val / 16 < 8) (hs : 512 * (t.val % 16) + s.val < 8192) :
    blockToken (iblk m c 0 t) (iblk m c 1 t) (iblk m c 2 t) (iblk m c 3 t) (iblk m c 4 t) s = argToken m c ⟨t.val / 16, hb⟩ ⟨512 * (t.val % 16) + s.val, hs⟩ := by
  have hx := fun k => (read_x m c t s k hb hs).trans (entry_x m c _ _ k)
  have hr := fun k => (read_rnn m c t s k hb hs).trans (entry_rnn m c _ _ k)
  have ha := fun k => (read_attn m c t s k hb (Nat.mod_lt _ (by decide))).trans (entry_attn m c _ _ k s)
  have hg := fun k => (read_gate m c t s k hb hs).trans (entry_gate m c _ _ k)
  have hm := fun i k => (read_mod m c t i k hb).trans (entry_mod m c _ ⟨512 * (t.val % 16) + s.val, hs⟩ i k)
  unfold blockToken
  simp only [hx, hr, ha, hg, hm]

/-- Every grid point's weights are the arguments'. -/
theorem weights_eq : blockWeights (iblk m c 5 t) (iblk m c 6 t) (iblk m c 7 t) (iblk m c 8 t) (iblk m c 9 t) = argWeights m c := by
  have hr := fun k e => (read_wrnn m c t k e).trans (entry_wrnn m c k e)
  have ha := fun k e => (read_wattn m c t k e).trans (entry_wattn m c k e)
  have ho := fun k e => (read_wout m c t k e).trans (entry_wout m c k e)
  have h1 := fun k f => (read_ff1 m c t k f).trans (entry_ff1 m c k f)
  have h2 := fun f e => (read_ff2 m c t f e).trans (entry_ff2 m c f e)
  unfold blockWeights
  simp only [hr, ha, ho, h1, h2]

end Cert.Proof.Post
end
-- ==== Proof.Post.Kernel.lean ====
module

public import proofs.«01_k».proof.Proof.Post.Windows

@[expose] public section

set_option maxRecDepth 16384

noncomputable section

namespace Cert.Proof.Post
open Cert.Kernel2Ideal Cert.Kernel2Ideal.Gen

open Idealize.ShloMosaic Idealize.ShloMosaic.TcCoe Idealize.SL.Sem

/-! # The run of the rest of the layer -/

variable (m : ∀ ℓ : Loc nD τ sig, Buf (Elt Ideal) ℓ)

/-- The result array: every token's result. -/
def out (c : Dev nD) : Vec Ideal S8x8192x1024 .f32 := fun j => result (argToken m c (j 0) (j 1)) (argWeights m c) (j 2)

/-- The result array after the run: every grid point has left its tokens' results in it. -/
theorem final_o (c : Dev nD) : (dats m 0 c).arrAt 10 cfg0.N = out m c := by
  refine (dats m 0 c).arrAt_eq_of_covers 10 _ (by decide +kernel) fun t hf y => ?_
  have ht : t.val < 128 := t.isLt
  blk_simp
  rw [after0_10]
  obtain ⟨y0, y1, y2, rfl⟩ : ∃ (a : Fin 1) (s : Fin 512) (e : Fin 1024), y = ix3 a s e :=
    ⟨y 0, y 1, y 2, by funext a; fin_cases a <;> rfl⟩
  obtain rfl : y0 = 0 := Subsingleton.elim _ _
  rw [out_apply, token_eq m c t y1 (by omega) (by have := y1.isLt; omega), weights_eq]
  unfold out
  congr 1
  · congr 1
    all_goals (apply Fin.ext; blk_simp [index10 t])
    · exact (Nat.add_zero (t.val / 16)).symm
    · show 512 * (t.val % 16) + y1.val = t.val % 16 * 512 + y1.val
      omega
  · apply Fin.ext; blk_simp [index10 t]

/-- The kernel's run: the result array at the tokens' results, the arguments as they were. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v16) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (final_o m c), (h c).2⟩) (Cert.Kernel2Ideal.Value.run_blocks m ρ)

end Cert.Proof.Post
end
-- ==== Proof.InProj.Spec.lean ====
module

public import proofs.«01_k».proof.Proof.Post.Spec

@[expose] public section

noncomputable section

namespace Cert.Proof.InProj
open Idealize.ShloMosaic

/-! # The input projection, for one token

Both programs compute every token by itself. This module writes down what one token's results are: its
normalised and modulated row, the products with the weight's columns, and the queries and keys turned by the
rotary embedding. -/

/-- What belongs to one token: its row `x` of the layer's input, the six modulation rows of its batch, and
its angles, the position times each frequency. -/
structure Token where
  x : Fin 1024 → EReal
  mod : Fin 6 → Fin 1024 → EReal
  angle : Fin 32 → EReal

variable (T : Token) (w : Fin 1024 → Fin 7168 → EReal)

/-- The normalised and modulated row. -/
def row : Fin 1024 → EReal := Post.norm T.x (T.mod 1) (T.mod 0)

/-- Column `n` of the input projection. -/
def column (n : Fin 7168) : EReal := ∑ k, row T k * w k n

/-- A head's entry over the root of the head's mean square (plus the printed small constant). -/
def unit (z : Fin 64 → EReal) (d : Fin 64) : EReal :=
  z d * Ideal.rsqrt (Ideal.div (∑ k, z k * z k) (Ideal.ofBits .f32 0x42800000#32) + Ideal.ofBits .f32 0x358637BD#32)

/-- Entry `d` of a head, its gain applied and turned by the angles `θ`: the two halves of the head are the two
coordinates that turn. -/
def turned (z g : Fin 64 → EReal) (θ : Fin 32 → EReal) (d : Fin 64) : EReal :=
  if h : d.val < 32 then unit z d * g d * Ideal.cos (θ ⟨d.val, h⟩) - unit z ⟨32 + d.val, by omega⟩ * g ⟨32 + d.val, by omega⟩ * Ideal.sin (θ ⟨d.val, h⟩)
  else unit z d * g d * Ideal.cos (θ ⟨d.val - 32, by omega⟩) + unit z ⟨d.val - 32, by omega⟩ * g ⟨d.val - 32, by omega⟩ * Ideal.sin (θ ⟨d.val - 32, by omega⟩)

/-- Entry `n` of 1024 columns cut into heads of 64, each turned. -/
def heads (z : Fin 1024 → EReal) (g : Fin 64 → EReal) (θ : Fin 32 → EReal) (n : Fin 1024) : EReal :=
  turned (fun k => z ⟨64 * (n.val / 64) + k.val, by omega⟩) g θ ⟨n.val % 64, Nat.mod_lt _ (by decide)⟩

/-- A factor of the gain carried to the end of its product. -/
theorem carry (u g t r : EReal) : u * (g * r) * t = u * g * t * r := by ac_rfl

/-- A positive real factor of the gain comes out of the turn. -/
theorem heads_scale (z : Fin 1024 → EReal) (g : Fin 64 → EReal) (θ : Fin 32 → EReal) (r : ℝ) (hr : 0 ≤ r) (n : Fin 1024) :
    heads z (fun d => g d * (r : EReal)) θ n = heads z g θ n * (r : EReal) := by
  have h0 : (0 : EReal) ≤ (r : EReal) := by exact_mod_cast hr
  unfold heads turned
  split
  · rw [sub_eq_add_neg, sub_eq_add_neg, EReal.right_distrib_of_nonneg_of_ne_top h0 (EReal.coe_ne_top r), EReal.neg_mul]
    exact congr (congrArg _ (carry _ _ _ _)) (congrArg _ (carry _ _ _ _))
  · rw [EReal.right_distrib_of_nonneg_of_ne_top h0 (EReal.coe_ne_top r)]
    exact congr (congrArg _ (carry _ _ _ _)) (carry _ _ _ _)

/-! ## The kernel's spelling: tables of the gain times the cosines and sines, two heads at a time -/

/-- The first half of a head turned by tables: `a` holds its gain times the cosines, `d` the second half's gain
times the sines. -/
def low (z : Fin 64 → EReal) (a d : Fin 32 → EReal) (i : Fin 32) : EReal := unit z ⟨i.val, by omega⟩ * a i - unit z ⟨32 + i.val, by omega⟩ * d i

/-- The second half of a head turned by tables: `c` holds its gain times the cosines, `b` the first half's gain
times the sines. -/
def high (z : Fin 64 → EReal) (b c : Fin 32 → EReal) (i : Fin 32) : EReal := unit z ⟨32 + i.val, by omega⟩ * c i + unit z ⟨i.val, by omega⟩ * b i

/-- Two heads side by side, turned by tables. -/
def pair (z z' : Fin 64 → EReal) (a b c d : Fin 32 → EReal) (j : Fin 128) : EReal :=
  if h : j.val < 32 then low z a d ⟨j.val, h⟩
  else if h : j.val - 32 < 32 then high z b c ⟨j.val - 32, h⟩
  else if h : j.val - 32 - 32 < 32 then low z' a d ⟨j.val - 32 - 32, h⟩
  else high z' b c ⟨j.val - 32 - 32 - 32, by omega⟩

variable (z g : Fin 64 → EReal) (θ : Fin 32 → EReal)

/-- A first half. -/
theorem low_eq (i : Fin 32) : low z (fun i => g ⟨i.val, by omega⟩ * Ideal.cos (θ i)) (fun i => g ⟨32 + i.val, by omega⟩ * Ideal.sin (θ i)) i = turned z g θ ⟨i.val, by omega⟩ := by
  unfold low turned
  rw [dif_pos i.isLt, ← mul_assoc, ← mul_assoc]

/-- A second half. -/
theorem high_eq (i : Fin 32) : high z (fun i => g ⟨i.val, by omega⟩ * Ideal.sin (θ i)) (fun i => g ⟨32 + i.val, by omega⟩ * Ideal.cos (θ i)) i = turned z g θ ⟨32 + i.val, by omega⟩ := by
  unfold high turned
  rw [dif_neg (by show ¬ 32 + i.val < 32; omega), ← mul_assoc, ← mul_assoc]
  simp only [Nat.add_sub_cancel_left]

/-- The pair of heads `o`, column by column. -/
theorem pair_eq (z : Fin 1024 → EReal) (z0 z1 a b c d) (o : Fin 8) (j : Fin 128) (n : Fin 1024) (hn : n.val = 128 * o.val + j.val)
    (h0 : z0 = fun k : Fin 64 => z ⟨128 * o.val + k.val, by omega⟩) (h1 : z1 = fun k : Fin 64 => z ⟨128 * o.val + (64 + k.val), by omega⟩)
    (ha : a = fun i : Fin 32 => g ⟨i.val, by omega⟩ * Ideal.cos (θ i)) (hb : b = fun i : Fin 32 => g ⟨i.val, by omega⟩ * Ideal.sin (θ i))
    (hc : c = fun i : Fin 32 => g ⟨32 + i.val, by omega⟩ * Ideal.cos (θ i)) (hd : d = fun i : Fin 32 => g ⟨32 + i.val, by omega⟩ * Ideal.sin (θ i)) :
    pair z0 z1 a b c d j = heads z g θ n := by
  subst h0 h1 ha hb hc hd
  unfold pair
  simp only [low_eq, high_eq]
  unfold heads
  split
  · congr 1
    · funext k; congr 2; omega
    · apply Fin.ext; show j.val = n.val % 64; omega
  · split
    · congr 1
      · funext k; congr 2; omega
      · apply Fin.ext; show 32 + (j.val - 32) = n.val % 64; omega
    · split
      · congr 1
        · funext k; congr 2; omega
        · apply Fin.ext; show j.val - 32 - 32 = n.val % 64; omega
      · congr 1
        · funext k; congr 2; omega
        · apply Fin.ext; show 32 + (j.val - 32 - 32 - 32) = n.val % 64; omega

end Cert.Proof.InProj
end
-- ==== Proof.InProj.Body.lean ====
module

public import proofs.«01_k».proof.Proof.Gen.Kernel3Ideal.Value
public import proofs.«01_k».proof.Proof.InProj.Spec
public import Idealize.ShloMosaic.Lib.Pipeline.ValueKit.Geometry
public import Idealize.ShloMosaic.Lib.Pipeline.ValueKit.Tiles

@[expose] public section

set_option maxRecDepth 16384

noncomputable section

namespace Cert.Proof.InProj
open Cert.Kernel3Ideal Cert.Kernel3Ideal.Gen

open Idealize.ShloMosaic Idealize.ShloMosaic.TcCoe Idealize.SL.Sem

/-! # The kernel's body at a grid point, read at an index

## The two heads of a tile of 128 columns

Each of the eight tiles of the queries and of the keys is the same arithmetic, cut by the printer at other
places. Its value is `pair` of the tile's columns and the tables. -/

section Tiles

variable (z : FVec Ideal S1024x512 .f32) (a b c d : FVec Ideal S32x512 .f32)

/-- A tile of two heads of the queries. -/
theorem query0 (f : Vec Ideal S32x1 .f32) (p : Vec Ideal S1x1x512 .i32) (g : Vec Ideal S64x512 .f32) (j : Fin 128) (s : Fin 512) :
    k0_pay35 (k0_pay17 f p g) (k0_pay18 f p g) (k0_pay19 f p g) (k0_pay20 f p g) (k0_pay32 z f p g) (k0_pay33 z f p g) (k0_pay34 z) (ix4 0 0 j s)
      = pair (fun k => z (ix2 ⟨k.val, by omega⟩ s)) (fun k => z (ix2 ⟨64 + k.val, by omega⟩ s)) (fun i => k0_pay17 f p g (ix2 i s)) (fun i => k0_pay18 f p g (ix2 i s)) (fun i => k0_pay19 f p g (ix2 i s)) (fun i => k0_pay20 f p g (ix2 i s)) j := by
  pointwise [k0_pay28, k0_pay29, k0_pay30, k0_pay31, k0_pay32, k0_pay33, k0_pay34, k0_pay35]
  rfl

/-- A tile of two heads of the queries. -/
theorem query1 (j : Fin 128) (s : Fin 512) :
    k0_pay53 a b c d (k0_pay49 z a d) (k0_pay50 z b c) (k0_pay51 z) (k0_pay52 z) (ix4 0 0 j s)
      = pair (fun k => z (ix2 ⟨128 + k.val, by omega⟩ s)) (fun k => z (ix2 ⟨128 + (64 + k.val), by omega⟩ s)) (fun i => a (ix2 i s)) (fun i => b (ix2 i s)) (fun i => c (ix2 i s)) (fun i => d (ix2 i s)) j := by
  pointwise [k0_pay45, k0_pay46, k0_pay47, k0_pay48, k0_pay49, k0_pay50, k0_pay51, k0_pay52, k0_pay53]
  rfl

/-- A tile of two heads of the queries. -/
theorem query2 (j : Fin 128) (s : Fin 512) :
    k0_pay76 (k0_pay68 z a d) (k0_pay69 z b c) (k0_pay73 z a d) (k0_pay74 z c) (k0_pay75 z b) (ix4 0 0 j s)
      = pair (fun k => z (ix2 ⟨256 + k.val, by omega⟩ s)) (fun k => z (ix2 ⟨256 + (64 + k.val), by omega⟩ s)) (fun i => a (ix2 i s)) (fun i => b (ix2 i s)) (fun i => c (ix2 i s)) (fun i => d (ix2 i s)) j := by
  pointwise [k0_pay64, k0_pay65, k0_pay66, k0_pay67, k0_pay68, k0_pay69, k0_pay70, k0_pay71, k0_pay72, k0_pay73, k0_pay74, k0_pay75, k0_pay76]
  rfl

/-- A tile of two heads of the queries. -/
theorem query3 (j : Fin 128) (s : Fin 512) :
    k0_pay79 z a b c d (ix4 0 0 j s)
      = pair (fun k => z (ix2 ⟨384 + k.val, by omega⟩ s)) (fun k => z (ix2 ⟨384 + (64 + k.val), by omega⟩ s)) (fun i => a (ix2 i s)) (fun i => b (ix2 i s)) (fun i => c (ix2 i s)) (fun i => d (ix2 i s)) j := by
  pointwise [k0_pay79]
  rfl

/-- A tile of two heads of the queries. -/
theorem query4 (j : Fin 128) (s : Fin 512) :
    k0_pay84 a b c d (k0_pay81 z) (k0_pay82 z) (k0_pay83 z) (ix4 0 0 j s)
      = pair (fun k => z (ix2 ⟨512 + k.val, by omega⟩ s)) (fun k => z (ix2 ⟨512 + (64 + k.val), by omega⟩ s)) (fun i => a (ix2 i s)) (fun i => b (ix2 i s)) (fun i => c (ix2 i s)) (fun i => d (ix2 i s)) j := by
  pointwise [k0_pay81, k0_pay82, k0_pay83, k0_pay84]
  rfl

/-- A tile of two heads of the queries. -/
theorem query5 (j : Fin 128) (s : Fin 512) :
    k0_pay92 a b c d (k0_pay89 z) (k0_pay90 z) (k0_pay91 z) (ix4 0 0 j s)
      = pair (fun k => z (ix2 ⟨640 + k.val, by omega⟩ s)) (fun k => z (ix2 ⟨640 + (64 + k.val), by omega⟩ s)) (fun i => a (ix2 i s)) (fun i => b (ix2 i s)) (fun i => c (ix2 i s)) (fun i => d (ix2 i s)) j := by
  pointwise [k0_pay89, k0_pay90, k0_pay91, k0_pay92]
  rfl

/-- A tile of two heads of the queries. -/
theorem query6 (j : Fin 128) (s : Fin 512) :
    k0_pay107 a b c d (k0_pay104 z a d) (k0_pay105 z b c) (k0_pay106 z) (ix4 0 0 j s)
      = pair (fun k => z (ix2 ⟨768 + k.val, by omega⟩ s)) (fun k => z (ix2 ⟨768 + (64 + k.val), by omega⟩ s)) (fun i => a (ix2 i s)) (fun i => b (ix2 i s)) (fun i => c (ix2 i s)) (fun i => d (ix2 i s)) j := by
  pointwise [k0_pay100, k0_pay101, k0_pay102, k0_pay103, k0_pay104, k0_pay105, k0_pay106, k0_pay107]
  rfl

/-- A tile of two heads of the queries. -/
theorem query7 (j : Fin 128) (s : Fin 512) :
    k0_pay125 a b c d (k0_pay121 z a d) (k0_pay122 z b c) (k0_pay123 z) (k0_pay124 z) (ix4 0 0 j s)
      = pair (fun k => z (ix2 ⟨896 + k.val, by omega⟩ s)) (fun k => z (ix2 ⟨896 + (64 + k.val), by omega⟩ s)) (fun i => a (ix2 i s)) (fun i => b (ix2 i s)) (fun i => c (ix2 i s)) (fun i => d (ix2 i s)) j := by
  pointwise [k0_pay117, k0_pay118, k0_pay119, k0_pay120, k0_pay121, k0_pay122, k0_pay123, k0_pay124, k0_pay125]
  rfl

/-- A tile of two heads of the keys. -/
theorem key0 (j : Fin 128) (s : Fin 512) :
    k0_pay44 a b c d (k0_pay40 z a d) (k0_pay41 z b c) (k0_pay42 z) (k0_pay43 z) (Scalar.ofBits .f32 0x42800000#32) (ix3 0 s j)
      = pair (fun k => z (ix2 ⟨k.val, by omega⟩ s)) (fun k => z (ix2 ⟨64 + k.val, by omega⟩ s)) (fun i => a (ix2 i s)) (fun i => b (ix2 i s)) (fun i => c (ix2 i s)) (fun i => d (ix2 i s)) j := by
  pointwise [k0_pay36, k0_pay37, k0_pay38, k0_pay39, k0_pay40, k0_pay41, k0_pay42, k0_pay43, k0_pay44]
  rfl

/-- A tile of two heads of the keys. -/
theorem key1 (j : Fin 128) (s : Fin 512) :
    k0_pay63 a b c d (k0_pay58 z a d) (k0_pay59 z b c) (k0_pay61 z) (k0_pay62 z) (ix3 0 s j)
      = pair (fun k => z (ix2 ⟨128 + k.val, by omega⟩ s)) (fun k => z (ix2 ⟨128 + (64 + k.val), by omega⟩ s)) (fun i => a (ix2 i s)) (fun i => b (ix2 i s)) (fun i => c (ix2 i s)) (fun i => d (ix2 i s)) j := by
  pointwise [k0_pay54, k0_pay55, k0_pay56, k0_pay57, k0_pay58, k0_pay59, k0_pay60, k0_pay61, k0_pay62, k0_pay63]
  rfl

/-- A tile of two heads of the keys. -/
theorem key2 (j : Fin 128) (s : Fin 512) :
    k0_pay78 (k0_pay77 z a b c d) (ix3 0 s j)
      = pair (fun k => z (ix2 ⟨256 + k.val, by omega⟩ s)) (fun k => z (ix2 ⟨256 + (64 + k.val), by omega⟩ s)) (fun i => a (ix2 i s)) (fun i => b (ix2 i s)) (fun i => c (ix2 i s)) (fun i => d (ix2 i s)) j := by
  pointwise [k0_pay77, k0_pay78]
  rfl

/-- A tile of two heads of the keys. -/
theorem key3 (j : Fin 128) (s : Fin 512) :
    k0_pay80 z a b c d (ix3 0 s j)
      = pair (fun k => z (ix2 ⟨384 + k.val, by omega⟩ s)) (fun k => z (ix2 ⟨384 + (64 + k.val), by omega⟩ s)) (fun i => a (ix2 i s)) (fun i => b (ix2 i s)) (fun i => c (ix2 i s)) (fun i => d (ix2 i s)) j := by
  pointwise [k0_pay80]
  rfl

/-- A tile of two heads of the keys. -/
theorem key4 (j : Fin 128) (s : Fin 512) :
    k0_pay88 a b c d (k0_pay85 z) (k0_pay86 z) (k0_pay87 z) (ix3 0 s j)
      = pair (fun k => z (ix2 ⟨512 + k.val, by omega⟩ s)) (fun k => z (ix2 ⟨512 + (64 + k.val), by omega⟩ s)) (fun i => a (ix2 i s)) (fun i => b (ix2 i s)) (fun i => c (ix2 i s)) (fun i => d (ix2 i s)) j := by
  pointwise [k0_pay85, k0_pay86, k0_pay87, k0_pay88]
  rfl

/-- A tile of two heads of the keys. -/
theorem key5 (j : Fin 128) (s : Fin 512) :
    k0_pay99 a b c d (k0_pay93 z) (k0_pay95 z) (k0_pay96 z) (k0_pay97 z a) (k0_pay98 z d) (ix3 0 s j)
      = pair (fun k => z (ix2 ⟨640 + k.val, by omega⟩ s)) (fun k => z (ix2 ⟨640 + (64 + k.val), by omega⟩ s)) (fun i => a (ix2 i s)) (fun i => b (ix2 i s)) (fun i => c (ix2 i s)) (fun i => d (ix2 i s)) j := by
  pointwise [k0_pay93, k0_pay94, k0_pay95, k0_pay96, k0_pay97, k0_pay98, k0_pay99]
  rfl

/-- A tile of two heads of the keys. -/
theorem key6 (j : Fin 128) (s : Fin 512) :
    k0_pay116 a b c d (k0_pay112 z a d) (k0_pay113 z b c) (k0_pay114 z) (k0_pay115 z) (Scalar.ofBits .f32 0x42800000#32) (ix3 0 s j)
      = pair (fun k => z (ix2 ⟨768 + k.val, by omega⟩ s)) (fun k => z (ix2 ⟨768 + (64 + k.val), by omega⟩ s)) (fun i => a (ix2 i s)) (fun i => b (ix2 i s)) (fun i => c (ix2 i s)) (fun i => d (ix2 i s)) j := by
  pointwise [k0_pay108, k0_pay109, k0_pay110, k0_pay111, k0_pay112, k0_pay113, k0_pay114, k0_pay115, k0_pay116]
  rfl

/-- A tile of two heads of the keys. -/
theorem key7 (j : Fin 128) (s : Fin 512) :
    k0_pay1 a b c d (k0_pay130 z a d) (k0_pay131 z b c) (k0_pay133 z) (k0_pay134 z) (ix3 0 s j)
      = pair (fun k => z (ix2 ⟨896 + k.val, by omega⟩ s)) (fun k => z (ix2 ⟨896 + (64 + k.val), by omega⟩ s)) (fun i => a (ix2 i s)) (fun i => b (ix2 i s)) (fun i => c (ix2 i s)) (fun i => d (ix2 i s)) j := by
  pointwise [k0_pay1, k0_pay126, k0_pay127, k0_pay128, k0_pay129, k0_pay130, k0_pay131, k0_pay132, k0_pay133, k0_pay134]
  rfl

end Tiles

/-! ## The rows, the products and the tables -/

/-- The normalised and modulated row. -/
theorem pay2_apply (x : Vec Ideal S1x512x1024 .f32) (m0 m1 : Vec Ideal S1x1x1024 .f32) (s : Fin 512) (e : Fin 1024) :
    k0_pay2 x m0 m1 (ix2 s e) = Post.norm (fun k => x (ix3 0 s k)) (fun k => m1 (ix3 0 0 k)) (fun k => m0 (ix3 0 0 k)) e := by
  pointwise [k0_pay2]
  rfl

/-- A product of the rows, token by token. -/
theorem pay3_apply (x : Vec Ideal S1x512x1024 .f32) (m0 m1 : Vec Ideal S1x1x1024 .f32) (w : Vec Ideal S1024x1024 .bf16) (s : Fin 512) (e : Fin 1024) :
    k0_pay3 x m0 m1 w (ix3 0 s e) = ∑ k, k0_pay2 x m0 m1 (ix2 s k) * w (ix2 k e) := by
  pointwise [k0_pay3]

/-- A product of the rows, token by token. -/
theorem pay4_apply (x : Vec Ideal S1x512x1024 .f32) (m0 m1 : Vec Ideal S1x1x1024 .f32) (w : Vec Ideal S1024x1024 .bf16) (s : Fin 512) (e : Fin 1024) :
    k0_pay5 (k0_pay4 x m0 m1 w) (ix3 0 s e) = ∑ k, k0_pay2 x m0 m1 (ix2 s k) * w (ix2 k e) := by
  pointwise [k0_pay4, k0_pay5]

section Products

variable (r : FVec Ideal S512x1024 .bf16) (w : Vec Ideal S1024x1024 .bf16) (s : Fin 512) (e : Fin 1024)

/-- A product of the rows, token by token. -/
theorem pay8_apply : k0_pay8 r w (ix3 0 s e) = ∑ k, r (ix2 s k) * w (ix2 k e) := by
  pointwise [k0_pay8]

/-- A product of the rows, token by token. -/
theorem pay9_apply : k0_pay9 r w (ix3 0 s e) = ∑ k, r (ix2 s k) * w (ix2 k e) := by
  pointwise [k0_pay9]

/-- A product with the transposed weight, column by column. -/
theorem pay6_apply : k0_pay6 r w (ix2 e s) = ∑ k, r (ix2 s k) * w (ix2 e k) := by
  pointwise [k0_pay6]
  exact Finset.sum_congr rfl fun k _ => mul_comm _ _

/-- A product with the transposed weight, column by column. -/
theorem pay7_apply : k0_pay7 r w (ix2 e s) = ∑ k, r (ix2 s k) * w (ix2 e k) := by
  pointwise [k0_pay7]
  exact Finset.sum_congr rfl fun k _ => mul_comm _ _

/-- A product with the transposed weight, column by column. -/
theorem pay10_apply : k0_pay10 r w (ix4 0 0 e s) = ∑ k, r (ix2 s k) * w (ix2 e k) := by
  pointwise [k0_pay10]
  exact Finset.sum_congr rfl fun k _ => mul_comm _ _

end Products

section Tables

variable (f : Vec Ideal S32x1 .f32) (p : Vec Ideal S1x1x512 .i32) (g : Vec Ideal S64x512 .f32) (i : Fin 32) (s : Fin 512)

/-- The angle of frequency `i` at token `s`. -/
def angle : EReal := f (ix2 i 0) * FloatOps.sitofp (F := Ideal) .f32 (p (ix3 0 0 s))

/-- The first half's gain times the cosines, for the queries. -/
theorem pay17_apply : k0_pay17 f p g (ix2 i s) = g (ix2 ⟨i.val, by omega⟩ s) * Ideal.cos (angle f p i s) := by
  pointwise [k0_pay17, k0_pay15, k0_pay14, k0_pay12, k0_pay11]
  rfl

/-- The first half's gain times the sines, for the queries. -/
theorem pay18_apply : k0_pay18 f p g (ix2 i s) = g (ix2 ⟨i.val, by omega⟩ s) * Ideal.sin (angle f p i s) := by
  pointwise [k0_pay18, k0_pay15, k0_pay14, k0_pay13, k0_pay11]
  rfl

/-- The second half's gain times the cosines, for the queries. -/
theorem pay19_apply : k0_pay19 f p g (ix2 i s) = g (ix2 ⟨32 + i.val, by omega⟩ s) * Ideal.cos (angle f p i s) := by
  pointwise [k0_pay19, k0_pay16, k0_pay14, k0_pay12, k0_pay11]
  rfl

/-- The second half's gain times the sines, for the queries. -/
theorem pay20_apply : k0_pay20 f p g (ix2 i s) = g (ix2 ⟨32 + i.val, by omega⟩ s) * Ideal.sin (angle f p i s) := by
  pointwise [k0_pay20, k0_pay16, k0_pay14, k0_pay13, k0_pay11]
  rfl

end Tables

/-! ## The blocks of a grid point -/

variable (x0 : Vec Ideal S1x512x1024 .f32) (x1 : Vec Ideal S1x6x1024 .f32) (x2 : Vec Ideal S1024x4096 .bf16) (x3 : Vec Ideal S3072x1024 .bf16) (x4 x5 : Vec Ideal S64x512 .f32) (x6 : Vec Ideal S1x1x512 .i32) (x7 : Vec Ideal S32x1 .f32)

/-- Token `s` of a grid point's blocks. -/
def blockToken (s : Fin 512) : Token where
  x k := x0 (ix3 0 s k)
  mod i k := x1 (ix3 0 i k)
  angle i := angle x7 x6 i s

/-- An index of a tile of 1024 columns. -/
theorem idx3 (x : S1x512x1024.Idx) : ∃ (s : Fin 512) (e : Fin 1024), x = ix3 0 s e :=
  ⟨x 1, x 2, by funext a; fin_cases a <;> first | rfl | exact Subsingleton.elim (α := Fin 1) _ _⟩

/-- An index of a tile of two heads of the keys. -/
theorem idx3' (x : S1x512x128.Idx) : ∃ (s : Fin 512) (j : Fin 128), x = ix3 0 s j :=
  ⟨x 1, x 2, by funext a; fin_cases a <;> first | rfl | exact Subsingleton.elim (α := Fin 1) _ _⟩

/-- An index of a tile of two heads of the queries. -/
theorem idx4 (x : S1x1x128x512.Idx) : ∃ (j : Fin 128) (s : Fin 512), x = ix4 0 0 j s :=
  ⟨x 2, x 3, by funext a; fin_cases a <;> first | rfl | exact Subsingleton.elim (α := Fin 1) _ _⟩

/-- A load of modulation row `i`. -/
theorem ld_mod (i : Fin 6) (inb : ∀ a, (![0, i.val, 0] : Fin 3 → ℕ) a + S1x1x1024.size a ≤ S1x6x1024.size a) (k : Fin 1024) :
    View.ld x1 (Rect.unit (s := S1x6x1024) ![0, i.val, 0] S1x1x1024.size inb) (ix3 0 0 k) = x1 (ix3 0 i k) :=
  congrArg x1 (by funext a; fin_cases a <;> exact Fin.ext (by simp [ix3]))

/-- A load of 1024 columns from column `o` on. -/
theorem ld_cols (o : ℕ) (inb : ∀ a, (![0, o] : Fin 2 → ℕ) a + S1024x1024.size a ≤ S1024x4096.size a) (k e : Fin 1024) (h : o + e.val < 4096) :
    View.ld x2 (Rect.unit (s := S1024x4096) ![0, o] S1024x1024.size inb) (ix2 k e) = x2 (ix2 k ⟨o + e.val, h⟩) :=
  congrArg x2 (by funext a; fin_cases a <;> exact Fin.ext (by simp [ix2]))

/-- A load of 1024 rows from row `o` on. -/
theorem ld_rows (o : ℕ) (inb : ∀ a, (![o, 0] : Fin 2 → ℕ) a + S1024x1024.size a ≤ S3072x1024.size a) (e k : Fin 1024) (h : o + e.val < 3072) :
    View.ld x3 (Rect.unit (s := S3072x1024) ![o, 0] S1024x1024.size inb) (ix2 e k) = x3 (ix2 ⟨o + e.val, h⟩ k) :=
  congrArg x3 (by funext a; fin_cases a <;> exact Fin.ext (by simp [ix2]))

/-- The row of a token of the blocks. -/
theorem rows_apply (s : Fin 512) (e : Fin 1024) :
    k0_pay2 (View.ld x0 r0_0) (View.ld x1 r0_1) (View.ld x1 r0_2) (ix2 s e) = row (blockToken x0 x1 x6 x7 s) e := by
  have m0 (k) : View.ld x1 r0_1 (ix3 0 0 k) = x1 (ix3 0 0 k) := ld_mod x1 0 _ k
  have m1 (k) : View.ld x1 r0_2 (ix3 0 0 k) = x1 (ix3 0 1 k) := ld_mod x1 1 _ k
  rw [pay2_apply, View.ld_unit_zero (by decide)]
  simp only [m0, m1]
  rfl

/-- The first 1024 columns of the token-major weight. -/
theorem out8_apply (s : Fin 512) (e : Fin 1024) :
    out0_8 x0 x1 x2 x3 x4 x5 x6 x7 (ix3 0 s e) = ∑ k, row (blockToken x0 x1 x6 x7 s) k * x2 (ix2 k ⟨0 + e.val, by omega⟩) := by
  unfold out0_8
  rw [View.canon_unit_zero (by decide), pay3_apply]
  exact Finset.sum_congr rfl fun k _ => congr (congrArg _ (rows_apply x0 x1 x6 x7 s k)) (ld_cols x2 0 _ k e _)

/-- The next 1024 columns of the token-major weight. -/
theorem out9_apply (s : Fin 512) (e : Fin 1024) :
    out0_9 x0 x1 x2 x3 x4 x5 x6 x7 (ix3 0 s e) = ∑ k, row (blockToken x0 x1 x6 x7 s) k * x2 (ix2 k ⟨1024 + e.val, by omega⟩) := by
  unfold out0_9
  rw [View.canon_unit_zero (by decide), pay4_apply]
  exact Finset.sum_congr rfl fun k _ => congr (congrArg _ (rows_apply x0 x1 x6 x7 s k)) (ld_cols x2 1024 _ k e _)

/-- The last 2048 columns of the token-major weight. -/
theorem out10_apply (y : S1x512x2048.Idx) :
    out0_10 x0 x1 x2 x3 x4 x5 x6 x7 y = ∑ k, row (blockToken x0 x1 x6 x7 (y 1)) k * x2 (ix2 k ⟨2048 + (y 2).val, by have : (y 2).val < 2048 := (y 2).isLt; omega⟩) := by
  unfold out0_10
  canon_tiles x h
  all_goals
    obtain ⟨s, e, rfl⟩ := idx3 x
    rw [show y 1 = s from Fin.ext h1]
  · refine (pay9_apply _ _ s e).trans (Finset.sum_congr rfl fun k _ => congr (congrArg _ (rows_apply x0 x1 x6 x7 s k)) ((ld_cols x2 3072 _ k e (by omega)).trans ?_))
    congr 2
    apply Fin.ext
    show 3072 + e.val = 2048 + (y 2).val
    have : (y 2).val = 1024 + e.val := h2
    omega
  · refine (pay8_apply _ _ s e).trans (Finset.sum_congr rfl fun k _ => congr (congrArg _ (rows_apply x0 x1 x6 x7 s k)) ((ld_cols x2 2048 _ k e (by omega)).trans ?_))
    congr 2
    apply Fin.ext
    show 2048 + e.val = 2048 + (y 2).val
    rw [show (y 2).val = e.val from h2]

/-- The tables of the queries. -/
theorem query_tables (i : Fin 32) (s : Fin 512) :
    k0_pay138 x0 x1 x2 x3 x4 x5 x6 x7 (ix2 i s) = x4 (ix2 ⟨i.val, by omega⟩ s) * Ideal.cos (angle x7 x6 i s)
    ∧ k0_pay139 x0 x1 x2 x3 x4 x5 x6 x7 (ix2 i s) = x4 (ix2 ⟨i.val, by omega⟩ s) * Ideal.sin (angle x7 x6 i s)
    ∧ k0_pay140 x0 x1 x2 x3 x4 x5 x6 x7 (ix2 i s) = x4 (ix2 ⟨32 + i.val, by omega⟩ s) * Ideal.cos (angle x7 x6 i s)
    ∧ k0_pay141 x0 x1 x2 x3 x4 x5 x6 x7 (ix2 i s) = x4 (ix2 ⟨32 + i.val, by omega⟩ s) * Ideal.sin (angle x7 x6 i s) := by
  unfold k0_pay138 k0_pay139 k0_pay140 k0_pay141
  rw [View.ld_unit_zero (by decide), View.ld_unit_zero (by decide), View.ld_unit_zero (by decide)]
  exact ⟨pay17_apply .., pay18_apply .., pay19_apply .., pay20_apply ..⟩

/-- The tables of the keys. -/
theorem key_tables (i : Fin 32) (s : Fin 512) :
    k0_pay142 x0 x1 x2 x3 x4 x5 x6 x7 (ix2 i s) = x5 (ix2 ⟨i.val, by omega⟩ s) * Ideal.cos (angle x7 x6 i s)
    ∧ k0_pay143 x0 x1 x2 x3 x4 x5 x6 x7 (ix2 i s) = x5 (ix2 ⟨i.val, by omega⟩ s) * Ideal.sin (angle x7 x6 i s)
    ∧ k0_pay144 x0 x1 x2 x3 x4 x5 x6 x7 (ix2 i s) = x5 (ix2 ⟨32 + i.val, by omega⟩ s) * Ideal.cos (angle x7 x6 i s)
    ∧ k0_pay145 x0 x1 x2 x3 x4 x5 x6 x7 (ix2 i s) = x5 (ix2 ⟨32 + i.val, by omega⟩ s) * Ideal.sin (angle x7 x6 i s) := by
  unfold k0_pay142 k0_pay143 k0_pay144 k0_pay145
  rw [View.ld_unit_zero (by decide), View.ld_unit_zero (by decide), View.ld_unit_zero (by decide)]
  exact ⟨pay17_apply .., pay18_apply .., pay19_apply .., pay20_apply ..⟩

/-- The columns of the queries. -/
theorem query_columns (n : Fin 1024) (s : Fin 512) :
    k0_pay136 x0 x1 x2 x3 x4 x5 x6 x7 (ix2 n s) = ∑ k, row (blockToken x0 x1 x6 x7 s) k * x3 (ix2 ⟨0 + n.val, by omega⟩ k) := by
  unfold k0_pay136 k0_pay135
  rw [pay6_apply]
  exact Finset.sum_congr rfl fun k _ => congr (congrArg _ (rows_apply x0 x1 x6 x7 s k)) (ld_rows x3 0 _ n k _)

/-- The columns of the keys. -/
theorem key_columns (n : Fin 1024) (s : Fin 512) :
    k0_pay137 x0 x1 x2 x3 x4 x5 x6 x7 (ix2 n s) = ∑ k, row (blockToken x0 x1 x6 x7 s) k * x3 (ix2 ⟨1024 + n.val, by omega⟩ k) := by
  unfold k0_pay137 k0_pay135
  rw [pay7_apply]
  exact Finset.sum_congr rfl fun k _ => congr (congrArg _ (rows_apply x0 x1 x6 x7 s k)) (ld_rows x3 1024 _ n k _)

/-- Tile `o` of the queries, column by column. -/
theorem query_tile (o : Fin 8) (j : Fin 128) (s : Fin 512) (n : Fin 1024) (hn : n.val = 128 * o.val + j.val) :
    pair (fun k => k0_pay136 x0 x1 x2 x3 x4 x5 x6 x7 (ix2 ⟨128 * o.val + k.val, by omega⟩ s)) (fun k => k0_pay136 x0 x1 x2 x3 x4 x5 x6 x7 (ix2 ⟨128 * o.val + (64 + k.val), by omega⟩ s))
        (fun i => k0_pay138 x0 x1 x2 x3 x4 x5 x6 x7 (ix2 i s)) (fun i => k0_pay139 x0 x1 x2 x3 x4 x5 x6 x7 (ix2 i s)) (fun i => k0_pay140 x0 x1 x2 x3 x4 x5 x6 x7 (ix2 i s)) (fun i => k0_pay141 x0 x1 x2 x3 x4 x5 x6 x7 (ix2 i s)) j
      = heads (fun n => ∑ k, row (blockToken x0 x1 x6 x7 s) k * x3 (ix2 ⟨0 + n.val, by omega⟩ k)) (fun i => x4 (ix2 i s)) (blockToken x0 x1 x6 x7 s).angle n :=
  pair_eq _ _ _ _ _ _ _ _ _ o j n hn (funext fun k => query_columns x0 x1 x2 x3 x4 x5 x6 x7 _ s) (funext fun k => query_columns x0 x1 x2 x3 x4 x5 x6 x7 _ s)
    (funext fun i => (query_tables x0 x1 x2 x3 x4 x5 x6 x7 i s).1) (funext fun i => (query_tables x0 x1 x2 x3 x4 x5 x6 x7 i s).2.1) (funext fun i => (query_tables x0 x1 x2 x3 x4 x5 x6 x7 i s).2.2.1) (funext fun i => (query_tables x0 x1 x2 x3 x4 x5 x6 x7 i s).2.2.2)

/-- Tile `o` of the keys, column by column. -/
theorem key_tile (o : Fin 8) (j : Fin 128) (s : Fin 512) (n : Fin 1024) (hn : n.val = 128 * o.val + j.val) :
    pair (fun k => k0_pay137 x0 x1 x2 x3 x4 x5 x6 x7 (ix2 ⟨128 * o.val + k.val, by omega⟩ s)) (fun k => k0_pay137 x0 x1 x2 x3 x4 x5 x6 x7 (ix2 ⟨128 * o.val + (64 + k.val), by omega⟩ s))
        (fun i => k0_pay142 x0 x1 x2 x3 x4 x5 x6 x7 (ix2 i s)) (fun i => k0_pay143 x0 x1 x2 x3 x4 x5 x6 x7 (ix2 i s)) (fun i => k0_pay144 x0 x1 x2 x3 x4 x5 x6 x7 (ix2 i s)) (fun i => k0_pay145 x0 x1 x2 x3 x4 x5 x6 x7 (ix2 i s)) j
      = heads (fun n => ∑ k, row (blockToken x0 x1 x6 x7 s) k * x3 (ix2 ⟨1024 + n.val, by omega⟩ k)) (fun i => x5 (ix2 i s)) (blockToken x0 x1 x6 x7 s).angle n :=
  pair_eq _ _ _ _ _ _ _ _ _ o j n hn (funext fun k => key_columns x0 x1 x2 x3 x4 x5 x6 x7 _ s) (funext fun k => key_columns x0 x1 x2 x3 x4 x5 x6 x7 _ s)
    (funext fun i => (key_tables x0 x1 x2 x3 x4 x5 x6 x7 i s).1) (funext fun i => (key_tables x0 x1 x2 x3 x4 x5 x6 x7 i s).2.1) (funext fun i => (key_tables x0 x1 x2 x3 x4 x5 x6 x7 i s).2.2.1) (funext fun i => (key_tables x0 x1 x2 x3 x4 x5 x6 x7 i s).2.2.2)

/-- The turned queries. -/
theorem out11_apply (y : S1x1x1024x512.Idx) :
    out0_11 x0 x1 x2 x3 x4 x5 x6 x7 y = heads (fun n => ∑ k, row (blockToken x0 x1 x6 x7 (y 3)) k * x3 (ix2 ⟨0 + n.val, by omega⟩ k))
      (fun i => x4 (ix2 i (y 3))) (blockToken x0 x1 x6 x7 (y 3)).angle (y 2) := by
  unfold out0_11
  canon_tiles x h
  all_goals
    obtain ⟨j, s, rfl⟩ := idx4 x
    rw [show y 3 = s from Fin.ext h3]
  · exact (query7 _ _ _ _ _ j s).trans (query_tile x0 x1 x2 x3 x4 x5 x6 x7 7 j s (y 2) h2)
  · exact (query6 _ _ _ _ _ j s).trans (query_tile x0 x1 x2 x3 x4 x5 x6 x7 6 j s (y 2) h2)
  · exact (query5 _ _ _ _ _ j s).trans (query_tile x0 x1 x2 x3 x4 x5 x6 x7 5 j s (y 2) h2)
  · exact (query4 _ _ _ _ _ j s).trans (query_tile x0 x1 x2 x3 x4 x5 x6 x7 4 j s (y 2) h2)
  · exact (query3 _ _ _ _ _ j s).trans (query_tile x0 x1 x2 x3 x4 x5 x6 x7 3 j s (y 2) h2)
  · exact (query2 _ _ _ _ _ j s).trans (query_tile x0 x1 x2 x3 x4 x5 x6 x7 2 j s (y 2) h2)
  · exact (query1 _ _ _ _ _ j s).trans (query_tile x0 x1 x2 x3 x4 x5 x6 x7 1 j s (y 2) h2)
  · refine (query0 _ _ _ _ j s).trans (Eq.trans ?_ (query_tile x0 x1 x2 x3 x4 x5 x6 x7 0 j s (y 2) (h2.trans (Nat.zero_add _).symm)))
    congr 1 <;> exact funext fun k => congrArg (fun n => k0_pay136 x0 x1 x2 x3 x4 x5 x6 x7 (ix2 n s)) (Fin.ext (Nat.zero_add _).symm)

/-- The turned keys. -/
theorem out12_apply (y : S1x512x1024.Idx) :
    out0_12 x0 x1 x2 x3 x4 x5 x6 x7 y = heads (fun n => ∑ k, row (blockToken x0 x1 x6 x7 (y 1)) k * x3 (ix2 ⟨1024 + n.val, by omega⟩ k))
      (fun i => x5 (ix2 i (y 1))) (blockToken x0 x1 x6 x7 (y 1)).angle (y 2) := by
  unfold out0_12
  canon_tiles x h
  all_goals
    obtain ⟨s, j, rfl⟩ := idx3' x
    rw [show y 1 = s from Fin.ext h1]
  · exact (key7 _ _ _ _ _ j s).trans (key_tile x0 x1 x2 x3 x4 x5 x6 x7 7 j s (y 2) h2)
  · exact (key6 _ _ _ _ _ j s).trans (key_tile x0 x1 x2 x3 x4 x5 x6 x7 6 j s (y 2) h2)
  · exact (key5 _ _ _ _ _ j s).trans (key_tile x0 x1 x2 x3 x4 x5 x6 x7 5 j s (y 2) h2)
  · exact (key4 _ _ _ _ _ j s).trans (key_tile x0 x1 x2 x3 x4 x5 x6 x7 4 j s (y 2) h2)
  · exact (key3 _ _ _ _ _ j s).trans (key_tile x0 x1 x2 x3 x4 x5 x6 x7 3 j s (y 2) h2)
  · exact (key2 _ _ _ _ _ j s).trans (key_tile x0 x1 x2 x3 x4 x5 x6 x7 2 j s (y 2) h2)
  · exact (key1 _ _ _ _ _ j s).trans (key_tile x0 x1 x2 x3 x4 x5 x6 x7 1 j s (y 2) h2)
  · refine (key0 _ _ _ _ _ j s).trans (Eq.trans ?_ (key_tile x0 x1 x2 x3 x4 x5 x6 x7 0 j s (y 2) (h2.trans (Nat.zero_add _).symm)))
    congr 1 <;> exact funext fun k => congrArg (fun n => k0_pay137 x0 x1 x2 x3 x4 x5 x6 x7 (ix2 n s)) (Fin.ext (Nat.zero_add _).symm)

/-- The last 1024 rows of the feature-major weight. -/
theorem out13_apply (e : Fin 1024) (s : Fin 512) :
    out0_13 x0 x1 x2 x3 x4 x5 x6 x7 (ix4 0 0 e s) = ∑ k, row (blockToken x0 x1 x6 x7 s) k * x3 (ix2 ⟨2048 + e.val, by omega⟩ k) := by
  unfold out0_13
  rw [View.canon_unit_zero (by decide), pay10_apply]
  exact Finset.sum_congr rfl fun k _ => congr (congrArg _ (rows_apply x0 x1 x6 x7 s k)) (ld_rows x3 2048 _ e k _)

end Cert.Proof.InProj
end
-- ==== Proof.InProj.Reference.lean ====
module

public import proofs.«01_k».proof.Proof.Gen.Reference3Ideal.Run
public import proofs.«01_k».proof.Proof.InProj.Spec
public import proofs.«01_k».proof.Proof.Value.Array
public import Idealize.ShloMosaic.Lib.Tactic.CleanTypes

@[expose] public section

set_option maxRecDepth 16384

noncomputable section

namespace Cert.Proof.InProj.Ref
open Cert.Reference3Ideal Cert.Reference3Ideal.Gen

open Idealize.ShloMosaic Idealize.ShloMosaic.TcCoe Idealize.SL.Sem

/-! # The reference of the input projection, in stages

The reference's results are composed expressions of the arguments. Here they are cut at the normalised rows,
the projection, the angles and the turned heads, each stage read at an index. -/

/-- The normalised and modulated rows. -/
def normed (x : FVec Ideal S8x8192x1024 .f32) (md : FVec Ideal S8x6144 .f32) : FVec Ideal S8x8192x1024 .f32 :=
  addf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S8x1x1024_S8x8192x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 md) slices_S8x1x6144_S8x1x1024_0_0_1024))))
    (broadcastInDim S8x8192x1024 ![0, 1, 2] bcast_S8x1x1024_S8x8192x1024_0_1_2 (extractStridedSlice S8x1x1024 ![0, 0, 0] (broadcastInDim S8x1x6144 ![0, 2] bcast_S8x6144_S8x1x6144_0_2 md) slices_S8x1x6144_S8x1x1024_0_0_0))

/-- Every column of every token. -/
def proj (x : FVec Ideal S8x8192x1024 .f32) (md : FVec Ideal S8x6144 .f32) (w : FVec Ideal S1x1024x7168 .f32) : FVec Ideal S8x8192x7168 .f32 :=
  Host.dotGeneral dot_S8x8192x1024_S1024x7168_S8x8192x7168_2_0_01_1_n_n none (normed x md) (shapeCast _ w shapeCasts_S1x1024x7168_S1024x7168)

/-- The 32 frequencies of the rotary embedding: powers of 10000. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles: every position times every frequency. -/
def angles (p : IVec S8x8192 32) : FVec Ideal S8x8192x32 .f32 :=
  mulf (broadcastInDim S8x8192x32 ![0, 1, 2] bcast_S8x8192x1_S8x8192x32_0_1_2 (broadcastInDim S8x8192x1 ![0, 1] bcast_S8x8192_S8x8192x1_0_1 (sitofp .f32 p))) (broadcastInDim S8x8192x32 ![0, 1, 2] bcast_S1x1x32_S8x8192x32_0_1_2 (broadcastInDim S1x1x32 ![2] bcast_S32_S1x1x32_2 freqs))

/-- One over the root of a head's mean square, for every entry of the head. -/
def inverses (z : FVec Ideal S8x8192x8x2x64 .f32) : FVec Ideal S8x8192x8x2x64 .f32 :=
  broadcastInDim S8x8192x8x2x64 ![0, 1, 2, 3, 4] bcast_S8x8192x8x2x1_S8x8192x8x2x64_0_1_2_3_4 (Host.rsqrt (addf (Host.divf (broadcastInDim S8x8192x8x2x1 ![0, 1, 2, 3] bcast_S8x8192x8x2_S8x8192x8x2x1_0_1_2_3 (Host.reduceAdd (mulf z z) (constant S_ .f32 0x00000000#32) reducesTo_S8x8192x8x2x64_S8x8192x8x2_d4 h_S_)) (broadcastInDim S8x8192x8x2x1 ![] bcast_S_S8x8192x8x2x1 (constant S_ .f32 0x42800000#32))) (broadcastInDim S8x8192x8x2x1 ![] bcast_S_S8x8192x8x2x1 (constant S_ .f32 0x358637BD#32))))

/-- The gain, for every head. -/
def gains (g : FVec Ideal S1x64 .f32) : FVec Ideal S8x8192x8x2x64 .f32 :=
  broadcastInDim S8x8192x8x2x64 ![0, 1, 2, 3, 4] bcast_S1x1x1x1x64_S8x8192x8x2x64_0_1_2_3_4 (broadcastInDim S1x1x1x1x64 ![4] bcast_S64_S1x1x1x1x64_4 (shapeCast _ g shapeCasts_S1x64_S64))

/-- A token's cosines or sines, for every head. -/
def byHead (t : FVec Ideal S8x8192x32 .f32) : FVec Ideal S8x8192x8x2x32 .f32 :=
  broadcastInDim S8x8192x8x2x32 ![0, 1, 2, 3, 4] bcast_S8x8192x1x1x32_S8x8192x8x2x32_0_1_2_3_4 (broadcastInDim S8x8192x1x1x32 ![0, 1, 4] bcast_S8x8192x32_S8x8192x1x1x32_0_1_4 t)

/-- Every head normalised, its gain applied, and turned. -/
def turn (z : FVec Ideal S8x8192x8x2x64 .f32) (g : FVec Ideal S1x64 .f32) (θ : FVec Ideal S8x8192x32 .f32) : FVec Ideal S8x8192x8x2x64 .f32 :=
  concatenate S8x8192x8x2x64 4 [⟨S8x8192x8x2x32, (subf (mulf (extractStridedSlice S8x8192x8x2x32 ![0, 0, 0, 0, 0] (mulf (mulf z (inverses z)) (gains g)) slices_S8x8192x8x2x64_S8x8192x8x2x32_0_0_0_0_0) (byHead (Host.cos θ))) (mulf (extractStridedSlice S8x8192x8x2x32 ![0, 0, 0, 0, 32] (mulf (mulf z (inverses z)) (gains g)) slices_S8x8192x8x2x64_S8x8192x8x2x32_0_0_0_0_32) (byHead (Host.sin θ))))⟩,
    ⟨S8x8192x8x2x32, (addf (mulf (extractStridedSlice S8x8192x8x2x32 ![0, 0, 0, 0, 32] (mulf (mulf z (inverses z)) (gains g)) slices_S8x8192x8x2x64_S8x8192x8x2x32_0_0_0_0_32) (byHead (Host.cos θ))) (mulf (extractStridedSlice S8x8192x8x2x32 ![0, 0, 0, 0, 0] (mulf (mulf z (inverses z)) (gains g)) slices_S8x8192x8x2x64_S8x8192x8x2x32_0_0_0_0_0) (byHead (Host.sin θ))))⟩] concatenates_S8x8192x8x2x32_S8x8192x8x2x32_S8x8192x8x2x64_d4

variable (x : FVec Ideal S8x8192x1024 .f32) (md : FVec Ideal S8x6144 .f32) (w : FVec Ideal S1x1024x7168 .f32) (gq gk : FVec Ideal S1x64 .f32) (p : IVec S8x8192 32)

/-- The recurrent branch's columns. -/
def recur : FVec Ideal S8x8192x1024 .bf16 := truncf .bf16 (extractStridedSlice S8x8192x1024 ![0, 0, 0] (proj x md w) slices_S8x8192x7168_S8x8192x1024_0_0_0) bitsLt_bf16_f32

/-- The recurrent branch's gate columns. -/
def gate : FVec Ideal S8x8192x1024 .bf16 := truncf .bf16 (extractStridedSlice S8x8192x1024 ![0, 0, 1024] (proj x md w) slices_S8x8192x7168_S8x8192x1024_0_0_1024) bitsLt_bf16_f32

/-- The merge gates' columns. -/
def merge : FVec Ideal S8x8192x2048 .bf16 := truncf .bf16 (extractStridedSlice S8x8192x2048 ![0, 0, 5120] (proj x md w) slices_S8x8192x7168_S8x8192x2048_0_0_5120) bitsLt_bf16_f32

/-- The queries, in the layout of the call's result. -/
def queries : FVec Ideal S8x16x1024x512 .bf16 :=
  truncf .bf16 (transpose S8x16x1024x512 [0, 1, 3, 2] (shapeCast _ (mulf (turn (shapeCast _ (extractStridedSlice S8x8192x1024 ![0, 0, 2048] (proj x md w) slices_S8x8192x7168_S8x8192x1024_0_0_2048) shapeCasts_S8x8192x1024_S8x8192x8x2x64) gq (angles p)) (broadcastInDim S8x8192x8x2x64 ![] bcast_S_S8x8192x8x2x64 (Host.divf (constant S_ .f32 0x3E000000#32) (Host.log (constant S_ .f32 0x40000000#32))))) shapeCasts_S8x8192x8x2x64_S8x16x512x1024) transposes_S8x16x512x1024_S8x16x1024x512_0_1_3_2) bitsLt_bf16_f32

/-- The keys. -/
def keys : FVec Ideal S8x8192x1024 .bf16 :=
  truncf .bf16 (shapeCast _ (turn (shapeCast _ (extractStridedSlice S8x8192x1024 ![0, 0, 3072] (proj x md w) slices_S8x8192x7168_S8x8192x1024_0_0_3072) shapeCasts_S8x8192x1024_S8x8192x8x2x64) gk (angles p)) shapeCasts_S8x8192x8x2x64_S8x8192x1024) bitsLt_bf16_f32

/-- The values, in the layout of the call's result. -/
def values : FVec Ideal S8x16x1024x512 .bf16 :=
  truncf .bf16 (transpose S8x16x1024x512 [0, 1, 3, 2] (shapeCast _ (extractStridedSlice S8x8192x1024 ![0, 0, 4096] (proj x md w) slices_S8x8192x7168_S8x8192x1024_0_0_4096) shapeCasts_S8x8192x1024_S8x16x512x1024) transposes_S8x16x512x1024_S8x16x1024x512_0_1_3_2) bitsLt_bf16_f32

/-- The reference's queries, by stages. -/
theorem queries_eq (m : (ℓ : Loc nD τ sig) → Buf (Elt Ideal) ℓ) (c : Dev nD) :
    Cert.Reference3Ideal.Value.res_out3 (F := Ideal) m c
      = queries (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  unfold Cert.Reference3Ideal.Value.res_out3 Cert.Reference3Ideal.Value.res_main_v116 queries turn byHead gains inverses angles freqs proj normed
  rfl

/-- The reference's keys, by stages. -/
theorem keys_eq (m : (ℓ : Loc nD τ sig) → Buf (Elt Ideal) ℓ) (c : Dev nD) :
    Cert.Reference3Ideal.Value.res_out4 (F := Ideal) m c
      = keys (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  unfold Cert.Reference3Ideal.Value.res_out4 Cert.Reference3Ideal.Value.res_main_v118 keys turn byHead gains inverses angles freqs proj normed
  rfl

/-- Token `s` of batch `b` of the arguments. -/
def token (b : Fin 8) (s : Fin 8192) : Token where
  x k := x (ix3 b s k)
  mod i k := md (ix2 b ⟨i.val * 1024 + k.val, by omega⟩)
  angle i := FloatOps.sitofp (F := Ideal) .f32 (p (ix2 b s)) * freqs (ix1 i)

/-- The weight of the arguments. -/
def weight (k : Fin 1024) (n : Fin 7168) : EReal := w (ix3 0 k n)

/-- A normalised row at an index. -/
theorem normed_apply (b : Fin 8) (s : Fin 8192) (e : Fin 1024) : normed x md (ix3 b s e) = row (token x md p b s) e := by
  have m0 : md (ix2 b ⟨e.val, by omega⟩) = (token x md p b s).mod 0 e := congrArg (fun n => md (ix2 b n)) (Fin.ext (by show e.val = 0 * 1024 + e.val; omega))
  pointwise [normed]
  rw [m0]
  rfl

/-- A column at an index. -/
theorem proj_apply (b : Fin 8) (s : Fin 8192) (n : Fin 7168) : proj x md w (ix3 b s n) = column (token x md p b s) (weight w) n := by
  pointwise [proj]
  simp only [normed_apply x md p]
  rfl

/-- An angle at an index. -/
theorem angles_apply (b : Fin 8) (s : Fin 8192) (i : Fin 32) : angles p (ix3 b s i) = (token x md p b s).angle i := by
  unfold token
  pointwise [angles]

/-- A turned head at an index. -/
theorem turn_apply (z : FVec Ideal S8x8192x8x2x64 .f32) (g : FVec Ideal S1x64 .f32) (θ : FVec Ideal S8x8192x32 .f32) (b : Fin 8) (s : Fin 8192) (h : Fin 8) (st : Fin 2) (d : Fin 64) :
    turn z g θ (ix5 b s h st d) = turned (fun k => z (ix5 b s h st k)) (fun k => g (ix2 0 k)) (fun i => θ (ix3 b s i)) d := by
  pointwise [turn, byHead, gains, inverses]
  unfold turned
  split
  · rfl
  · have e : (⟨32 + (d.val - 32), by omega⟩ : Fin 64) = d := Fin.ext (by show 32 + (d.val - 32) = d.val; omega)
    rw [e]
    rfl

/-- A turned entry of 1024 columns cut into eight heads of two streams. -/
theorem turn_heads (z : FVec Ideal S8x8192x8x2x64 .f32) (g : FVec Ideal S1x64 .f32) (b : Fin 8) (s : Fin 8192) (f : Fin 1024 → EReal)
    (hz : ∀ (h : Fin 8) (st : Fin 2) (d : Fin 64), z (ix5 b s h st d) = f ⟨h.val * 128 + st.val * 64 + d.val, by omega⟩) (e : Fin 1024) :
    turn z g (angles p) (ix5 b s ⟨e.val / 128, by omega⟩ ⟨e.val / 64 % 2, by omega⟩ ⟨e.val % 64, by omega⟩)
      = heads f (fun k => g (ix2 0 k)) (token x md p b s).angle e := by
  rw [turn_apply]
  simp only [hz, angles_apply x md p]
  unfold heads
  congr 1
  funext k
  congr 2
  show e.val / 128 * 128 + e.val / 64 % 2 * 64 + k.val = 64 * (e.val / 64) + k.val
  omega

/-- The factor on the queries: an eighth, over the logarithm of two. -/
theorem scale_eq : Ideal.div (Ideal.ofBits .f32 0x3E000000#32) (Ideal.log (Ideal.ofBits .f32 0x40000000#32)) = Value.qScale := by
  have h8 : Ideal.ofBits .f32 0x3E000000#32 = ((1 / 8 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have hl : Real.log 2 ≠ 0 := (Real.log_pos one_lt_two).ne'
  rw [Value.qScale_real, h8, h2, Ideal.log_coe, if_neg (by norm_num), Ideal.div_coe hl, EReal.coe_mul]

/-- The recurrent branch's columns at an index. -/
theorem recur_apply (b : Fin 8) (s : Fin 8192) (e : Fin 1024) : recur x md w (ix3 b s e) = column (token x md p b s) (weight w) ⟨e.val, by omega⟩ := by
  unfold recur
  pointwise
  exact proj_apply ..

/-- The recurrent branch's gate columns at an index. -/
theorem gate_apply (b : Fin 8) (s : Fin 8192) (e : Fin 1024) : gate x md w (ix3 b s e) = column (token x md p b s) (weight w) ⟨1024 + e.val, by omega⟩ := by
  unfold gate
  pointwise
  exact proj_apply ..

/-- The merge gates' columns at an index. -/
theorem merge_apply (b : Fin 8) (s : Fin 8192) (e : Fin 2048) : merge x md w (ix3 b s e) = column (token x md p b s) (weight w) ⟨5120 + e.val, by omega⟩ := by
  unfold merge
  pointwise
  exact proj_apply ..

/-- The values at an index: token `512 i + y`, entry `e`. -/
theorem values_apply (b : Fin 8) (i : Fin 16) (e : Fin 1024) (y : Fin 512) :
    values x md w (ix4 b i e y) = column (token x md p b ⟨i.val * 512 + y.val, by omega⟩) (weight w) ⟨4096 + e.val, by omega⟩ := by
  unfold values
  pointwise
  exact proj_apply ..

/-- The queries' columns, cut into heads. -/
def queryCols : FVec Ideal S8x8192x8x2x64 .f32 := shapeCast _ (extractStridedSlice S8x8192x1024 ![0, 0, 2048] (proj x md w) slices_S8x8192x7168_S8x8192x1024_0_0_2048) shapeCasts_S8x8192x1024_S8x8192x8x2x64

/-- The keys' columns, cut into heads. -/
def keyCols : FVec Ideal S8x8192x8x2x64 .f32 := shapeCast _ (extractStridedSlice S8x8192x1024 ![0, 0, 3072] (proj x md w) slices_S8x8192x7168_S8x8192x1024_0_0_3072) shapeCasts_S8x8192x1024_S8x8192x8x2x64

/-- A query column at an index. -/
theorem queryCols_apply (b : Fin 8) (s : Fin 8192) (h : Fin 8) (st : Fin 2) (d : Fin 64) :
    queryCols x md w (ix5 b s h st d) = column (token x md p b s) (weight w) ⟨2048 + (h.val * 128 + st.val * 64 + d.val), by omega⟩ := by
  pointwise [queryCols]
  exact proj_apply ..

/-- A key column at an index. -/
theorem keyCols_apply (b : Fin 8) (s : Fin 8192) (h : Fin 8) (st : Fin 2) (d : Fin 64) :
    keyCols x md w (ix5 b s h st d) = column (token x md p b s) (weight w) ⟨3072 + (h.val * 128 + st.val * 64 + d.val), by omega⟩ := by
  pointwise [keyCols]
  exact proj_apply ..

/-- The queries at an index: the turned heads, times the factor. -/
theorem queries_apply (b : Fin 8) (i : Fin 16) (e : Fin 1024) (y : Fin 512) :
    queries x md w gq p (ix4 b i e y) = heads (fun n => column (token x md p b ⟨i.val * 512 + y.val, by omega⟩) (weight w) ⟨2048 + n.val, by omega⟩) (fun k => gq (ix2 0 k)) (token x md p b ⟨i.val * 512 + y.val, by omega⟩).angle e * Value.qScale := by
  have h := turn_heads x md p (queryCols x md w) gq b ⟨i.val * 512 + y.val, by omega⟩ (fun n => column (token x md p b ⟨i.val * 512 + y.val, by omega⟩) (weight w) ⟨2048 + n.val, by omega⟩) (queryCols_apply x md w p b ⟨i.val * 512 + y.val, by omega⟩) e
  unfold queryCols at h
  unfold queries
  pointwise
  rw [scale_eq, h]

/-- The heads side by side: entry `e` of a token is entry `e % 64` of stream `e / 64 % 2` of head `e / 128`. -/
theorem flat_apply (z : FVec Ideal S8x8192x8x2x64 .f32) (b : Fin 8) (s : Fin 8192) (e : Fin 1024) :
    truncf .bf16 (shapeCast S8x8192x1024 z shapeCasts_S8x8192x8x2x64_S8x8192x1024) bitsLt_bf16_f32 (ix3 b s e) = z (ix5 b s ⟨e.val / 128, by omega⟩ ⟨e.val / 64 % 2, by omega⟩ ⟨e.val % 64, by omega⟩) := by
  pointwise

/-- The keys are the turned heads of their columns, side by side. -/
theorem keys_flat : keys x md w gk p = truncf .bf16 (shapeCast S8x8192x1024 (turn (keyCols x md w) gk (angles p)) shapeCasts_S8x8192x8x2x64_S8x8192x1024) bitsLt_bf16_f32 := rfl

/-- The keys at an index: the turned heads. -/
theorem keys_apply (b : Fin 8) (s : Fin 8192) (e : Fin 1024) :
    keys x md w gk p (ix3 b s e) = heads (fun n => column (token x md p b s) (weight w) ⟨3072 + n.val, by omega⟩) (fun k => gk (ix2 0 k)) (token x md p b s).angle e := by
  rw [keys_flat, flat_apply]
  exact turn_heads x md p (keyCols x md w) gk b s (fun n => column (token x md p b s) (weight w) ⟨3072 + n.val, by omega⟩) (keyCols_apply x md w p b s) e

end Cert.Proof.InProj.Ref
end
-- ==== Proof.InProj.Windows.lean ====
module

public import proofs.«01_k».proof.Proof.InProj.Body
public import proofs.«01_k».proof.Proof.InProj.Reference

@[expose] public section

set_option maxRecDepth 16384

noncomputable section

namespace Cert.Proof.InProj
open Cert.Kernel3Ideal Cert.Kernel3Ideal.Gen

open Idealize.ShloMosaic Idealize.ShloMosaic.TcCoe Idealize.SL.Sem

/-! # The windows of a grid point, and what the host laid out before the launch

Grid point `t` is tile `t % 16` of batch `t / 16`: tokens `512 (t % 16) … 512 (t % 16) + 511`. The host has cut
the weight's columns in two: the columns whose results are laid out by token (0 to 2047 and 5120 to 7167), and,
transposed, the columns of the queries, keys and values (2048 to 5119). -/

variable (m : ∀ ℓ : Loc nD τ sig, Buf (Elt Ideal) ℓ)

/-- Token `s` of batch `b` of the arguments. -/
def argToken (c : Dev nD) (b : Fin 8) (s : Fin 8192) : Token :=
  Ref.token (m (c, main_arg0)) (m (c, main_arg1)) (m (c, main_arg5)) b s

/-- The weight of the arguments. -/
def argWeight (c : Dev nD) : Fin 1024 → Fin 7168 → EReal := Ref.weight (m (c, main_arg2))

/-- The queries' gain. -/
def argGq (c : Dev nD) (d : Fin 64) : EReal := (m (c, main_arg3) : (⟨S1x64, .f32⟩ : BufTy).Contents (Elt Ideal)) (ix2 0 d)

/-- The keys' gain. -/
def argGk (c : Dev nD) (d : Fin 64) : EReal := (m (c, main_arg4) : (⟨S1x64, .f32⟩ : BufTy).Contents (Elt Ideal)) (ix2 0 d)

/-! ## The host's layouts -/

/-- The rows of the layer's input, as launched. -/
theorem entry_x (c : Dev nD) (b : Fin 8) (s : Fin 8192) (k : Fin 1024) :
    (V m c main_arg0 : (⟨S8x8192x1024, .f32⟩ : BufTy).Contents (Elt Ideal)) (ix3 b s k) = (argToken m c b s).x k := by
  rw [V_main_arg0]; rfl

/-- The modulation, cut into six rows. -/
theorem entry_mod (c : Dev nD) (b : Fin 8) (s : Fin 8192) (i : Fin 6) (k : Fin 1024) :
    (V m c main_v19 : (⟨S8x6x1024, .f32⟩ : BufTy).Contents (Elt Ideal)) (ix3 b i k) = (argToken m c b s).mod i k := by
  entry_read
  pointwise
  rfl

/-- The token-major weight: the first 2048 columns, then the last 2048. -/
theorem entry_wa (c : Dev nD) (k : Fin 1024) (n : Fin 4096) :
    (V m c main_v4 : (⟨S1024x4096, .bf16⟩ : BufTy).Contents (Elt Ideal)) (ix2 k n)
      = if h : n.val < 2048 then argWeight m c k ⟨n.val, by omega⟩ else argWeight m c k ⟨5120 + (n.val - 2048), by omega⟩ := by
  entry_read
  pointwise
  rfl

/-- The feature-major weight: columns 2048 to 5119. -/
theorem entry_wt (c : Dev nD) (n : Fin 3072) (k : Fin 1024) :
    (V m c main_v7 : (⟨S3072x1024, .bf16⟩ : BufTy).Contents (Elt Ideal)) (ix2 n k) = argWeight m c k ⟨2048 + n.val, by omega⟩ := by
  entry_read
  pointwise
  rfl

/-- The queries' gain times the scale, repeated along the tokens. -/
theorem entry_gq (c : Dev nD) (d : Fin 64) (s : Fin 512) :
    (V m c main_v15 : (⟨S64x512, .f32⟩ : BufTy).Contents (Elt Ideal)) (ix2 d s) = argGq m c d * Value.qScale := by
  unfold Value.qScale
  entry_read
  pointwise
  rfl

/-- The keys' gain, repeated along the tokens. -/
theorem entry_gk (c : Dev nD) (d : Fin 64) (s : Fin 512) :
    (V m c main_v18 : (⟨S64x512, .f32⟩ : BufTy).Contents (Elt Ideal)) (ix2 d s) = argGk m c d := by
  entry_read
  pointwise
  rfl

/-- The positions. -/
theorem entry_pos (c : Dev nD) (b : Fin 8) (s : Fin 8192) :
    (V m c main_v31 : (⟨S8x1x8192, .i32⟩ : BufTy).Contents (Elt Ideal)) (ix3 b 0 s) = (m (c, main_arg5) : (⟨S8x8192, .i32⟩ : BufTy).Contents (Elt Ideal)) (ix2 b s) := by
  entry_read
  pointwise

/-- The frequencies. -/
theorem entry_freq (c : Dev nD) (i : Fin 32) :
    (V m c main_v30 : (⟨S32x1, .f32⟩ : BufTy).Contents (Elt Ideal)) (ix2 i 0) = Ref.freqs (ix1 i) := by
  entry_read
  pointwise [Ref.freqs]

/-! ## The windows -/

theorem index0 : ∀ t : Fin cfg0.N, win0_0.index t = ![t.val / 16, t.val % 16, 0] := (by decide +kernel : ∀ t : Fin grid0.N, _)
theorem index1 : ∀ t : Fin cfg0.N, win0_1.index t = ![t.val / 16, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 16, 0, t.val % 16] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val / 16, t.val % 16, 0] := (by decide +kernel : ∀ t : Fin grid0.N, _)
theorem index9 : ∀ t : Fin cfg0.N, win0_9.index t = ![t.val / 16, t.val % 16, 0] := (by decide +kernel : ∀ t : Fin grid0.N, _)
theorem index10 : ∀ t : Fin cfg0.N, win0_10.index t = ![t.val / 16, t.val % 16, 0] := (by decide +kernel : ∀ t : Fin grid0.N, _)
theorem index11 : ∀ t : Fin cfg0.N, win0_11.index t = ![t.val / 16, t.val % 16, 0, 0] := (by decide +kernel : ∀ t : Fin grid0.N, _)
theorem index12 : ∀ t : Fin cfg0.N, win0_12.index t = ![t.val / 16, t.val % 16, 0] := (by decide +kernel : ∀ t : Fin grid0.N, _)
theorem index13 : ∀ t : Fin cfg0.N, win0_13.index t = ![t.val / 16, t.val % 16, 0, 0] := (by decide +kernel : ∀ t : Fin grid0.N, _)

variable (c : Dev nD) (t : Fin cfg0.N)

theorem read_x (s : Fin 512) (k : Fin 1024) (hb : t.val / 16 < 8) (hs : 512 * (t.val % 16) + s.val < 8192) :
    iblk m c 0 t (ix3 0 s k) = V m c main_arg0 (ix3 ⟨t.val / 16, hb⟩ ⟨512 * (t.val % 16) + s.val, hs⟩ k) := by
  blk_ext [iblk, index0 t]

theorem read_mod (i : Fin 6) (k : Fin 1024) (hb : t.val / 16 < 8) :
    iblk m c 1 t (ix3 0 i k) = V m c main_v19 (ix3 ⟨t.val / 16, hb⟩ i k) := by
  blk_ext [iblk, index1 t]

theorem read_wa (k : Fin 1024) (n : Fin 4096) : iblk m c 2 t (ix2 k n) = V m c main_v4 (ix2 k n) := by blk_ext [iblk, index2 t]
theorem read_wt (n : Fin 3072) (k : Fin 1024) : iblk m c 3 t (ix2 n k) = V m c main_v7 (ix2 n k) := by blk_ext [iblk, index3 t]
theorem read_gq (d : Fin 64) (s : Fin 512) : iblk m c 4 t (ix2 d s) = V m c main_v15 (ix2 d s) := by blk_ext [iblk, index4 t]
theorem read_gk (d : Fin 64) (s : Fin 512) : iblk m c 5 t (ix2 d s) = V m c main_v18 (ix2 d s) := by blk_ext [iblk, index5 t]

theorem read_pos (s : Fin 512) (hb : t.val / 16 < 8) (hs : 512 * (t.val % 16) + s.val < 8192) :
    iblk m c 6 t (ix3 0 0 s) = V m c main_v31 (ix3 ⟨t.val / 16, hb⟩ 0 ⟨512 * (t.val % 16) + s.val, hs⟩) := by
  blk_ext [iblk, index6 t]

theorem read_freq (i : Fin 32) : iblk m c 7 t (ix2 i 0) = V m c main_v30 (ix2 i 0) := by blk_ext [iblk, index7 t]

/-- A grid point's tokens are the arguments' tokens of its batch and tile. -/
theorem token_eq (s : Fin 512) (hb : t.val / 16 < 8) (hs : 512 * (t.val % 16) + s.val < 8192) :
    blockToken (iblk m c 0 t) (iblk m c 1 t) (iblk m c 6 t) (iblk m c 7 t) s = argToken m c ⟨t.val / 16, hb⟩ ⟨512 * (t.val % 16) + s.val, hs⟩ := by
  have hx := fun k => (read_x m c t s k hb hs).trans (entry_x m c _ _ k)
  have hm := fun i k => (read_mod m c t i k hb).trans (entry_mod m c _ ⟨512 * (t.val % 16) + s.val, hs⟩ i k)
  have hp := (read_pos m c t s hb hs).trans (entry_pos m c _ _)
  have hf := fun i => (read_freq m c t i).trans (entry_freq m c i)
  unfold blockToken angle
  simp only [hx, hm, hp, hf]
  unfold argToken Ref.token
  congr 1
  exact funext fun i => mul_comm _ _

/-- Column `n` of the token-major weight in a grid point's block, `n` at most 2047. -/
theorem wa_low (k : Fin 1024) (n : Fin 4096) (h : n.val < 2048) : iblk m c 2 t (ix2 k n) = argWeight m c k ⟨n.val, by omega⟩ := by
  rw [read_wa, entry_wa, dif_pos h]

/-- Column `n` of the token-major weight in a grid point's block, `n` at least 2048. -/
theorem wa_high (k : Fin 1024) (n : Fin 4096) (h : 2048 ≤ n.val) : iblk m c 2 t (ix2 k n) = argWeight m c k ⟨5120 + (n.val - 2048), by omega⟩ := by
  rw [read_wa, entry_wa, dif_neg (by omega)]

/-- Row `n` of the feature-major weight in a grid point's block. -/
theorem wt_row (n : Fin 3072) (k : Fin 1024) : iblk m c 3 t (ix2 n k) = argWeight m c k ⟨2048 + n.val, by omega⟩ :=
  (read_wt m c t n k).trans (entry_wt m c n k)

/-- The queries' gain in a grid point's block. -/
theorem gq_eq (d : Fin 64) (s : Fin 512) : iblk m c 4 t (ix2 d s) = argGq m c d * Value.qScale := (read_gq m c t d s).trans (entry_gq m c d s)

/-- The keys' gain in a grid point's block. -/
theorem gk_eq (d : Fin 64) (s : Fin 512) : iblk m c 5 t (ix2 d s) = argGk m c d := (read_gk m c t d s).trans (entry_gk m c d s)

end Cert.Proof.InProj
end
-- ==== Proof.InProj.Kernel.lean ====
module

public import proofs.«01_k».proof.Proof.InProj.Windows

@[expose] public section

set_option maxRecDepth 16384

noncomputable section

namespace Cert.Proof.InProj
open Cert.Kernel3Ideal Cert.Kernel3Ideal.Gen

open Idealize.ShloMosaic Idealize.ShloMosaic.TcCoe Idealize.SL.Sem

/-! # The run of the input projection -/

variable (m : ∀ ℓ : Loc nD τ sig, Buf (Elt Ideal) ℓ)

/-- The recurrent branch's columns: 0 to 1023. -/
def outRecur (c : Dev nD) : Vec Ideal S8x8192x1024 .bf16 := fun j => column (argToken m c (j 0) (j 1)) (argWeight m c) ⟨(j 2).val, by have : (j 2).val < 1024 := (j 2).isLt; omega⟩

/-- The recurrent branch's gate columns: 1024 to 2047. -/
def outGate (c : Dev nD) : Vec Ideal S8x8192x1024 .bf16 := fun j => column (argToken m c (j 0) (j 1)) (argWeight m c) ⟨1024 + (j 2).val, by have : (j 2).val < 1024 := (j 2).isLt; omega⟩

/-- The merge gates' columns: 5120 to 7167. -/
def outMerge (c : Dev nD) : Vec Ideal S8x8192x2048 .bf16 := fun j => column (argToken m c (j 0) (j 1)) (argWeight m c) ⟨5120 + (j 2).val, by have : (j 2).val < 2048 := (j 2).isLt; omega⟩

/-- The token of block `i` of 512 tokens and position `x` of the block. -/
def inBlock (i : Fin 16) (x : Fin 512) : Fin 8192 := ⟨i.val * 512 + x.val, by omega⟩

/-- Entry `e` of a token's turned and scaled queries. -/
def queryEntry (c : Dev nD) (b : Fin 8) (s : Fin 8192) (e : Fin 1024) : EReal :=
  heads (fun n => column (argToken m c b s) (argWeight m c) ⟨2048 + n.val, by omega⟩) (argGq m c) (argToken m c b s).angle e * Value.qScale

/-- Entry `e` of a token's turned keys. -/
def keyEntry (c : Dev nD) (b : Fin 8) (s : Fin 8192) (e : Fin 1024) : EReal :=
  heads (fun n => column (argToken m c b s) (argWeight m c) ⟨3072 + n.val, by omega⟩) (argGk m c) (argToken m c b s).angle e

/-- The queries: in blocks of 512 tokens, each block by entry, then token. -/
def outQuery (c : Dev nD) : Vec Ideal S8x16x1024x512 .bf16 := fun j => queryEntry m c (j 0) (inBlock (j 1) (j 3)) (j 2)

/-- The keys, by token. -/
def outKey (c : Dev nD) : Vec Ideal S8x8192x1024 .bf16 := fun j => keyEntry m c (j 0) (j 1) (j 2)

/-- The values: columns 4096 to 5119, in blocks of 512 tokens, each block by entry, then token. -/
def outValue (c : Dev nD) : Vec Ideal S8x16x1024x512 .bf16 := fun j => column (argToken m c (j 0) (inBlock (j 1) (j 3))) (argWeight m c) ⟨4096 + (j 2).val, by have : (j 2).val < 1024 := (j 2).isLt; omega⟩

/-! ## What a grid point leaves in its windows -/

section Blocks
variable (c : Dev nD) (t : Fin cfg0.N)

/-- The recurrent branch's columns of the grid point's tokens. -/
theorem block_recur (s : Fin 512) (e : Fin 1024) (hb : t.val / 16 < 8) (hs : 512 * (t.val % 16) + s.val < 8192) :
    out0_8 (iblk m c 0 t) (iblk m c 1 t) (iblk m c 2 t) (iblk m c 3 t) (iblk m c 4 t) (iblk m c 5 t) (iblk m c 6 t) (iblk m c 7 t) (ix3 0 s e) = column (argToken m c ⟨t.val / 16, hb⟩ ⟨512 * (t.val % 16) + s.val, hs⟩) (argWeight m c) ⟨e.val, by omega⟩ := by
  rw [out8_apply, token_eq m c t s hb hs]
  refine Finset.sum_congr rfl fun k _ => congrArg _ ((wa_low m c t k _ (by show 0 + e.val < 2048; omega)).trans (congrArg _ (Fin.ext ?_)))
  exact Nat.zero_add _

/-- The recurrent branch's gate columns of the grid point's tokens. -/
theorem block_gate (s : Fin 512) (e : Fin 1024) (hb : t.val / 16 < 8) (hs : 512 * (t.val % 16) + s.val < 8192) :
    out0_9 (iblk m c 0 t) (iblk m c 1 t) (iblk m c 2 t) (iblk m c 3 t) (iblk m c 4 t) (iblk m c 5 t) (iblk m c 6 t) (iblk m c 7 t) (ix3 0 s e) = column (argToken m c ⟨t.val / 16, hb⟩ ⟨512 * (t.val % 16) + s.val, hs⟩) (argWeight m c) ⟨1024 + e.val, by omega⟩ := by
  rw [out9_apply, token_eq m c t s hb hs]
  exact Finset.sum_congr rfl fun k _ => congrArg _ (wa_low m c t k _ (by show 1024 + e.val < 2048; omega))

/-- The merge gates' columns of the grid point's tokens. -/
theorem block_merge (s : Fin 512) (e : Fin 2048) (hb : t.val / 16 < 8) (hs : 512 * (t.val % 16) + s.val < 8192) :
    out0_10 (iblk m c 0 t) (iblk m c 1 t) (iblk m c 2 t) (iblk m c 3 t) (iblk m c 4 t) (iblk m c 5 t) (iblk m c 6 t) (iblk m c 7 t) (ix3 0 s e) = column (argToken m c ⟨t.val / 16, hb⟩ ⟨512 * (t.val % 16) + s.val, hs⟩) (argWeight m c) ⟨5120 + e.val, by omega⟩ := by
  refine (out10_apply (iblk m c 0 t) (iblk m c 1 t) (iblk m c 2 t) (iblk m c 3 t) (iblk m c 4 t) (iblk m c 5 t) (iblk m c 6 t) (iblk m c 7 t) (ix3 0 s e)).trans ?_
  show ∑ k, row (blockToken (iblk m c 0 t) (iblk m c 1 t) (iblk m c 6 t) (iblk m c 7 t) s) k * iblk m c 2 t (ix2 k ⟨2048 + e.val, by omega⟩) = _
  rw [token_eq m c t s hb hs]
  refine Finset.sum_congr rfl fun k _ => congrArg _ ((wa_high m c t k _ (by show 2048 ≤ 2048 + e.val; omega)).trans (congrArg _ (Fin.ext ?_)))
  show 5120 + (2048 + e.val - 2048) = 5120 + e.val
  omega

/-- The turned and scaled queries of the grid point's tokens: the scale, which the host put in the gain, comes out of the turn. -/
theorem block_query (e : Fin 1024) (s : Fin 512) (hb : t.val / 16 < 8) (hs : 512 * (t.val % 16) + s.val < 8192) :
    out0_11 (iblk m c 0 t) (iblk m c 1 t) (iblk m c 2 t) (iblk m c 3 t) (iblk m c 4 t) (iblk m c 5 t) (iblk m c 6 t) (iblk m c 7 t) (ix4 0 0 e s) = queryEntry m c ⟨t.val / 16, hb⟩ ⟨512 * (t.val % 16) + s.val, hs⟩ e := by
  refine (out11_apply (iblk m c 0 t) (iblk m c 1 t) (iblk m c 2 t) (iblk m c 3 t) (iblk m c 4 t) (iblk m c 5 t) (iblk m c 6 t) (iblk m c 7 t) (ix4 0 0 e s)).trans ?_
  show heads (fun n => ∑ k, row (blockToken (iblk m c 0 t) (iblk m c 1 t) (iblk m c 6 t) (iblk m c 7 t) s) k * iblk m c 3 t (ix2 ⟨0 + n.val, by omega⟩ k))
    (fun i => iblk m c 4 t (ix2 i s)) (blockToken (iblk m c 0 t) (iblk m c 1 t) (iblk m c 6 t) (iblk m c 7 t) s).angle e = _
  have hz (n : Fin 1024) : ∑ k, row (argToken m c ⟨t.val / 16, hb⟩ ⟨512 * (t.val % 16) + s.val, hs⟩) k * iblk m c 3 t (ix2 ⟨0 + n.val, by omega⟩ k)
      = column (argToken m c ⟨t.val / 16, hb⟩ ⟨512 * (t.val % 16) + s.val, hs⟩) (argWeight m c) ⟨2048 + n.val, by omega⟩ :=
    Finset.sum_congr rfl fun k _ => congrArg _ ((wt_row m c t _ k).trans (congrArg _ (Fin.ext (by show 2048 + (0 + n.val) = 2048 + n.val; omega))))
  rw [token_eq m c t s hb hs]
  simp only [hz, gq_eq]
  unfold queryEntry
  rw [Value.qScale_real]
  exact heads_scale _ _ _ _ (mul_nonneg (by norm_num) (one_div_nonneg.mpr (Real.log_nonneg one_le_two))) _

/-- The turned keys of the grid point's tokens. -/
theorem block_key (s : Fin 512) (e : Fin 1024) (hb : t.val / 16 < 8) (hs : 512 * (t.val % 16) + s.val < 8192) :
    out0_12 (iblk m c 0 t) (iblk m c 1 t) (iblk m c 2 t) (iblk m c 3 t) (iblk m c 4 t) (iblk m c 5 t) (iblk m c 6 t) (iblk m c 7 t) (ix3 0 s e) = keyEntry m c ⟨t.val / 16, hb⟩ ⟨512 * (t.val % 16) + s.val, hs⟩ e := by
  refine (out12_apply (iblk m c 0 t) (iblk m c 1 t) (iblk m c 2 t) (iblk m c 3 t) (iblk m c 4 t) (iblk m c 5 t) (iblk m c 6 t) (iblk m c 7 t) (ix3 0 s e)).trans ?_
  show heads (fun n => ∑ k, row (blockToken (iblk m c 0 t) (iblk m c 1 t) (iblk m c 6 t) (iblk m c 7 t) s) k * iblk m c 3 t (ix2 ⟨1024 + n.val, by omega⟩ k))
    (fun i => iblk m c 5 t (ix2 i s)) (blockToken (iblk m c 0 t) (iblk m c 1 t) (iblk m c 6 t) (iblk m c 7 t) s).angle e = _
  have hz (n : Fin 1024) : ∑ k, row (argToken m c ⟨t.val / 16, hb⟩ ⟨512 * (t.val % 16) + s.val, hs⟩) k * iblk m c 3 t (ix2 ⟨1024 + n.val, by omega⟩ k)
      = column (argToken m c ⟨t.val / 16, hb⟩ ⟨512 * (t.val % 16) + s.val, hs⟩) (argWeight m c) ⟨3072 + n.val, by omega⟩ :=
    Finset.sum_congr rfl fun k _ => congrArg _ ((wt_row m c t _ k).trans (congrArg _ (Fin.ext (by show 2048 + (1024 + n.val) = 3072 + n.val; omega))))
  rw [token_eq m c t s hb hs]
  simp only [hz, gk_eq]
  rfl

/-- The values of the grid point's tokens. -/
theorem block_value (e : Fin 1024) (s : Fin 512) (hb : t.val / 16 < 8) (hs : 512 * (t.val % 16) + s.val < 8192) :
    out0_13 (iblk m c 0 t) (iblk m c 1 t) (iblk m c 2 t) (iblk m c 3 t) (iblk m c 4 t) (iblk m c 5 t) (iblk m c 6 t) (iblk m c 7 t) (ix4 0 0 e s) = column (argToken m c ⟨t.val / 16, hb⟩ ⟨512 * (t.val % 16) + s.val, hs⟩) (argWeight m c) ⟨4096 + e.val, by omega⟩ := by
  rw [out13_apply, token_eq m c t s hb hs]
  exact Finset.sum_congr rfl fun k _ => congrArg _ ((wt_row m c t _ k).trans (congrArg _ (Fin.ext (by show 2048 + (2048 + e.val) = 4096 + e.val; omega))))

end Blocks

/-! ## The final arrays: every grid point has left its tokens' results in them -/

/-- The recurrent branch's columns after the run. -/
theorem final_recur (c : Dev nD) : (dats m 0 c).arrAt 8 cfg0.N = outRecur m c := by
  refine (dats m 0 c).arrAt_eq_of_covers 8 _ (by decide +kernel) fun t hf y => ?_
  have ht : t.val < 128 := t.isLt
  blk_simp
  rw [after0_8]
  obtain ⟨y0, y1, y2, rfl⟩ : ∃ (a : Fin 1) (s : Fin 512) (e : Fin 1024), y = ix3 a s e :=
    ⟨y 0, y 1, y 2, by funext a; fin_cases a <;> rfl⟩
  obtain rfl : y0 = 0 := Subsingleton.elim _ _
  rw [block_recur m c t y1 y2 (by omega) (by have := y1.isLt; omega)]
  unfold outRecur
  congr 1
  · congr 1
    all_goals (apply Fin.ext; blk_simp [index8 t])
    · exact (Nat.add_zero (t.val / 16)).symm
    · show 512 * (t.val % 16) + y1.val = t.val % 16 * 512 + y1.val
      omega
  · apply Fin.ext; blk_simp [index8 t]

/-- The recurrent branch's gate columns after the run. -/
theorem final_gate (c : Dev nD) : (dats m 0 c).arrAt 9 cfg0.N = outGate m c := by
  refine (dats m 0 c).arrAt_eq_of_covers 9 _ (by decide +kernel) fun t hf y => ?_
  have ht : t.val < 128 := t.isLt
  blk_simp
  rw [after0_9]
  obtain ⟨y0, y1, y2, rfl⟩ : ∃ (a : Fin 1) (s : Fin 512) (e : Fin 1024), y = ix3 a s e :=
    ⟨y 0, y 1, y 2, by funext a; fin_cases a <;> rfl⟩
  obtain rfl : y0 = 0 := Subsingleton.elim _ _
  rw [block_gate m c t y1 y2 (by omega) (by have := y1.isLt; omega)]
  unfold outGate
  congr 1
  · congr 1
    all_goals (apply Fin.ext; blk_simp [index9 t])
    · exact (Nat.add_zero (t.val / 16)).symm
    · show 512 * (t.val % 16) + y1.val = t.val % 16 * 512 + y1.val
      omega
  · apply Fin.ext; blk_simp [index9 t]

/-- The merge gates' columns after the run. -/
theorem final_merge (c : Dev nD) : (dats m 0 c).arrAt 10 cfg0.N = outMerge m c := by
  refine (dats m 0 c).arrAt_eq_of_covers 10 _ (by decide +kernel) fun t hf y => ?_
  have ht : t.val < 128 := t.isLt
  blk_simp
  rw [after0_10]
  obtain ⟨y0, y1, y2, rfl⟩ : ∃ (a : Fin 1) (s : Fin 512) (e : Fin 2048), y = ix3 a s e :=
    ⟨y 0, y 1, y 2, by funext a; fin_cases a <;> rfl⟩
  obtain rfl : y0 = 0 := Subsingleton.elim _ _
  rw [block_merge m c t y1 y2 (by omega) (by have := y1.isLt; omega)]
  unfold outMerge
  congr 1
  · congr 1
    all_goals (apply Fin.ext; blk_simp [index10 t])
    · exact (Nat.add_zero (t.val / 16)).symm
    · show 512 * (t.val % 16) + y1.val = t.val % 16 * 512 + y1.val
      omega
  · apply Fin.ext; blk_simp [index10 t]

/-- The keys after the run. -/
theorem final_key (c : Dev nD) : (dats m 0 c).arrAt 12 cfg0.N = outKey m c := by
  refine (dats m 0 c).arrAt_eq_of_covers 12 _ (by decide +kernel) fun t hf y => ?_
  have ht : t.val < 128 := t.isLt
  blk_simp
  rw [after0_12]
  obtain ⟨y0, y1, y2, rfl⟩ : ∃ (a : Fin 1) (s : Fin 512) (e : Fin 1024), y = ix3 a s e :=
    ⟨y 0, y 1, y 2, by funext a; fin_cases a <;> rfl⟩
  obtain rfl : y0 = 0 := Subsingleton.elim _ _
  rw [block_key m c t y1 y2 (by omega) (by have := y1.isLt; omega)]
  unfold outKey
  congr 1
  all_goals (apply Fin.ext; blk_simp [index12 t])
  · exact (Nat.add_zero (t.val / 16)).symm
  · show 512 * (t.val % 16) + y1.val = t.val % 16 * 512 + y1.val
    omega

/-- The queries after the run. -/
theorem final_query (c : Dev nD) : (dats m 0 c).arrAt 11 cfg0.N = outQuery m c := by
  refine (dats m 0 c).arrAt_eq_of_covers 11 _ (by decide +kernel) fun t hf y => ?_
  have ht : t.val < 128 := t.isLt
  blk_simp
  rw [after0_11]
  obtain ⟨y0, y1, y2, y3, rfl⟩ : ∃ (a a' : Fin 1) (e : Fin 1024) (s : Fin 512), y = ix4 a a' e s :=
    ⟨y 0, y 1, y 2, y 3, by funext a; fin_cases a <;> rfl⟩
  obtain rfl : y0 = 0 := Subsingleton.elim _ _
  obtain rfl : y1 = 0 := Subsingleton.elim _ _
  rw [block_query m c t y2 y3 (by omega) (by have := y3.isLt; omega)]
  unfold outQuery inBlock
  congr 1
  all_goals (apply Fin.ext; blk_simp [index11 t])
  · exact (Nat.add_zero (t.val / 16)).symm
  · show 512 * (t.val % 16) + y3.val = (t.val % 16 + 0) * 512 + y3.val
    omega

/-- The values after the run. -/
theorem final_value (c : Dev nD) : (dats m 0 c).arrAt 13 cfg0.N = outValue m c := by
  refine (dats m 0 c).arrAt_eq_of_covers 13 _ (by decide +kernel) fun t hf y => ?_
  have ht : t.val < 128 := t.isLt
  blk_simp
  rw [after0_13]
  obtain ⟨y0, y1, y2, y3, rfl⟩ : ∃ (a a' : Fin 1) (e : Fin 1024) (s : Fin 512), y = ix4 a a' e s :=
    ⟨y 0, y 1, y 2, y 3, by funext a; fin_cases a <;> rfl⟩
  obtain rfl : y0 = 0 := Subsingleton.elim _ _
  obtain rfl : y1 = 0 := Subsingleton.elim _ _
  rw [block_value m c t y2 y3 (by omega) (by have := y3.isLt; omega)]
  unfold outValue inBlock
  congr 1
  · congr 1
    all_goals (apply Fin.ext; blk_simp [index13 t])
    · exact (Nat.add_zero (t.val / 16)).symm
    · show 512 * (t.val % 16) + y3.val = (t.val % 16 + 0) * 512 + y3.val
      omega
  · apply Fin.ext; blk_simp [index13 t]

/-- The kernel's run: each result array at the tokens' results, the arguments as they were. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v32_0) = outRecur m c
      ∧ r.2.mem ((c.tc : Thread nD τ).loc main_v32_1) = outGate m c
      ∧ r.2.mem ((c.tc : Thread nD τ).loc main_v32_2) = outMerge m c
      ∧ r.2.mem ((c.tc : Thread nD τ).loc main_v32_3) = outQuery m c
      ∧ r.2.mem ((c.tc : Thread nD τ).loc main_v32_4) = outKey m c
      ∧ r.2.mem ((c.tc : Thread nD τ).loc main_v32_5) = outValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨h0, h1, h2, h3, h4, h5, h'⟩ := h c
    exact ⟨h0.trans (final_recur m c), h1.trans (final_gate m c), h2.trans (final_merge m c), h3.trans (final_query m c), h4.trans (final_key m c), h5.trans (final_value m c), h'⟩)
    (Cert.Kernel3Ideal.Value.run_blocks m ρ)

end Cert.Proof.InProj
end
-- ==== Proof.Modul.Spec.lean ====
module

public import proofs.«01_k».proof.Proof.Value.Rows

@[expose] public section

noncomputable section

namespace Cert.Proof.Modul
open Idealize.ShloMosaic

/-! # The modulation and the second map's weight, as formulas -/

/-- The activation of the conditioning: a number times its logistic. -/
def silu (x : EReal) : EReal := x * Ideal.logistic x

/-- One entry of the modulation: the activated conditioning times a column of the weight, plus the bias. -/
def entry (c w : Fin 1024 → EReal) (b : EReal) : EReal := ∑ k, silu (c k) * w k + b

/-- The weight of the second attention map: the difference of two exponentials, plus the initial value. -/
def weight (q1 k1 q2 k2 : Fin 64 → EReal) : EReal :=
  Ideal.exp (∑ d, q1 d * k1 d) - Ideal.exp (∑ d, q2 d * k2 d) + Ideal.ofBits .f32 0x3E4CCCCD#32

/-- The activation of a real number is a real number. -/
theorem silu_real (r : ℝ) : silu r = ((r * (1 + Real.exp (-r))⁻¹ : ℝ) : EReal) := by
  rw [silu, Ideal.logistic_coe, EReal.coe_mul]

/-- The activation of a real number, less itself, is zero. -/
theorem silu_sub (x : EReal) (hx : x = ↑x.toReal) : silu x - silu x = 0 := by
  rw [hx, silu_real, ← EReal.coe_sub, sub_self, EReal.coe_zero]

/-- A real number less itself is zero. -/
theorem real_sub (x : EReal) (hx : x = ↑x.toReal) : x - x = 0 := by
  rw [hx, ← EReal.coe_sub, sub_self, EReal.coe_zero]

/-- The sum of a product's three parts, the two remainders being zero, is the product. -/
theorem parts (c w : Fin 1024 → EReal) (hc : ∀ k, c k = ↑(c k).toReal) (hw : ∀ k, w k = ↑(w k).toReal) (b : EReal) :
    ∑ k, silu (c k) * w k + ∑ k, (silu (c k) - silu (c k)) * w k + ∑ k, silu (c k) * (w k - w k) + b = entry c w b := by
  simp only [fun k => silu_sub _ (hc k), fun k => real_sub _ (hw k), zero_mul, mul_zero, Finset.sum_const_zero, add_zero, entry]

end Cert.Proof.Modul
end
-- ==== Proof.Modul.Body.lean ====
module

public import proofs.«01_k».proof.Proof.Gen.Kernel4Ideal.Value
public import proofs.«01_k».proof.Proof.Modul.Spec
public import Idealize.ShloMosaic.Lib.Pipeline.ValueKit.Geometry

@[expose] public section

set_option maxRecDepth 16384

noncomputable section

namespace Cert.Proof.Modul
open Cert.Kernel4Ideal Cert.Kernel4Ideal.Gen

open Idealize.ShloMosaic Idealize.ShloMosaic.TcCoe Idealize.SL.Sem

/-! # The kernel's body at a grid point, read at an index -/

/-- The row of the second map's weight. -/
theorem pay1_apply (l : Vec Ideal S4x64 .f32) (n : Fin 512) :
    k0_pay1 l (ix2 0 n) = weight (fun d => l (ix2 0 d)) (fun d => l (ix2 1 d)) (fun d => l (ix2 2 d)) (fun d => l (ix2 3 d)) := by
  pointwise [k0_pay1]
  rfl

/-- The block of the modulation: the product in three parts, and the bias. -/
theorem pay2_apply (x : Vec Ideal S8x1024 .f32) (w : Vec Ideal S1024x1536 .f32) (b : Vec Ideal S1x1536 .f32) (i : Fin 8) (n : Fin 1536) :
    k0_pay2 x w b (ix2 i n) = ∑ k : Fin 1024, silu (x (ix2 i k)) * w (ix2 k n) + ∑ k : Fin 1024, (silu (x (ix2 i k)) - silu (x (ix2 i k))) * w (ix2 k n)
      + ∑ k : Fin 1024, silu (x (ix2 i k)) * (w (ix2 k n) - w (ix2 k n)) + b (ix2 0 n) := by
  pointwise [k0_pay2]
  rfl

variable (x0 : Vec Ideal S8x1024 .f32) (x1 : Vec Ideal S1024x1536 .f32) (x2 : Vec Ideal S1x1536 .f32) (x3 : Vec Ideal S4x64 .f32)

/-- What a grid point leaves in the modulation's window, where its conditioning and weight are real. -/
theorem out4_apply (hx : ∀ i, x0 i = ↑(x0 i).toReal) (hw : ∀ i, x1 i = ↑(x1 i).toReal) (i : Fin 8) (n : Fin 1536) :
    out0_4 x0 x1 x2 x3 (ix2 i n) = entry (fun k => x0 (ix2 i k)) (fun k => x1 (ix2 k n)) (x2 (ix2 0 n)) := by
  unfold out0_4
  rw [View.canon_unit_zero (by decide), pay2_apply, View.ld_unit_zero (by decide), View.ld_unit_zero (by decide), View.ld_unit_zero (by decide)]
  exact parts (fun k => x0 (ix2 i k)) (fun k => x1 (ix2 k n)) (fun k => hx _) (fun k => hw _) _

/-- What a grid point leaves in the window of the second map's weight. -/
theorem out5_apply (n : Fin 512) :
    out0_5 x0 x1 x2 x3 (ix2 0 n) = weight (fun d => x3 (ix2 0 d)) (fun d => x3 (ix2 1 d)) (fun d => x3 (ix2 2 d)) (fun d => x3 (ix2 3 d)) := by
  unfold out0_5
  rw [View.canon_unit_zero (by decide), pay1_apply, View.ld_unit_zero (by decide)]

end Cert.Proof.Modul
end
-- ==== Proof.Modul.Reference.lean ====
module

public import proofs.«01_k».proof.Proof.Gen.Reference4Ideal.Run
public import proofs.«01_k».proof.Proof.Modul.Spec
public import proofs.«01_k».proof.Proof.Value.Array
public import Idealize.ShloMosaic.Lib.Tactic.CleanTypes

@[expose] public section

set_option maxRecDepth 16384

noncomputable section

namespace Cert.Proof.Modul.Ref
open Cert.Reference4Ideal Cert.Reference4Ideal.Gen

open Idealize.ShloMosaic Idealize.ShloMosaic.TcCoe Idealize.SL.Sem

/-! # The reference of the modulation, read at an index -/

/-- The reference's modulation. -/
def mods (x : FVec Ideal S8x1024 .f32) (w : FVec Ideal S1x1024x6144 .f32) (b : FVec Ideal S1x6144 .f32) : FVec Ideal S8x6144 .f32 :=
  addf (Host.dotGeneral dot_S8x1024_S1024x6144_S8x6144_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) (shapeCast _ w shapeCasts_S1x1024x6144_S1024x6144))
    (broadcastInDim S8x6144 ![0, 1] bcast_S1x6144_S8x6144_0_1 (broadcastInDim S1x6144 ![1] bcast_S6144_S1x6144_1 (shapeCast _ b shapeCasts_S1x6144_S6144)))

/-- The reference's weight of the second map, along a row. -/
def lams (q1 k1 q2 k2 : FVec Ideal S1x64 .f32) : FVec Ideal S1x512 .f32 :=
  broadcastInDim S1x512 ![] bcast_S_S1x512 (addf (subf (Host.exp (Host.reduceAdd (mulf (shapeCast _ q1 shapeCasts_S1x64_S64) (shapeCast _ k1 shapeCasts_S1x64_S64)) (constant S_ .f32 0x00000000#32) reducesTo_S64_S_d0 h_S_))
    (Host.exp (Host.reduceAdd (mulf (shapeCast _ q2 shapeCasts_S1x64_S64) (shapeCast _ k2 shapeCasts_S1x64_S64)) (constant S_ .f32 0x00000000#32) reducesTo_S64_S_d0 h_S_))) (constant S_ .f32 0x3E4CCCCD#32))

/-- The reference's modulation at an index. -/
theorem mods_apply (x : FVec Ideal S8x1024 .f32) (w : FVec Ideal S1x1024x6144 .f32) (b : FVec Ideal S1x6144 .f32) (i : Fin 8) (n : Fin 6144) :
    mods x w b (ix2 i n) = entry (fun k => x (ix2 i k)) (fun k => w (ix3 0 k n)) (b (ix2 0 n)) := by
  pointwise [mods]
  rfl

/-- The reference's weight of the second map at an index. -/
theorem lams_apply (q1 k1 q2 k2 : FVec Ideal S1x64 .f32) (n : Fin 512) :
    lams q1 k1 q2 k2 (ix2 0 n) = weight (fun d => q1 (ix2 0 d)) (fun d => k1 (ix2 0 d)) (fun d => q2 (ix2 0 d)) (fun d => k2 (ix2 0 d)) := by
  pointwise [lams]
  rfl

end Cert.Proof.Modul.Ref
end
-- ==== Proof.Modul.Kernel.lean ====
module

public import proofs.«01_k».proof.Proof.Modul.Body
public import proofs.«01_k».proof.Proof.Modul.Reference
public import proofs.«01_k».proof.Proof.Value.Pre

@[expose] public section

set_option maxRecDepth 16384

noncomputable section

namespace Cert.Proof.Modul
open Cert.Kernel4Ideal Cert.Kernel4Ideal.Gen

open Idealize.ShloMosaic Idealize.ShloMosaic.TcCoe Idealize.SL.Sem

/-! # The run of the modulation

Grid point `t` computes columns `1536 t … 1536 t + 1535` of the modulation, and the second map's weight again. -/

variable (m : ∀ ℓ : Loc nD τ sig, Buf (Elt Ideal) ℓ)

/-- The conditioning of batch `i`. -/
def argC (c : Dev nD) (i : Fin 8) (k : Fin 1024) : EReal := (m (c, main_arg0) : (⟨S8x1024, .f32⟩ : BufTy).Contents (Elt Ideal)) (ix2 i k)

/-- The modulation's weight. -/
def argW (c : Dev nD) (k : Fin 1024) (n : Fin 6144) : EReal := (m (c, main_arg1) : (⟨S1x1024x6144, .f32⟩ : BufTy).Contents (Elt Ideal)) (ix3 0 k n)

/-- The modulation's bias. -/
def argB (c : Dev nD) (n : Fin 6144) : EReal := (m (c, main_arg2) : (⟨S1x6144, .f32⟩ : BufTy).Contents (Elt Ideal)) (ix2 0 n)

/-- The first map's query vector. -/
def argQ1 (c : Dev nD) (d : Fin 64) : EReal := (m (c, main_arg3) : (⟨S1x64, .f32⟩ : BufTy).Contents (Elt Ideal)) (ix2 0 d)

/-- The first map's key vector. -/
def argK1 (c : Dev nD) (d : Fin 64) : EReal := (m (c, main_arg4) : (⟨S1x64, .f32⟩ : BufTy).Contents (Elt Ideal)) (ix2 0 d)

/-- The second map's query vector. -/
def argQ2 (c : Dev nD) (d : Fin 64) : EReal := (m (c, main_arg5) : (⟨S1x64, .f32⟩ : BufTy).Contents (Elt Ideal)) (ix2 0 d)

/-- The second map's key vector. -/
def argK2 (c : Dev nD) (d : Fin 64) : EReal := (m (c, main_arg6) : (⟨S1x64, .f32⟩ : BufTy).Contents (Elt Ideal)) (ix2 0 d)

/-- The modulation. -/
def outMod (c : Dev nD) : Vec Ideal S8x6144 .f32 := fun j => entry (argC m c (j 0)) (fun k => argW m c k (j 1)) (argB m c (j 1))

/-- The second map's weight, along a row. -/
def outLam (c : Dev nD) : Vec Ideal S1x512 .f32 := fun _ => weight (argQ1 m c) (argK1 m c) (argQ2 m c) (argK2 m c)

/-! ## The host's layouts -/

/-- The conditioning, as launched. -/
theorem entry_c (c : Dev nD) (i : Fin 8) (k : Fin 1024) :
    (V m c main_arg0 : (⟨S8x1024, .f32⟩ : BufTy).Contents (Elt Ideal)) (ix2 i k) = argC m c i k := by
  rw [V_main_arg0]; rfl

/-- The weight, without its first axis. -/
theorem entry_w (c : Dev nD) (k : Fin 1024) (n : Fin 6144) :
    (V m c main_v9 : (⟨S1024x6144, .f32⟩ : BufTy).Contents (Elt Ideal)) (ix2 k n) = argW m c k n := by
  entry_read
  pointwise
  rfl

/-- The bias. -/
theorem entry_b (c : Dev nD) (n : Fin 6144) :
    (V m c main_v11 : (⟨S1x6144, .f32⟩ : BufTy).Contents (Elt Ideal)) (ix2 0 n) = argB m c n := by
  entry_read
  pointwise
  rfl

/-- The four vectors stacked, as the host computes them. -/
theorem stack_eq (c : Dev nD) : (V m c main_v8 : (⟨S4x64, .f32⟩ : BufTy).Contents (Elt Ideal))
    = concatenate S4x64 0 [⟨S1x64, broadcastInDim S1x64 ![1] Facts₀.bcast_S64_S1x64_1 (shapeCast S64 (m (c, main_arg3) : (⟨S1x64, .f32⟩ : BufTy).Contents (Elt Ideal)) Facts₀.shapeCasts_S1x64_S64)⟩,
      ⟨S1x64, broadcastInDim S1x64 ![1] Facts₀.bcast_S64_S1x64_1 (shapeCast S64 (m (c, main_arg4) : (⟨S1x64, .f32⟩ : BufTy).Contents (Elt Ideal)) Facts₀.shapeCasts_S1x64_S64)⟩,
      ⟨S1x64, broadcastInDim S1x64 ![1] Facts₀.bcast_S64_S1x64_1 (shapeCast S64 (m (c, main_arg5) : (⟨S1x64, .f32⟩ : BufTy).Contents (Elt Ideal)) Facts₀.shapeCasts_S1x64_S64)⟩,
      ⟨S1x64, broadcastInDim S1x64 ![1] Facts₀.bcast_S64_S1x64_1 (shapeCast S64 (m (c, main_arg6) : (⟨S1x64, .f32⟩ : BufTy).Contents (Elt Ideal)) Facts₀.shapeCasts_S1x64_S64)⟩] Facts₀.concatenates_S1x64_S1x64_S1x64_S1x64_S4x64_d0 := rfl

/-- The first of the four stacked vectors. -/
theorem entry_q1 (c : Dev nD) (d : Fin 64) : (V m c main_v8 : (⟨S4x64, .f32⟩ : BufTy).Contents (Elt Ideal)) (ix2 0 d) = argQ1 m c d := by
  rw [stack_eq]
  pointwise
  rfl

/-- The second of the four stacked vectors. -/
theorem entry_k1 (c : Dev nD) (d : Fin 64) : (V m c main_v8 : (⟨S4x64, .f32⟩ : BufTy).Contents (Elt Ideal)) (ix2 1 d) = argK1 m c d := by
  rw [stack_eq]
  pointwise
  rfl

/-- The third of the four stacked vectors. -/
theorem entry_q2 (c : Dev nD) (d : Fin 64) : (V m c main_v8 : (⟨S4x64, .f32⟩ : BufTy).Contents (Elt Ideal)) (ix2 2 d) = argQ2 m c d := by
  rw [stack_eq]
  pointwise
  rfl

/-- The fourth of the four stacked vectors. -/
theorem entry_k2 (c : Dev nD) (d : Fin 64) : (V m c main_v8 : (⟨S4x64, .f32⟩ : BufTy).Contents (Elt Ideal)) (ix2 3 d) = argK2 m c d := by
  rw [stack_eq]
  pointwise
  rfl

/-! ## The windows -/

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, 0] := (by decide +kernel : ∀ t : Fin grid0.N, _)

section Blocks
variable (c : Dev nD) (t : Fin cfg0.N)

theorem read_c (i : Fin 8) (k : Fin 1024) : iblk m c 0 t (ix2 i k) = V m c main_arg0 (ix2 i k) := by blk_ext [iblk, index0 t]

theorem read_w (k : Fin 1024) (n : Fin 1536) (hn : 1536 * t.val + n.val < 6144) :
    iblk m c 1 t (ix2 k n) = V m c main_v9 (ix2 k ⟨1536 * t.val + n.val, hn⟩) := by
  blk_ext [iblk, index1 t]

theorem read_b (n : Fin 1536) (hn : 1536 * t.val + n.val < 6144) :
    iblk m c 2 t (ix2 0 n) = V m c main_v11 (ix2 0 ⟨1536 * t.val + n.val, hn⟩) := by
  blk_ext [iblk, index2 t]

theorem read_l (i : Fin 4) (d : Fin 64) : iblk m c 3 t (ix2 i d) = V m c main_v8 (ix2 i d) := by blk_ext [iblk, index3 t]

/-- Every index of a matrix is a row and a column. -/
theorem mat_idx {a b : ℕ} (j : (⟨2, ![a, b]⟩ : Shape).Idx) : j = ix2 (j 0) (j 1) := by
  funext x; fin_cases x <;> rfl

variable (hc : ∀ i k, argC m c i k = ↑(argC m c i k).toReal) (hw : ∀ k n, argW m c k n = ↑(argW m c k n).toReal)

include hc hw in
/-- The modulation's columns of a grid point. -/
theorem block_mod (i : Fin 8) (n : Fin 1536) (hn : 1536 * t.val + n.val < 6144) :
    out0_4 (iblk m c 0 t) (iblk m c 1 t) (iblk m c 2 t) (iblk m c 3 t) (ix2 i n)
      = entry (argC m c i) (fun k => argW m c k ⟨1536 * t.val + n.val, hn⟩) (argB m c ⟨1536 * t.val + n.val, hn⟩) := by
  have ht : t.val < 4 := t.isLt
  rw [out4_apply]
  · simp only [fun i k => (read_c m c t i k).trans (entry_c m c i k), fun k => (read_w m c t k n hn).trans (entry_w m c k _), (read_b m c t n hn).trans (entry_b m c _)]
  · intro j
    obtain ⟨a, k, rfl⟩ : ∃ (a : Fin 8) (k : Fin 1024), j = ix2 a k := ⟨j 0, j 1, mat_idx j⟩
    rw [(read_c m c t a k).trans (entry_c m c a k)]
    exact hc a k
  · intro j
    obtain ⟨k, l, rfl⟩ : ∃ (k : Fin 1024) (l : Fin 1536), j = ix2 k l := ⟨j 0, j 1, mat_idx j⟩
    rw [(read_w m c t k l (by omega)).trans (entry_w m c k _)]
    exact hw k _

/-- The second map's weight at a grid point. -/
theorem block_lam (n : Fin 512) :
    out0_5 (iblk m c 0 t) (iblk m c 1 t) (iblk m c 2 t) (iblk m c 3 t) (ix2 0 n) = weight (argQ1 m c) (argK1 m c) (argQ2 m c) (argK2 m c) := by
  rw [out5_apply]
  simp only [fun d => (read_l m c t 0 d).trans (entry_q1 m c d), fun d => (read_l m c t 1 d).trans (entry_k1 m c d),
    fun d => (read_l m c t 2 d).trans (entry_q2 m c d), fun d => (read_l m c t 3 d).trans (entry_k2 m c d)]

end Blocks

/-! ## The final arrays -/

/-- The modulation after the run, where the conditioning and the weight are real. -/
theorem final_mod (c : Dev nD) (hc : ∀ i k, argC m c i k = ↑(argC m c i k).toReal) (hw : ∀ k n, argW m c k n = ↑(argW m c k n).toReal) :
    (dats m 0 c).arrAt 4 cfg0.N = outMod m c := by
  refine (dats m 0 c).arrAt_eq_of_covers 4 _ (by decide +kernel) fun t hf y => ?_
  have ht : t.val < 4 := t.isLt
  blk_simp
  rw [after0_4]
  obtain ⟨y0, y1, rfl⟩ : ∃ (i : Fin 8) (n : Fin 1536), y = ix2 i n := ⟨y 0, y 1, mat_idx y⟩
  have h1 := y1.isLt
  rw [block_mod m c t hc hw y0 y1 (by omega)]
  unfold outMod
  congr 1
  · congr 1
    apply Fin.ext; blk_simp [index4 t]
  · funext k
    congr 1
    apply Fin.ext; blk_simp [index4 t]
    show 1536 * t.val + y1.val = t.val * 1536 + y1.val
    omega
  · congr 1
    apply Fin.ext; blk_simp [index4 t]
    show 1536 * t.val + y1.val = t.val * 1536 + y1.val
    omega

/-- The second map's weight after the run. -/
theorem final_lam (c : Dev nD) : (dats m 0 c).arrAt 5 cfg0.N = outLam m c := by
  refine (dats m 0 c).arrAt_eq_of_covers 5 _ (by decide +kernel) fun t hf y => ?_
  blk_simp
  rw [after0_5]
  obtain ⟨y0, y1, rfl⟩ : ∃ (i : Fin 1) (n : Fin 512), y = ix2 i n := ⟨y 0, y 1, mat_idx y⟩
  obtain rfl : y0 = 0 := Subsingleton.elim _ _
  exact block_lam m c t y1

/-- The kernel's run, where the conditioning and the weight are real: the modulation and the second map's weight, the arguments as they were. -/
theorem run_kernel (ρ : Dev nD → PrngReg) (hc : ∀ c i k, argC m c i k = ↑(argC m c i k).toReal) (hw : ∀ c k n, argW m c k n = ↑(argW m c k n).toReal) :
    θ_run defs (onTc (τ := τ) (main (F := Ideal))) ⟨m, fun _ => 0, ρ⟩ (fun r => ∀ c : Dev nD,
      r.2.mem ((c.tc : Thread nD τ).loc main_v12_0) = outMod m c
      ∧ r.2.mem ((c.tc : Thread nD τ).loc main_v12_1) = outLam m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨h0, h1, h'⟩ := h c
    exact ⟨h0.trans (final_mod m c (hc c) (hw c)), h1.trans (final_lam m c), h'⟩)
    (Cert.Kernel4Ideal.Value.run_blocks m ρ)

/-! ## The precondition

`finite_mod` says of the conditioning and of the modulation's weight that every element's absolute value is below
infinity: that it is a real number. -/

theorem finite_mod_facts : Cert.Pre_finite_mod.Facts where
  bcast_S_S8x1024 := by decide
  reducesTo_S8x1024_S_d0_1 := by decide
  h_S_ := by decide
  bcast_S_S1x1024x6144 := by decide
  reducesTo_S1x1024x6144_S_d0_1_2 := by decide

/-- Where `finite_mod` holds, the conditioning and the modulation's weight are real numbers. -/
theorem finite_mod_real [Cert.Pre_finite_mod.Facts] (x : FVec Ideal S8x1024 .f32) (w : FVec Ideal S1x1024x6144 .f32) (b : FVec Ideal S1x6144 .f32) (q1 k1 q2 k2 : FVec Ideal S1x64 .f32)
    (h : ∀ i, Cert.Pre_finite_mod.fn (F := Ideal) x w b q1 k1 q2 k2 i = 1#1) :
    (∀ i, x i = ((x i).toReal : EReal)) ∧ (∀ i, w i = ((w i).toReal : EReal)) := by
  have h0 := h (Shape.Idx.first Cert.Pre_finite_mod.Facts.h_S_)
  dsimp only [Cert.Pre_finite_mod.fn] at h0
  obtain ⟨hx, hw⟩ := IntOp.andi_eq_one.mp h0
  haveI : Subsingleton Cert.Pre_finite_mod.S_.Idx := ⟨fun a b => funext fun i => i.elim0⟩
  exact ⟨fun i => Value.real_of_abs _ (Host.reduce_andi_all _ _ _ _ _ hx i), fun i => Value.real_of_abs _ (Host.reduce_andi_all _ _ _ _ _ hw i)⟩

end Cert.Proof.Modul
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.KernelIdeal.Body
public import proofs.«01_k».proof.Proof.Value.Kernel
public import proofs.«01_k».proof.Proof.Value.Reference
public import proofs.«01_k».proof.Proof.Value.Pre
public import proofs.«01_k».proof.Proof.Post.Kernel
public import proofs.«01_k».proof.Proof.InProj.Kernel
public import proofs.«01_k».proof.Proof.Modul.Kernel
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's body is the same in the program and in its ideal reading. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  obtain rfl : l = (0 : Fin 1) := Subsingleton.elim (α := Fin 1) _ _
  rfl

/-- So are the pipelines round it. -/
theorem defs_eq : Cert.Kernel.defs (F := Bits) = Cert.KernelIdeal.defs (F := Bits) :=
  congrArg (Pipeline.defs _) bodies_eq

/-- The kernel's frame over the float words: the two programs' texts are one, so the run is one. -/
theorem frame_kernel : Cert.quiescent_Kernel := fun m ρ _ => by
  rw [defs_eq]
  exact Cert.Proof.KernelIdeal.frame (F := Bits) m ρ

/-- The kernel's frame over the extended reals. -/
theorem frame_kernel_ideal : Cert.quiescent_KernelIdeal := fun m ρ _ => Cert.Proof.KernelIdeal.frame (F := Ideal) m ρ

/-- The reference's frame: host operations only, and no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every index of a result array is a batch, a block of positions, a row and a position of the block. -/
theorem idx_eq (j : Cert.KernelIdeal.S8x16x1024x512.Idx) : j = ix4 (j 0) (j 1) (j 2) (j 3) := by
  funext a; fin_cases a <;> rfl

/-- The kernel and the reference end with one result array: the attention of the real arguments. -/
theorem algebraic [hpf : Cert.Pre_finite.Facts] : Cert.algebraic_KernelIdeal_ReferenceIdeal_pre_finite := fun m ρ m' ρ' hpre hargs => by
  have hf (c) := Value.finite_real _ _ _ _ _ fun i => congrFun (hpre c) i
  have hR (c) : Value.Reals m (fun b s h st d => (Value.argQ m c b s h st d).toReal) (fun b s h st d => (Value.argK m c b s h st d).toReal)
      (fun b s h e => (Value.argV m c b s h e).toReal) (Value.argLam m c).toReal c :=
    ⟨fun b s h st d => (hf c).1 (ix5 b s h st d), fun b s h st d => (hf c).2.1 (ix5 b s h st d), fun b s h e => (hf c).2.2.1 (ix4 b s h e), (hf c).2.2.2 (ix2 0 0)⟩
  refine ⟨_, Value.run_kernel m ρ _ _ _ _ hR, (θ_run Cert.ReferenceIdeal.defs _ _).mono (fun r h c => ⟨(h c).1.trans ?_, (h c).2⟩)
    (Cert.ReferenceIdeal.Value.run (F := Ideal) m' ρ')⟩
  refine (Value.Ref.res_eq m' c).trans ?_
  rw [(hargs c).1, (hargs c).2.1, (hargs c).2.2.1, (hargs c).2.2.2.1, (hargs c).2.2.2.2]
  funext j
  rw [idx_eq j]
  exact Value.Ref.normed_real (hR c).q (hR c).k (hR c).v (hR c).lam _ _ _ _ _

/-! ## The rest of the layer -/

/-- The second kernel's body is the same in the program and in its ideal reading. -/
theorem bodies_eq2 : Cert.Kernel2.defs₀ (F := Bits) = Cert.Kernel2Ideal.defs₀ (F := Bits) := by
  unfold Cert.Kernel2.defs₀ Cert.Kernel2Ideal.defs₀
  refine congrArg Defs.onTc (funext fun l => funext fun x => ?_)
  obtain rfl : l = (0 : Fin 1) := Subsingleton.elim (α := Fin 1) _ _
  rfl

/-- So are the pipelines round it. -/
theorem defs_eq2 : Cert.Kernel2.defs (F := Bits) = Cert.Kernel2Ideal.defs (F := Bits) :=
  congrArg (Pipeline.defs _) bodies_eq2

/-- The second kernel's frame over the float words, from the one run of its text. -/
theorem frame_kernel2 : Cert.quiescent_Kernel2 := fun m ρ _ => by
  rw [defs_eq2]
  exact Cert.Kernel2Ideal.Gen.frame (F := Bits) m ρ

/-- The second kernel's frame over the extended reals. -/
theorem frame_kernel_ideal2 : Cert.quiescent_Kernel2Ideal := fun m ρ _ => Cert.Kernel2Ideal.Gen.frame (F := Ideal) m ρ

/-- The second reference's frame: host operations only, and no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Every index of the layer's result is a batch, a token and a channel. -/
theorem idx_eq2 (j : Cert.Kernel2Ideal.S8x8192x1024.Idx) : j = ix3 (j 0) (j 1) (j 2) := by
  funext a; fin_cases a <;> rfl

/-- The second kernel and its reference end with one result array: every token's result, whatever the arguments. -/
theorem algebraic2 : Cert.algebraic_Kernel2Ideal_Reference2Ideal := fun m ρ m' ρ' _ hargs => by
  refine ⟨_, Post.run_kernel m ρ, (θ_run Cert.Reference2Ideal.defs _ _).mono (fun r h c => ⟨(h c).1.trans ?_, (h c).2⟩)
    (Cert.Reference2Ideal.Value.run (F := Ideal) m' ρ')⟩
  refine (Post.Ref.res_eq m' c).trans ?_
  obtain ⟨h0, h1, h2, h3, h4, h5, h6, h7, h8, h9⟩ := hargs c
  rw [h0, h1, h2, h3, h4, h5, h6, h7, h8, h9]
  funext j
  rw [idx_eq2 j]
  exact Post.Ref.whole_apply _ _ _ _ _ _ _ _ _ _ _ _ _

/-! ## The input projection -/

set_option maxHeartbeats 20000000 in
/-- The third kernel's body is the same in the program and in its ideal reading. -/
theorem bodies_eq3 : Cert.Kernel3.defs₀ (F := Bits) = Cert.Kernel3Ideal.defs₀ (F := Bits) := by
  unfold Cert.Kernel3.defs₀ Cert.Kernel3Ideal.defs₀
  refine congrArg Defs.onTc (funext fun l => funext fun x => ?_)
  obtain rfl : l = (0 : Fin 1) := Subsingleton.elim (α := Fin 1) _ _
  rfl

/-- So are the pipelines round it. -/
theorem defs_eq3 : Cert.Kernel3.defs (F := Bits) = Cert.Kernel3Ideal.defs (F := Bits) :=
  congrArg (Pipeline.defs _) bodies_eq3

set_option maxHeartbeats 20000000 in
/-- The third kernel's frame over the float words, from the one run of its text. -/
theorem frame_kernel3 : Cert.quiescent_Kernel3 := fun m ρ _ => by
  rw [defs_eq3]
  exact Cert.Kernel3Ideal.Gen.frame (F := Bits) m ρ

/-- The third kernel's frame over the extended reals. -/
theorem frame_kernel_ideal3 : Cert.quiescent_Kernel3Ideal := fun m ρ _ => Cert.Kernel3Ideal.Gen.frame (F := Ideal) m ρ

/-- The third reference's frame: host operations only, and no semaphore. -/
theorem frame_reference3 : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- Every index of an array laid out by token is a batch, a token and a column. -/
theorem idx_eq3 (j : Cert.Kernel3Ideal.S8x8192x2048.Idx) : j = ix3 (j 0) (j 1) (j 2) := by
  funext a; fin_cases a <;> rfl

/-- The third kernel and its reference end with the same six result arrays, whatever the arguments. -/
theorem algebraic3 : Cert.algebraic_Kernel3Ideal_Reference3Ideal := fun m ρ m' ρ' _ hargs => by
  refine ⟨_, _, _, _, _, _, InProj.run_kernel m ρ, (θ_run Cert.Reference3Ideal.defs _ _).mono (fun r h c => ?_)
    (Cert.Reference3Ideal.Value.run (F := Ideal) m' ρ')⟩
  obtain ⟨h0, h1, h2, h3, h4, h5⟩ := hargs c
  obtain ⟨r0, r1, r2, r3, r4, r5, r'⟩ := h c
  refine ⟨r0.trans ?_, r1.trans ?_, r2.trans ?_, r3.trans ((InProj.Ref.queries_eq m' c).trans ?_), r4.trans ((InProj.Ref.keys_eq m' c).trans ?_), r5.trans ?_, r'⟩
  · show InProj.Ref.recur _ _ _ = _
    rw [h0, h1, h2]
    funext j
    rw [idx_eq2 j]
    exact InProj.Ref.recur_apply _ _ _ _ _ _ _
  · show InProj.Ref.gate _ _ _ = _
    rw [h0, h1, h2]
    funext j
    rw [idx_eq2 j]
    exact InProj.Ref.gate_apply _ _ _ _ _ _ _
  · show InProj.Ref.merge _ _ _ = _
    rw [h0, h1, h2]
    funext j
    rw [idx_eq3 j]
    exact InProj.Ref.merge_apply _ _ _ _ _ _ _
  · rw [h0, h1, h2, h3, h5]
    funext j
    rw [idx_eq j]
    exact InProj.Ref.queries_apply _ _ _ _ _ _ _ _ _
  · rw [h0, h1, h2, h4, h5]
    funext j
    rw [idx_eq2 j]
    exact InProj.Ref.keys_apply _ _ _ _ _ _ _ _
  · show InProj.Ref.values _ _ _ = _
    rw [h0, h1, h2]
    funext j
    rw [idx_eq j]
    exact InProj.Ref.values_apply _ _ _ _ _ _ _ _

/-! ## The modulation -/

/-- The fourth kernel's body is the same in the program and in its ideal reading. -/
theorem bodies_eq4 : Cert.Kernel4.defs₀ (F := Bits) = Cert.Kernel4Ideal.defs₀ (F := Bits) := by
  unfold Cert.Kernel4.defs₀ Cert.Kernel4Ideal.defs₀
  refine congrArg Defs.onTc (funext fun l => funext fun x => ?_)
  obtain rfl : l = (0 : Fin 1) := Subsingleton.elim (α := Fin 1) _ _
  rfl

/-- So are the pipelines round it. -/
theorem defs_eq4 : Cert.Kernel4.defs (F := Bits) = Cert.Kernel4Ideal.defs (F := Bits) :=
  congrArg (Pipeline.defs _) bodies_eq4

/-- The fourth kernel's frame over the float words, from the one run of its text. -/
theorem frame_kernel4 : Cert.quiescent_Kernel4 := fun m ρ _ => by
  rw [defs_eq4]
  exact Cert.Kernel4Ideal.Gen.frame (F := Bits) m ρ

/-- The fourth kernel's frame over the extended reals. -/
theorem frame_kernel_ideal4 : Cert.quiescent_Kernel4Ideal := fun m ρ _ => Cert.Kernel4Ideal.Gen.frame (F := Ideal) m ρ

/-- The fourth reference's frame: host operations only, and no semaphore. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The fourth kernel and its reference end with the same two result arrays, where the conditioning and the weight are finite. -/
theorem algebraic4 [hpf : Cert.Pre_finite_mod.Facts] : Cert.algebraic_Kernel4Ideal_Reference4Ideal_pre_finite_mod := fun m ρ m' ρ' hpre hargs => by
  have hf (c) := Modul.finite_mod_real _ _ _ _ _ _ _ fun i => congrFun (hpre c) i
  refine ⟨_, _, Modul.run_kernel m ρ (fun c i k => (hf c).1 (ix2 i k)) (fun c k n => (hf c).2 (ix3 0 k n)),
    (θ_run Cert.Reference4Ideal.defs _ _).mono (fun r h c => ?_) (Cert.Reference4Ideal.Value.run (F := Ideal) m' ρ')⟩
  obtain ⟨h0, h1, h2, h3, h4, h5, h6⟩ := hargs c
  obtain ⟨r0, r1, r'⟩ := h c
  refine ⟨r0.trans ?_, r1.trans ?_, r'⟩
  · show Modul.Ref.mods _ _ _ = _
    rw [h0, h1, h2]
    funext j
    rw [Modul.mat_idx j]
    exact Modul.Ref.mods_apply _ _ _ _ _
  · show Modul.Ref.lams _ _ _ _ = _
    rw [h3, h4, h5, h6]
    funext j
    obtain ⟨j0, j1, rfl⟩ : ∃ (i : Fin 1) (n : Fin 512), j = ix2 i n := ⟨j 0, j 1, Modul.mat_idx j⟩
    obtain rfl : j0 = 0 := Subsingleton.elim _ _
    exact Modul.Ref.lams_apply _ _ _ _ _

/-! ## The certificate -/

/-- Everything claimed, of the four calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Value.finite_facts, Modul.finite_mod_facts,
  frame_kernel, frame_kernel_ideal, fun m ρ _ => frame_kernel_ideal m ρ trivial, frame_reference, fun m ρ _ => frame_reference m ρ trivial,
  frame_kernel2, frame_kernel_ideal2, frame_reference2, frame_kernel3, frame_kernel_ideal3, frame_reference3,
  frame_kernel4, frame_kernel_ideal4, fun m ρ _ => frame_kernel_ideal4 m ρ trivial, frame_reference4, fun m ρ _ => frame_reference4 m ρ trivial,
  trivial, algebraic (hpf := Value.finite_facts), trivial, algebraic2, trivial, algebraic3,
  trivial, algebraic4 (hpf := Modul.finite_mod_facts)⟩

end Cert.Proof

end
